-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partial_small_KernelIdeal [hPre_partial_small_KernelIdeal : Cert.Pre_partial_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partial_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partial_small_ReferenceIdeal [hPre_partial_small_ReferenceIdeal : Cert.Pre_partial_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partial_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_partial_small_KernelIdeal [hKernelIdeal : Cert.KernelIdeal.Facts] [hPre_partial_small_KernelIdeal : Cert.Pre_partial_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partial_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_partial_small_ReferenceIdeal [hReferenceIdeal : Cert.ReferenceIdeal.Facts] [hPre_partial_small_ReferenceIdeal : Cert.Pre_partial_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partial_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_partial_small_KernelIdeal [hKernelIdeal : Cert.KernelIdeal.Facts] [hReferenceIdeal : Cert.ReferenceIdeal.Facts] [hPre_partial_small_KernelIdeal : Cert.Pre_partial_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partial_small_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_partial_small_KernelIdeal : Cert.Pre_partial_small_KernelIdeal.Facts) (hPre_partial_small_ReferenceIdeal : Cert.Pre_partial_small_ReferenceIdeal.Facts),
    quiescent_Kernel (hKernel := hKernel)
    ∧ quiescent_KernelIdeal (hKernelIdeal := hKernelIdeal)
    ∧ quiescent_KernelIdeal_pre_partial_small_KernelIdeal (hKernelIdeal := hKernelIdeal) (hPre_partial_small_KernelIdeal := hPre_partial_small_KernelIdeal)
    ∧ quiescent_ReferenceIdeal (hReferenceIdeal := hReferenceIdeal)
    ∧ quiescent_ReferenceIdeal_pre_partial_small_ReferenceIdeal (hReferenceIdeal := hReferenceIdeal) (hPre_partial_small_ReferenceIdeal := hPre_partial_small_ReferenceIdeal)
    ∧ preserves_Kernel_KernelIdeal
    ∧ algebraic_KernelIdeal_ReferenceIdeal_pre_partial_small_KernelIdeal (hKernelIdeal := hKernelIdeal) (hReferenceIdeal := hReferenceIdeal) (hPre_partial_small_KernelIdeal := hPre_partial_small_KernelIdeal)
-- ==== Pre_partial_small_KernelIdeal.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S1x1 : Shape := ⟨2, ![1, 1]⟩
abbrev S_ : Shape := ⟨0, ![]⟩

class Facts : Prop where
  bitsLt_bf16_f32 : FTy.bits .bf16 < FTy.bits .f32
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x1024_S1024x2048_S4096x2048_1_0_0_1_n_n_wf : DotDims.WF S4096x1024 S1024x2048 S4096x2048 [1] [0] [0] [1] [] []

variable [Facts]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def fn {F : FTy → Type} [FloatOps F] (main_arg0 : FVec F S4096x1024 .bf16) (main_arg1 : FVec F S1024x2048 .bf16) (main_arg2 : FVec F S1 .f32) (main_arg3 : FVec F S1 .f32) : IVec S_ 1 :=
  let main_v0 : FVec F S4096x1024 .f32 := (extf .f32 · bitsLt_bf16_f32) main_arg0
  let main_v1 : FVec F S1024x2048 .f32 := (extf .f32 · bitsLt_bf16_f32) main_arg1
  let main_v2 : FVec F S4096x2048 .f32 := (fun l r => Host.dotGeneral dot_S4096x1024_S1024x2048_S4096x2048_1_0_0_1_n_n none l r) main_v0 main_v1
  let main_v3 : FVec F S1 .f32 := mulf main_arg2 main_arg3
  let main_v4 : FVec F S1x1 .f32 := broadcastInDim S1x1 ![1] bcast_S1_S1x1_1 main_v3
  let main_v5 : FVec F S4096x2048 .f32 := broadcastInDim S4096x2048 ![0, 1] bcast_S1x1_S4096x2048_0_1 main_v4
  let main_v6 : FVec F S4096x2048 .f32 := mulf main_v2 main_v5
  let main_v7 : FVec F S4096x2048 .f32 := Host.absf main_v6
  let main_cst : FVec F S_ .f32 := constant S_ .f32 0x41700000#32
  let main_v8 : FVec F S4096x2048 .f32 := broadcastInDim S4096x2048 ![] bcast_S_S4096x2048 main_cst
  let main_v9 : IVec S4096x2048 1 := cmpf .ole main_v7 main_v8
  let main_c : IVec S_ 1 := constantI S_ 1 1#1
  let main_v10 : IVec S_ 1 := (fun x v => Host.reduce IntOp.andi x v reducesTo_S4096x2048_S_d0_1 h_S_) main_v9 main_c
  main_v10
-- ==== Pre_partial_small_ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bitsLt_bf16_f32 : FTy.bits .bf16 < FTy.bits .f32
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) (main_arg2 : FVec F S1 .f32) (main_arg3 : FVec F S1 .f32) : IVec S_ 1 :=
  let main_v0 : FVec F S4096x4096 .f32 := (extf .f32 · bitsLt_bf16_f32) main_arg0
  let main_v1 : FVec F S4096x2048 .f32 := (extf .f32 · bitsLt_bf16_f32) main_arg1
  let main_v2 : FVec F S4096x2048 .f32 := (fun l r => Host.dotGeneral dot_S4096x4096_S4096x2048_S4096x2048_1_0_0_1_n_n none l r) main_v0 main_v1
  let main_v3 : FVec F S1 .f32 := mulf main_arg2 main_arg3
  let main_v4 : FVec F S1x1 .f32 := broadcastInDim S1x1 ![1] bcast_S1_S1x1_1 main_v3
  let main_v5 : FVec F S4096x2048 .f32 := broadcastInDim S4096x2048 ![0, 1] bcast_S1x1_S4096x2048_0_1 main_v4
  let main_v6 : FVec F S4096x2048 .f32 := mulf main_v2 main_v5
  let main_v7 : FVec F S4096x2048 .f32 := Host.absf main_v6
  let main_cst : FVec F S_ .f32 := constant S_ .f32 0x41700000#32
  let main_v8 : FVec F S4096x2048 .f32 := broadcastInDim S4096x2048 ![] bcast_S_S4096x2048 main_cst
  let main_v9 : IVec S4096x2048 1 := cmpf .ole main_v7 main_v8
  let main_c : IVec S_ 1 := constantI S_ 1 1#1
  let main_v10 : IVec S_ 1 := (fun x v => Host.reduce IntOp.andi x v reducesTo_S4096x2048_S_d0_1 h_S_) main_v9 main_c
  main_v10
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x512x2048 : Shape := ⟨3, ![2, 512, 2048]⟩
abbrev S2 : Shape := ⟨1, ![2]⟩
abbrev S_ : Shape := ⟨0, ![]⟩
abbrev S1024x1024 : Shape := ⟨2, ![1024, 1024]⟩
abbrev S1x512x2048 : Shape := ⟨3, ![1, 512, 2048]⟩
abbrev S512x2048 : Shape := ⟨2, ![512, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x1024, .bf16⟩
  | .local _ .vmem, ⟨1, _⟩ => ⟨S1024x2048, .bf16⟩
  | .local _ .vmem, ⟨2, _⟩ => ⟨S4096x2048, .bf16⟩
  | .local _ .vmem, ⟨3, _⟩ => ⟨S2x512x2048, .bf16⟩
  | .local _ .vmem, ⟨4, _⟩ => ⟨S2x512x2048, .bf16⟩
  | .local _ .vmem, ⟨5, _⟩ => ⟨S2x512x2048, .f32⟩
  | .local _ .vmem, ⟨6, _⟩ => ⟨S2x512x2048, .f32⟩
  | .local _ .smem, ⟨0, _⟩ => ⟨S1, .f32⟩
  | .local _ .smem, ⟨1, _⟩ => ⟨S1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v31 : BitVec 32 := Scalar.muli v2 c1024_i32
  let v32 : Index := Scalar.indexCast v31
  let c0 : Index := 0#32
  ![v32.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_22 : BitVec 32 := 1024#32
  let v39 : BitVec 32 := Scalar.muli v2 c1024_i32_22
  let v40 : Index := Scalar.indexCast v39
  let c0_23 : Index := 0#32
  ![v40.toNat, 0]
def k0_off3 (d0 : Dev nD) (c0_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi v2 c0_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_31 : BitVec 32 := 1024#32
  let v55 : BitVec 32 := Scalar.muli v54 c1024_i32_31
  let c0_i32_47 : BitVec 32 := 0#32
  ![v55.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v69 : BitVec 32 := Scalar.muli v25 c1_i32_43
  let v70 : BitVec 32 := Scalar.addi c0_i32_44 v69
  v70.toNat
def k0_off4 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c0_i32_32
  let c4_i32_33 : BitVec 32 := 4#32
  let c0_i32_34 : BitVec 32 := 0#32
  let v57 : BitVec 1 := Scalar.cmpi .eq c4_i32_33 c0_i32_34
  let c1_i32_35 : BitVec 32 := 1#32
  let v58 : BitVec 32 := Scalar.select v57 c1_i32_35 c4_i32_33
  let v59 : BitVec 32 := Scalar.remsi v56 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1024_i32_39 : BitVec 32 := 1024#32
  let v67 : BitVec 32 := Scalar.muli v66 c1024_i32_39
  let c512_i32 : BitVec 32 := 512#32
  let v68 : BitVec 32 := Scalar.addi v67 c512_i32
  let c0_i32_55 : BitVec 32 := 0#32
  ![v68.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_51 : BitVec 32 := 1#32
  let v78 : BitVec 32 := Scalar.muli v14 c1_i32_51
  let v79 : BitVec 32 := Scalar.addi c0_i32_52 v78
  v79.toNat
def k0_off5 (d0 : Dev nD) (c1_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c1_i32_56
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v87 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c1024_i32_63 : BitVec 32 := 1024#32
  let v98 : BitVec 32 := Scalar.muli v97 c1024_i32_63
  let v99 : Index := Scalar.indexCast v98
  let c0_64 : Index := 0#32
  ![v99.toNat, 0]
def k0_off6 (d0 : Dev nD) (c1_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c1_i32_56
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v87 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c1024_i32_68 : BitVec 32 := 1024#32
  let v106 : BitVec 32 := Scalar.muli v97 c1024_i32_68
  let v107 : Index := Scalar.indexCast v106
  let c0_69 : Index := 0#32
  ![v107.toNat, 0]
def k0_off7 (d0 : Dev nD) (c0_i32_127 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v183 : BitVec 32 := Scalar.subi v2 c0_i32_127
  let c1_i32_128 : BitVec 32 := 1#32
  let v184 : BitVec 32 := Scalar.subi v183 c1_i32_128
  let c4_i32_129 : BitVec 32 := 4#32
  let c0_i32_130 : BitVec 32 := 0#32
  let v185 : BitVec 1 := Scalar.cmpi .eq c4_i32_129 c0_i32_130
  let c1_i32_131 : BitVec 32 := 1#32
  let v186 : BitVec 32 := Scalar.select v185 c1_i32_131 c4_i32_129
  let v187 : BitVec 32 := Scalar.remsi v184 v186
  let c0_i32_133 : BitVec 32 := 0#32
  let v189 : BitVec 1 := Scalar.cmpi .slt v187 c0_i32_133
  let c0_i32_134 : BitVec 32 := 0#32
  let v190 : BitVec 1 := Scalar.cmpi .slt v186 c0_i32_134
  let v191 : BitVec 1 := Scalar.xori v189 v190
  let c0_i32_132 : BitVec 32 := 0#32
  let v188 : BitVec 1 := Scalar.cmpi .ne v187 c0_i32_132
  let v192 : BitVec 1 := Scalar.andi v191 v188
  let v193 : BitVec 32 := Scalar.addi v187 v186
  let v194 : BitVec 32 := Scalar.select v192 v193 v187
  let c1024_i32_143 : BitVec 32 := 1024#32
  let v207 : BitVec 32 := Scalar.muli v194 c1024_i32_143
  let v208 : Index := Scalar.indexCast v207
  let c0_144 : Index := 0#32
  ![v208.toNat, 0]
def k0_off8 (d0 : Dev nD) (c0_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v195 : BitVec 32 := Scalar.addi v2 c0_i32_135
  let c1_i32_136 : BitVec 32 := 1#32
  let v196 : BitVec 32 := Scalar.addi v195 c1_i32_136
  let c4_i32_137 : BitVec 32 := 4#32
  let c0_i32_138 : BitVec 32 := 0#32
  let v197 : BitVec 1 := Scalar.cmpi .eq c4_i32_137 c0_i32_138
  let c1_i32_139 : BitVec 32 := 1#32
  let v198 : BitVec 32 := Scalar.select v197 c1_i32_139 c4_i32_137
  let v199 : BitVec 32 := Scalar.remsi v196 v198
  let c0_i32_141 : BitVec 32 := 0#32
  let v201 : BitVec 1 := Scalar.cmpi .slt v199 c0_i32_141
  let c0_i32_142 : BitVec 32 := 0#32
  let v202 : BitVec 1 := Scalar.cmpi .slt v198 c0_i32_142
  let v203 : BitVec 1 := Scalar.xori v201 v202
  let c0_i32_140 : BitVec 32 := 0#32
  let v200 : BitVec 1 := Scalar.cmpi .ne v199 c0_i32_140
  let v204 : BitVec 1 := Scalar.andi v203 v200
  let v205 : BitVec 32 := Scalar.addi v199 v198
  let v206 : BitVec 32 := Scalar.select v204 v205 v199
  let c1024_i32_150 : BitVec 32 := 1024#32
  let v218 : BitVec 32 := Scalar.muli v206 c1024_i32_150
  let c512_i32_151 : BitVec 32 := 512#32
  let v219 : BitVec 32 := Scalar.addi v218 c512_i32_151
  let v220 : Index := Scalar.indexCast v219
  let c0_152 : Index := 0#32
  ![v220.toNat, 0]
def k0_dev5 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_179 : BitVec 32 := 1#32
  let v256 : BitVec 32 := Scalar.muli v25 c1_i32_179
  let v257 : BitVec 32 := Scalar.addi c0_i32_180 v256
  v257.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_187 : BitVec 32 := 1#32
  let v265 : BitVec 32 := Scalar.muli v14 c1_i32_187
  let v266 : BitVec 32 := Scalar.addi c0_i32_188 v265
  v266.toNat
def k0_dev7 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_273 : BitVec 32 := 1#32
  let v371 : BitVec 32 := Scalar.muli v25 c1_i32_273
  let v372 : BitVec 32 := Scalar.addi c0_i32_274 v371
  v372.toNat
def k0_dev8 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_281 : BitVec 32 := 1#32
  let v380 : BitVec 32 := Scalar.muli v14 c1_i32_281
  let v381 : BitVec 32 := Scalar.addi c0_i32_282 v380
  v381.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_350 : BitVec 32 := 1#32
  let v464 : BitVec 32 := Scalar.addi v2 c1_i32_350
  let c4_i32_351 : BitVec 32 := 4#32
  let c0_i32_352 : BitVec 32 := 0#32
  let v465 : BitVec 1 := Scalar.cmpi .eq c4_i32_351 c0_i32_352
  let c1_i32_353 : BitVec 32 := 1#32
  let v466 : BitVec 32 := Scalar.select v465 c1_i32_353 c4_i32_351
  let v467 : BitVec 32 := Scalar.remsi v464 v466
  let c0_i32_355 : BitVec 32 := 0#32
  let v469 : BitVec 1 := Scalar.cmpi .slt v467 c0_i32_355
  let c0_i32_356 : BitVec 32 := 0#32
  let v470 : BitVec 1 := Scalar.cmpi .slt v466 c0_i32_356
  let v471 : BitVec 1 := Scalar.xori v469 v470
  let c0_i32_354 : BitVec 32 := 0#32
  let v468 : BitVec 1 := Scalar.cmpi .ne v467 c0_i32_354
  let v472 : BitVec 1 := Scalar.andi v471 v468
  let v473 : BitVec 32 := Scalar.addi v467 v466
  let v474 : BitVec 32 := Scalar.select v472 v473 v467
  let c1024_i32_364 : BitVec 32 := 1024#32
  let v486 : BitVec 32 := Scalar.muli v474 c1024_i32_364
  let v489 : Index := Scalar.indexCast v486
  let c0_367 : Index := 0#32
  ![v489.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_350 : BitVec 32 := 1#32
  let v464 : BitVec 32 := Scalar.addi v2 c1_i32_350
  let c4_i32_351 : BitVec 32 := 4#32
  let c0_i32_352 : BitVec 32 := 0#32
  let v465 : BitVec 1 := Scalar.cmpi .eq c4_i32_351 c0_i32_352
  let c1_i32_353 : BitVec 32 := 1#32
  let v466 : BitVec 32 := Scalar.select v465 c1_i32_353 c4_i32_351
  let v467 : BitVec 32 := Scalar.remsi v464 v466
  let c0_i32_355 : BitVec 32 := 0#32
  let v469 : BitVec 1 := Scalar.cmpi .slt v467 c0_i32_355
  let c0_i32_356 : BitVec 32 := 0#32
  let v470 : BitVec 1 := Scalar.cmpi .slt v466 c0_i32_356
  let v471 : BitVec 1 := Scalar.xori v469 v470
  let c0_i32_354 : BitVec 32 := 0#32
  let v468 : BitVec 1 := Scalar.cmpi .ne v467 c0_i32_354
  let v472 : BitVec 1 := Scalar.andi v471 v468
  let v473 : BitVec 32 := Scalar.addi v467 v466
  let v474 : BitVec 32 := Scalar.select v472 v473 v467
  let c1024_i32_364 : BitVec 32 := 1024#32
  let v486 : BitVec 32 := Scalar.muli v474 c1024_i32_364
  let c0_i32_374 : BitVec 32 := 0#32
  ![v486.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_357 : BitVec 32 := 1#32
  let v475 : BitVec 32 := Scalar.subi v2 c1_i32_357
  let c4_i32_358 : BitVec 32 := 4#32
  let c0_i32_359 : BitVec 32 := 0#32
  let v476 : BitVec 1 := Scalar.cmpi .eq c4_i32_358 c0_i32_359
  let c1_i32_360 : BitVec 32 := 1#32
  let v477 : BitVec 32 := Scalar.select v476 c1_i32_360 c4_i32_358
  let v478 : BitVec 32 := Scalar.remsi v475 v477
  let c0_i32_362 : BitVec 32 := 0#32
  let v480 : BitVec 1 := Scalar.cmpi .slt v478 c0_i32_362
  let c0_i32_363 : BitVec 32 := 0#32
  let v481 : BitVec 1 := Scalar.cmpi .slt v477 c0_i32_363
  let v482 : BitVec 1 := Scalar.xori v480 v481
  let c0_i32_361 : BitVec 32 := 0#32
  let v479 : BitVec 1 := Scalar.cmpi .ne v478 c0_i32_361
  let v483 : BitVec 1 := Scalar.andi v482 v479
  let v484 : BitVec 32 := Scalar.addi v478 v477
  let v485 : BitVec 32 := Scalar.select v483 v484 v478
  let c1024_i32_365 : BitVec 32 := 1024#32
  let v487 : BitVec 32 := Scalar.muli v485 c1024_i32_365
  let c512_i32_366 : BitVec 32 := 512#32
  let v488 : BitVec 32 := Scalar.addi v487 c512_i32_366
  let v509 : Index := Scalar.indexCast v488
  let c0_377 : Index := 0#32
  ![v509.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_357 : BitVec 32 := 1#32
  let v475 : BitVec 32 := Scalar.subi v2 c1_i32_357
  let c4_i32_358 : BitVec 32 := 4#32
  let c0_i32_359 : BitVec 32 := 0#32
  let v476 : BitVec 1 := Scalar.cmpi .eq c4_i32_358 c0_i32_359
  let c1_i32_360 : BitVec 32 := 1#32
  let v477 : BitVec 32 := Scalar.select v476 c1_i32_360 c4_i32_358
  let v478 : BitVec 32 := Scalar.remsi v475 v477
  let c0_i32_362 : BitVec 32 := 0#32
  let v480 : BitVec 1 := Scalar.cmpi .slt v478 c0_i32_362
  let c0_i32_363 : BitVec 32 := 0#32
  let v481 : BitVec 1 := Scalar.cmpi .slt v477 c0_i32_363
  let v482 : BitVec 1 := Scalar.xori v480 v481
  let c0_i32_361 : BitVec 32 := 0#32
  let v479 : BitVec 1 := Scalar.cmpi .ne v478 c0_i32_361
  let v483 : BitVec 1 := Scalar.andi v482 v479
  let v484 : BitVec 32 := Scalar.addi v478 v477
  let v485 : BitVec 32 := Scalar.select v483 v484 v478
  let c1024_i32_365 : BitVec 32 := 1024#32
  let v487 : BitVec 32 := Scalar.muli v485 c1024_i32_365
  let c512_i32_366 : BitVec 32 := 512#32
  let v488 : BitVec 32 := Scalar.addi v487 c512_i32_366
  let c0_i32_384 : BitVec 32 := 0#32
  ![v488.toNat, 0]
def k0_off13 (d0 : Dev nD) (c0_i32_388 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_387 : BitVec 32 := 1#32
  let v529 : BitVec 32 := Scalar.addi v2 c1_i32_387
  let v530 : BitVec 32 := Scalar.subi v529 c0_i32_388
  let c4_i32_389 : BitVec 32 := 4#32
  let c0_i32_390 : BitVec 32 := 0#32
  let v531 : BitVec 1 := Scalar.cmpi .eq c4_i32_389 c0_i32_390
  let c1_i32_391 : BitVec 32 := 1#32
  let v532 : BitVec 32 := Scalar.select v531 c1_i32_391 c4_i32_389
  let v533 : BitVec 32 := Scalar.remsi v530 v532
  let c0_i32_393 : BitVec 32 := 0#32
  let v535 : BitVec 1 := Scalar.cmpi .slt v533 c0_i32_393
  let c0_i32_394 : BitVec 32 := 0#32
  let v536 : BitVec 1 := Scalar.cmpi .slt v532 c0_i32_394
  let v537 : BitVec 1 := Scalar.xori v535 v536
  let c0_i32_392 : BitVec 32 := 0#32
  let v534 : BitVec 1 := Scalar.cmpi .ne v533 c0_i32_392
  let v538 : BitVec 1 := Scalar.andi v537 v534
  let v539 : BitVec 32 := Scalar.addi v533 v532
  let v540 : BitVec 32 := Scalar.select v538 v539 v533
  let c1024_i32_395 : BitVec 32 := 1024#32
  let v541 : BitVec 32 := Scalar.muli v540 c1024_i32_395
  let c0_i32_413 : BitVec 32 := 0#32
  ![v541.toNat, 0]
def k0_dev9 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_409 : BitVec 32 := 1#32
  let v556 : BitVec 32 := Scalar.muli v25 c1_i32_409
  let v557 : BitVec 32 := Scalar.addi c0_i32_410 v556
  v557.toNat
def k0_off14 (d0 : Dev nD) (c0_i32_397 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_396 : BitVec 32 := 1#32
  let v542 : BitVec 32 := Scalar.subi v2 c1_i32_396
  let v543 : BitVec 32 := Scalar.addi v542 c0_i32_397
  let c4_i32_398 : BitVec 32 := 4#32
  let c0_i32_399 : BitVec 32 := 0#32
  let v544 : BitVec 1 := Scalar.cmpi .eq c4_i32_398 c0_i32_399
  let c1_i32_400 : BitVec 32 := 1#32
  let v545 : BitVec 32 := Scalar.select v544 c1_i32_400 c4_i32_398
  let v546 : BitVec 32 := Scalar.remsi v543 v545
  let c0_i32_402 : BitVec 32 := 0#32
  let v548 : BitVec 1 := Scalar.cmpi .slt v546 c0_i32_402
  let c0_i32_403 : BitVec 32 := 0#32
  let v549 : BitVec 1 := Scalar.cmpi .slt v545 c0_i32_403
  let v550 : BitVec 1 := Scalar.xori v548 v549
  let c0_i32_401 : BitVec 32 := 0#32
  let v547 : BitVec 1 := Scalar.cmpi .ne v546 c0_i32_401
  let v551 : BitVec 1 := Scalar.andi v550 v547
  let v552 : BitVec 32 := Scalar.addi v546 v545
  let v553 : BitVec 32 := Scalar.select v551 v552 v546
  let c1024_i32_404 : BitVec 32 := 1024#32
  let v554 : BitVec 32 := Scalar.muli v553 c1024_i32_404
  let c512_i32_405 : BitVec 32 := 512#32
  let v555 : BitVec 32 := Scalar.addi v554 c512_i32_405
  let c0_i32_421 : BitVec 32 := 0#32
  ![v555.toNat, 0]
def k0_dev10 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_417 : BitVec 32 := 1#32
  let v565 : BitVec 32 := Scalar.muli v14 c1_i32_417
  let v566 : BitVec 32 := Scalar.addi c0_i32_418 v565
  v566.toNat
def k0_off15 (d0 : Dev nD) (c0_i32_452 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v598 : BitVec 32 := Scalar.subi v2 c0_i32_452
  let c4_i32_453 : BitVec 32 := 4#32
  let c0_i32_454 : BitVec 32 := 0#32
  let v599 : BitVec 1 := Scalar.cmpi .eq c4_i32_453 c0_i32_454
  let c1_i32_455 : BitVec 32 := 1#32
  let v600 : BitVec 32 := Scalar.select v599 c1_i32_455 c4_i32_453
  let v601 : BitVec 32 := Scalar.remsi v598 v600
  let c0_i32_457 : BitVec 32 := 0#32
  let v603 : BitVec 1 := Scalar.cmpi .slt v601 c0_i32_457
  let c0_i32_458 : BitVec 32 := 0#32
  let v604 : BitVec 1 := Scalar.cmpi .slt v600 c0_i32_458
  let v605 : BitVec 1 := Scalar.xori v603 v604
  let c0_i32_456 : BitVec 32 := 0#32
  let v602 : BitVec 1 := Scalar.cmpi .ne v601 c0_i32_456
  let v606 : BitVec 1 := Scalar.andi v605 v602
  let v607 : BitVec 32 := Scalar.addi v601 v600
  let v608 : BitVec 32 := Scalar.select v606 v607 v601
  let c1024_i32_469 : BitVec 32 := 1024#32
  let v622 : BitVec 32 := Scalar.muli v608 c1024_i32_469
  let v623 : Index := Scalar.indexCast v622
  let c0_470 : Index := 0#32
  ![v623.toNat, 0]
def k0_off16 (d0 : Dev nD) (c0_i32_459 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v609 : BitVec 32 := Scalar.addi v2 c0_i32_459
  let c4_i32_460 : BitVec 32 := 4#32
  let c0_i32_461 : BitVec 32 := 0#32
  let v610 : BitVec 1 := Scalar.cmpi .eq c4_i32_460 c0_i32_461
  let c1_i32_462 : BitVec 32 := 1#32
  let v611 : BitVec 32 := Scalar.select v610 c1_i32_462 c4_i32_460
  let v612 : BitVec 32 := Scalar.remsi v609 v611
  let c0_i32_464 : BitVec 32 := 0#32
  let v614 : BitVec 1 := Scalar.cmpi .slt v612 c0_i32_464
  let c0_i32_465 : BitVec 32 := 0#32
  let v615 : BitVec 1 := Scalar.cmpi .slt v611 c0_i32_465
  let v616 : BitVec 1 := Scalar.xori v614 v615
  let c0_i32_463 : BitVec 32 := 0#32
  let v613 : BitVec 1 := Scalar.cmpi .ne v612 c0_i32_463
  let v617 : BitVec 1 := Scalar.andi v616 v613
  let v618 : BitVec 32 := Scalar.addi v612 v611
  let v619 : BitVec 32 := Scalar.select v617 v618 v612
  let c1024_i32_474 : BitVec 32 := 1024#32
  let v629 : BitVec 32 := Scalar.muli v619 c1024_i32_474
  let c512_i32_475 : BitVec 32 := 512#32
  let v630 : BitVec 32 := Scalar.addi v629 c512_i32_475
  let v631 : Index := Scalar.indexCast v630
  let c0_476 : Index := 0#32
  ![v631.toNat, 0]
def k0_dev11 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_524 : BitVec 32 := 1#32
  let v687 : BitVec 32 := Scalar.muli v25 c1_i32_524
  let v688 : BitVec 32 := Scalar.addi c0_i32_525 v687
  v688.toNat
def k0_dev12 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_532 : BitVec 32 := 1#32
  let v696 : BitVec 32 := Scalar.muli v14 c1_i32_532
  let v697 : BitVec 32 := Scalar.addi c0_i32_533 v696
  v697.toNat
def k0_dev13 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_649 : BitVec 32 := 1#32
  let v828 : BitVec 32 := Scalar.muli v25 c1_i32_649
  let v829 : BitVec 32 := Scalar.addi c0_i32_650 v828
  v829.toNat
def k0_dev14 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_657 : BitVec 32 := 1#32
  let v837 : BitVec 32 := Scalar.muli v14 c1_i32_657
  let v838 : BitVec 32 := Scalar.addi c0_i32_658 v837
  v838.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S1, .f32⟩
  | .hbm, ⟨3, _⟩ => ⟨S1, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S1, .f32⟩
  | .hbm, ⟨8, _⟩ => ⟨S1x1, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Blocks.lean ====
/-
The pieces of memory the exchange moves: the accumulator and the result in eight blocks of 512 rows (a chunk of
1024 rows for each device, a half for each direction), the landing and staging buffers in two slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's own rounds: duties named by a direction. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The two directions of the ring -/

/-- The device after `c` in direction `d`: the right neighbour for `false`, the left one for `true`. -/
def nx (d : Bool) (c : Dev nD) : Dev nD :=
  ⟨(c.val + (if d then 3 else 1)) % 4, Nat.mod_lt _ (by decide)⟩
/-- The device before `c` in direction `d`. -/
def pv (d : Bool) (c : Dev nD) : Dev nD := nx (!d) c

theorem pv_nx (d : Bool) (c : Dev nD) : pv d (nx d c) = c := by revert d c; decide
theorem nx_pv (d : Bool) (c : Dev nD) : nx d (pv d c) = c := by revert d c; decide
theorem nx_not_nx (d : Bool) (c : Dev nD) : nx (!d) (nx d c) = c := pv_nx d c
theorem nx_nx_not (d : Bool) (c : Dev nD) : nx d (nx (!d) c) = c := nx_pv d c
theorem pv_eq (d : Bool) (c : Dev nD) : pv d c = nx (!d) c := rfl

/-- `k` steps back from `c` in direction `d`. -/
def bk (d : Bool) (k : ℕ) (c : Dev nD) : Dev nD :=
  ⟨(c.val + (if d then 1 else 3) * k) % 4, Nat.mod_lt _ (by decide)⟩

theorem bk_zero (d : Bool) (c : Dev nD) : bk d 0 c = c := by revert d c; decide
theorem bk_add_four (d : Bool) (k : ℕ) (c : Dev nD) : bk d (k + 4) c = bk d k c := by
  apply Fin.ext; simp only [bk]; cases d <;> simp <;> omega

/-- Every device is one of the four steps back from any. -/
theorem univ_bk (d : Bool) (c : Dev nD) : (Finset.univ : Finset (Dev nD)) = [bk d 0 c, bk d 1 c, bk d 2 c, bk d 3 c].toFinset := by
  revert d c; decide
theorem nodup_bk (d : Bool) (c : Dev nD) : [bk d 0 c, bk d 1 c, bk d 2 c, bk d 3 c].Nodup := by
  revert d c; decide

/-! ## The memrefs -/

abbrev xM : Memref sig .tc .vmem S4096x1024 .bf16 := Memref.whole cc0_stg0_0
abbrev wM : Memref sig .tc .vmem S1024x2048 .bf16 := Memref.whole cc0_stg1_0
abbrev sxM : Memref sig .tc .smem S1 .f32 := Memref.whole cc0_stg2_0
abbrev swM : Memref sig .tc .smem S1 .f32 := Memref.whole cc0_stg3_0
abbrev accM : Memref sig .tc .vmem S4096x2048 .bf16 := Memref.whole cc0_scratch0
abbrev outM : Memref sig .tc .hbm S4096x2048 .f32 := Memref.whole main_v1
/-- The landing buffer of direction `d`. -/
abbrev commM (d : Bool) : Memref sig .tc .vmem S2x512x2048 .bf16 :=
  match d with | false => Memref.whole cc0_scratch1 | true => Memref.whole cc0_scratch2
/-- The staging buffer of direction `d`. -/
abbrev stgM (d : Bool) : Memref sig .tc .vmem S2x512x2048 .f32 :=
  match d with | false => Memref.whole cc0_scratch3 | true => Memref.whole cc0_scratch4

/-- First row of the half of direction `h` of chunk `j`. -/
def bOff (j : Dev nD) (h : Bool) : Fin 2 → Nat := ![1024 * j.val + (if h then 512 else 0), 0]
theorem bOff_inb (j : Dev nD) (h : Bool) : ∀ a, bOff j h a + S512x2048.size a ≤ S4096x2048.size a := by
  revert j h; decide
def sOff (s : Fin 2) : Fin 3 → Nat := ![s.val, 0, 0]
theorem sOff_inb (s : Fin 2) : ∀ a, sOff s a + S1x512x2048.size a ≤ S2x512x2048.size a := by
  revert s; decide

abbrev bRect (j : Dev nD) (h : Bool) : Rect S4096x2048 := Rect.unit (s := S4096x2048) (bOff j h) S512x2048.size (bOff_inb j h)
abbrev sRect (s : Fin 2) : Rect S2x512x2048 := Rect.unit (s := S2x512x2048) (sOff s) S1x512x2048.size (sOff_inb s)

/-- A block of the accumulator, of the result; a slot of a landing buffer, of a staging buffer. -/
def accB (j : Dev nD) (h : Bool) : Memref sig .tc .vmem S512x2048 .bf16 := accM.slice (bRect j h) (fun _ => rfl)
def outB (j : Dev nD) (h : Bool) : Memref sig .tc .hbm S512x2048 .f32 := outM.slice (bRect j h) (fun _ => rfl)
def commS (d : Bool) (s : Fin 2) : Memref sig .tc .vmem S512x2048 .bf16 :=
  ((commM d).slice (sRect s) (fun _ => rfl)).squeeze S512x2048 squeezes_S1x512x2048_S512x2048
def stgS (d : Bool) (s : Fin 2) : Memref sig .tc .vmem S512x2048 .f32 :=
  ((stgM d).slice (sRect s) (fun _ => rfl)).squeeze S512x2048 squeezes_S1x512x2048_S512x2048

abbrev V16 (F : FTy → Type) : Type := Vec F S512x2048 .bf16
abbrev V32 (F : FTy → Type) : Type := Vec F S512x2048 .f32

def accH (c : Dev nD) (j : Dev nD) (h : Bool) (x : V16 F) : sProp 𝕄 := owns (c : Thread nD τ) (accB j h) fullShare x
def outH (c : Dev nD) (j : Dev nD) (h : Bool) (x : V32 F) : sProp 𝕄 := owns (c : Thread nD τ) (outB j h) fullShare x
def commH (c : Dev nD) (d : Bool) (s : Fin 2) (x : V16 F) : sProp 𝕄 := owns (c : Thread nD τ) (commS d s) fullShare x
def stgH (c : Dev nD) (d : Bool) (s : Fin 2) (x : V32 F) : sProp 𝕄 := owns (c : Thread nD τ) (stgS d s) fullShare x
/-- The same at some contents. -/
def accA (c : Dev nD) (j : Dev nD) (h : Bool) : sProp 𝕄 := iprop(∃ x, accH (F := F) c j h x)
def outA (c : Dev nD) (j : Dev nD) (h : Bool) : sProp 𝕄 := iprop(∃ x, outH (F := F) c j h x)
def commA (c : Dev nD) (d : Bool) (s : Fin 2) : sProp 𝕄 := iprop(∃ x, commH (F := F) c d s x)
def stgA (c : Dev nD) (d : Bool) (s : Fin 2) : sProp 𝕄 := iprop(∃ x, stgH (F := F) c d s x)

omit [FloatOps F] in
instance accH_storable (c j : Dev nD) (h : Bool) (x) : BI.Storable (upEmb : UEmb _ 𝕄) (accH (F := F) c j h x) := by unfold accH; infer_instance
omit [FloatOps F] in
instance outH_storable (c j : Dev nD) (h : Bool) (x) : BI.Storable (upEmb : UEmb _ 𝕄) (outH (F := F) c j h x) := by unfold outH; infer_instance
omit [FloatOps F] in
instance commH_storable (c : Dev nD) (h : Bool) (s x) : BI.Storable (upEmb : UEmb _ 𝕄) (commH (F := F) c h s x) := by unfold commH; infer_instance
omit [FloatOps F] in
instance stgH_storable (c : Dev nD) (h : Bool) (s x) : BI.Storable (upEmb : UEmb _ 𝕄) (stgH (F := F) c h s x) := by unfold stgH; infer_instance
omit [FloatOps F] in
instance accA_storable (c j : Dev nD) (h : Bool) : BI.Storable (upEmb : UEmb _ 𝕄) (accA (F := F) c j h) := by unfold accA; infer_instance
omit [FloatOps F] in
instance commA_storable (c : Dev nD) (h : Bool) (s) : BI.Storable (upEmb : UEmb _ 𝕄) (commA (F := F) c h s) := by unfold commA; infer_instance
omit [FloatOps F] in
instance stgA_storable (c : Dev nD) (h : Bool) (s) : BI.Storable (upEmb : UEmb _ 𝕄) (stgA (F := F) c h s) := by unfold stgA; infer_instance

/-! ## Loads and stores -/

theorem accH_eq (c j : Dev nD) (h : Bool) (x : V16 F) :
    accH (F := F) c j h x = iprop(∃ f, ⌜(accM.access (bRect j h)).read (Elt F) f = x⌝
      ∗ ((accM.access (bRect j h)).loc (c : Thread nD τ) ↦[(accM.access (bRect j h)).set]{fullShare} f)) := rfl

theorem commH_eq (c : Dev nD) (d : Bool) (s : Fin 2) (x : V16 F) :
    commH (F := F) c d s x = iprop(∃ f, ⌜shapeCast (s := S1x512x2048) S512x2048 (((commM d).access (sRect s)).read (Elt F) f) = x⌝
      ∗ (((commM d).access (sRect s)).loc (c : Thread nD τ) ↦[(commS d s).view.set]{fullShare} f)) := rfl
theorem stgH_eq (c : Dev nD) (d : Bool) (s : Fin 2) (x : V32 F) :
    stgH (F := F) c d s x = iprop(∃ f, ⌜shapeCast (s := S1x512x2048) S512x2048 (((stgM d).access (sRect s)).read (Elt F) f) = x⌝
      ∗ (((stgM d).access (sRect s)).loc (c : Thread nD τ) ↦[(stgS d s).view.set]{fullShare} f)) := rfl

theorem slotSet16 (d : Bool) (s : Fin 2) : ((commM d).access (sRect s)).set ⊆ (commS d s).view.set := by
  rw [show (commS d s).view.set = ((commM d).access (sRect s)).set from View.set_reshape _ _]
theorem slotSet32 (d : Bool) (s : Fin 2) : ((stgM d).access (sRect s)).set ⊆ (stgS d s).view.set := by
  rw [show (stgS d s).view.set = ((stgM d).access (sRect s)).set from View.set_reshape _ _]

section Steps

variable {α : Type} (c : Dev nD)

local notation "WP" => wp frame (wpE (defs₀ (F := F)) 𝒱₀ (c : Thread nD τ) none) Set.univ

theorem ld_acc {j : Dev nD} {h : Bool} {x : V16 F} {o : Fin 2 → Nat} (ho : o = bOff j h) {inb hl}
    {k : V16 F → Prog (TpuEff nD τ sig (Elt F) Λ₀ .tc) α} {Q : α → sProp 𝕄} :
    accH (F := F) c j h x ⊢ iprop((accH c j h x -∗ WP (k x) Q)
      -∗ WP (.op (.load accM (Rect.unit (s := S4096x2048) o S512x2048.size inb).toLoadRect hl) k) Q) := by
  subst ho
  rw [accH_eq]
  iintro ⟨%f, %hf, H⟩ Hk
  iapply (wp_load_rect 𝒱₀ (c : Thread nD τ) none Set.univ (m := accM) (r := bRect j h) (S := (accM.access (bRect j h)).set) (f := f) (Finset.Subset.refl _)) $$ H
  iintro H
  rw [hf]
  iapply Hk
  iexists f
  isplitr; · ipureintro; exact hf
  iexact H

theorem st_acc {j : Dev nD} {h : Bool} {x w : V16 F} {o : Fin 2 → Nat} (ho : o = bOff j h) {inb hx hm}
    {k : PUnit → Prog (TpuEff nD τ sig (Elt F) Λ₀ .tc) α} {Q : α → sProp 𝕄} :
    accH (F := F) c j h x ⊢ iprop((accH c j h w -∗ WP (k ⟨⟩) Q)
      -∗ WP (.op (.store accM (Rect.unit (s := S4096x2048) o S512x2048.size inb) w Finset.univ hx hm) k) Q) := by
  subst ho
  rw [accH_eq, accH_eq]
  iintro ⟨%f, %hf, H⟩ Hk
  iapply (wp_store 𝒱₀ (c : Thread nD τ) none Set.univ (m := accM) (r := bRect j h) (S := (accM.access (bRect j h)).set) (f := f) (w := w) (Mk := Finset.univ) (Finset.Subset.refl _)) $$ H
  iintro H
  iapply Hk
  iexists _
  isplitr
  rotate_left
  · iexact H
  · ipureintro; exact View.read_write_univ (v := (accB j h).view) (Val := Elt F) f w

theorem ld_slot16 {d : Bool} {s : Fin 2} {x : V16 F} {m : Memref sig .tc .vmem S2x512x2048 .bf16} (hm : m = commM d)
    {o : Fin 3 → Nat} (ho : o = sOff s) {inb hl} {k : Vec F S1x512x2048 .bf16 → Prog (TpuEff nD τ sig (Elt F) Λ₀ .tc) α} {Q : α → sProp 𝕄} :
    commH (F := F) c d s x ⊢ iprop((∀ y : Vec F S1x512x2048 .bf16, ⌜shapeCast S512x2048 y = x⌝ -∗ commH c d s x -∗ WP (k y) Q)
      -∗ WP (.op (.load m (Rect.unit (s := S2x512x2048) o S1x512x2048.size inb).toLoadRect hl) k) Q) := by
  subst ho; subst hm
  rw [commH_eq]
  iintro ⟨%f, %hf, H⟩ Hk
  iapply (wp_load_rect 𝒱₀ (c : Thread nD τ) none Set.univ (m := commM d) (r := sRect s) (S := (commS d s).view.set) (f := f) (slotSet16 d s)) $$ H
  iintro H
  iapply Hk $$ %_
  · ipureintro; exact hf
  iexists f
  isplitr; · ipureintro; exact hf
  iexact H

theorem ld_slot32 {d : Bool} {s : Fin 2} {x : V32 F} {m : Memref sig .tc .vmem S2x512x2048 .f32} (hm : m = stgM d)
    {o : Fin 3 → Nat} (ho : o = sOff s) {inb hl} {k : Vec F S1x512x2048 .f32 → Prog (TpuEff nD τ sig (Elt F) Λ₀ .tc) α} {Q : α → sProp 𝕄} :
    stgH (F := F) c d s x ⊢ iprop((∀ y : Vec F S1x512x2048 .f32, stgH c d s x -∗ WP (k y) Q)
      -∗ WP (.op (.load m (Rect.unit (s := S2x512x2048) o S1x512x2048.size inb).toLoadRect hl) k) Q) := by
  subst ho; subst hm
  rw [stgH_eq]
  iintro ⟨%f, %hf, H⟩ Hk
  iapply (wp_load_rect 𝒱₀ (c : Thread nD τ) none Set.univ (m := stgM d) (r := sRect s) (S := (stgS d s).view.set) (f := f) (slotSet32 d s)) $$ H
  iintro H
  iapply Hk $$ %_
  iexists f
  isplitr; · ipureintro; exact hf
  iexact H

theorem st_slot32 {d : Bool} {s : Fin 2} {x : V32 F} {m : Memref sig .tc .vmem S2x512x2048 .f32} (hm : m = stgM d)
    {o : Fin 3 → Nat} (ho : o = sOff s) {inb hx hn} {w : Vec F S1x512x2048 .f32} {k : PUnit → Prog (TpuEff nD τ sig (Elt F) Λ₀ .tc) α} {Q : α → sProp 𝕄} :
    stgH (F := F) c d s x ⊢ iprop((stgH c d s (shapeCast S512x2048 w) -∗ WP (k ⟨⟩) Q)
      -∗ WP (.op (.store m (Rect.unit (s := S2x512x2048) o S1x512x2048.size inb) w Finset.univ hx hn) k) Q) := by
  subst ho; subst hm
  rw [stgH_eq, stgH_eq]
  iintro ⟨%f, %hf, H⟩ Hk
  iapply (wp_store 𝒱₀ (c : Thread nD τ) none Set.univ (m := stgM d) (r := sRect s) (S := (stgS d s).view.set) (f := f) (w := w) (Mk := Finset.univ) (slotSet32 d s)) $$ H
  iintro H
  iapply Hk
  iexists _
  isplitr
  rotate_left
  · iexact H
  · ipureintro
    exact congrArg (fun y : Vec F S1x512x2048 .f32 => shapeCast S512x2048 y)
      (View.read_write_univ (v := ((stgM d).access (sRect s))) (Val := Elt F) f w)

end Steps

/-! ## The program's offsets and peers -/

theorem off3_0 (c : Dev nD) : k0_off3 c 0#32 = bOff (bk false 0 c) false := by revert c; decide +kernel
theorem off3_1 (c : Dev nD) : k0_off3 c 1#32 = bOff (bk false 1 c) false := by revert c; decide +kernel
theorem off3_2 (c : Dev nD) : k0_off3 c 2#32 = bOff (bk false 2 c) false := by revert c; decide +kernel
theorem off4_0 (c : Dev nD) : k0_off4 c 0#32 = bOff (bk true 0 c) true := by revert c; decide +kernel
theorem off4_1 (c : Dev nD) : k0_off4 c 1#32 = bOff (bk true 1 c) true := by revert c; decide +kernel
theorem off4_2 (c : Dev nD) : k0_off4 c 2#32 = bOff (bk true 2 c) true := by revert c; decide +kernel
theorem off7_0 (c : Dev nD) : k0_off7 c 0#32 = bOff (bk false 1 c) false := by revert c; decide +kernel
theorem off7_1 (c : Dev nD) : k0_off7 c 1#32 = bOff (bk false 2 c) false := by revert c; decide +kernel
theorem off7_2 (c : Dev nD) : k0_off7 c 2#32 = bOff (bk false 3 c) false := by revert c; decide +kernel
theorem off8_0 (c : Dev nD) : k0_off8 c 0#32 = bOff (bk true 1 c) true := by revert c; decide +kernel
theorem off8_1 (c : Dev nD) : k0_off8 c 1#32 = bOff (bk true 2 c) true := by revert c; decide +kernel
theorem off8_2 (c : Dev nD) : k0_off8 c 2#32 = bOff (bk true 3 c) true := by revert c; decide +kernel
theorem off9_ (c : Dev nD) : k0_off9 c = bOff (bk false 3 c) false := by revert c; decide +kernel
theorem off10_ (c : Dev nD) : k0_off10 c = bOff (bk false 3 c) false := by revert c; decide +kernel
theorem off11_ (c : Dev nD) : k0_off11 c = bOff (bk true 3 c) true := by revert c; decide +kernel
theorem off12_ (c : Dev nD) : k0_off12 c = bOff (bk true 3 c) true := by revert c; decide +kernel
theorem off13_0 (c : Dev nD) : k0_off13 c 0#32 = bOff (bk false 3 c) false := by revert c; decide +kernel
theorem off13_1 (c : Dev nD) : k0_off13 c 1#32 = bOff (bk false 0 c) false := by revert c; decide +kernel
theorem off13_2 (c : Dev nD) : k0_off13 c 2#32 = bOff (bk false 1 c) false := by revert c; decide +kernel
theorem off14_0 (c : Dev nD) : k0_off14 c 0#32 = bOff (bk true 3 c) true := by revert c; decide +kernel
theorem off14_1 (c : Dev nD) : k0_off14 c 1#32 = bOff (bk true 0 c) true := by revert c; decide +kernel
theorem off14_2 (c : Dev nD) : k0_off14 c 2#32 = bOff (bk true 1 c) true := by revert c; decide +kernel
theorem off15_0 (c : Dev nD) : k0_off15 c 0#32 = bOff (bk false 0 c) false := by revert c; decide +kernel
theorem off15_1 (c : Dev nD) : k0_off15 c 1#32 = bOff (bk false 1 c) false := by revert c; decide +kernel
theorem off15_2 (c : Dev nD) : k0_off15 c 2#32 = bOff (bk false 2 c) false := by revert c; decide +kernel
theorem off16_0 (c : Dev nD) : k0_off16 c 0#32 = bOff (bk true 0 c) true := by revert c; decide +kernel
theorem off16_1 (c : Dev nD) : k0_off16 c 1#32 = bOff (bk true 1 c) true := by revert c; decide +kernel
theorem off16_2 (c : Dev nD) : k0_off16 c 2#32 = bOff (bk true 2 c) true := by revert c; decide +kernel

/-- First row of a chunk. -/
def cOff (j : Dev nD) : Fin 2 → Nat := ![1024 * j.val, 0]
theorem off1_ (c : Dev nD) : k0_off1 c = cOff (bk false 0 c) := by revert c; decide +kernel
theorem off2_ (c : Dev nD) : k0_off2 c = cOff (bk false 0 c) := by revert c; decide +kernel
theorem off5_1 (c : Dev nD) : k0_off5 c 1#32 = cOff (bk false 3 c) := by revert c; decide +kernel
theorem off5_2 (c : Dev nD) : k0_off5 c 2#32 = cOff (bk false 2 c) := by revert c; decide +kernel
theorem off5_3 (c : Dev nD) : k0_off5 c 3#32 = cOff (bk false 1 c) := by revert c; decide +kernel
theorem off6_1 (c : Dev nD) : k0_off6 c 1#32 = cOff (bk false 3 c) := by revert c; decide +kernel
theorem off6_2 (c : Dev nD) : k0_off6 c 2#32 = cOff (bk false 2 c) := by revert c; decide +kernel
theorem off6_3 (c : Dev nD) : k0_off6 c 3#32 = cOff (bk false 1 c) := by revert c; decide +kernel

theorem dev1_ (c : Dev nD) : (⟨k0_dev1 c, k0_dev1_lt c⟩ : Dev nD) = nx true c := by revert c; decide +kernel
theorem dev2_ (c : Dev nD) : (⟨k0_dev2 c, k0_dev2_lt c⟩ : Dev nD) = nx false c := by revert c; decide +kernel
theorem dev3_ (c : Dev nD) : (⟨k0_dev3 c, k0_dev3_lt c⟩ : Dev nD) = nx false c := by revert c; decide +kernel
theorem dev4_ (c : Dev nD) : (⟨k0_dev4 c, k0_dev4_lt c⟩ : Dev nD) = nx true c := by revert c; decide +kernel
theorem dev5_ (c : Dev nD) : (⟨k0_dev5 c, k0_dev5_lt c⟩ : Dev nD) = nx false c := by revert c; decide +kernel
theorem dev6_ (c : Dev nD) : (⟨k0_dev6 c, k0_dev6_lt c⟩ : Dev nD) = nx true c := by revert c; decide +kernel
theorem dev7_ (c : Dev nD) : (⟨k0_dev7 c, k0_dev7_lt c⟩ : Dev nD) = nx false c := by revert c; decide +kernel
theorem dev8_ (c : Dev nD) : (⟨k0_dev8 c, k0_dev8_lt c⟩ : Dev nD) = nx true c := by revert c; decide +kernel
theorem dev9_ (c : Dev nD) : (⟨k0_dev9 c, k0_dev9_lt c⟩ : Dev nD) = nx false c := by revert c; decide +kernel
theorem dev10_ (c : Dev nD) : (⟨k0_dev10 c, k0_dev10_lt c⟩ : Dev nD) = nx true c := by revert c; decide +kernel
theorem dev11_ (c : Dev nD) : (⟨k0_dev11 c, k0_dev11_lt c⟩ : Dev nD) = nx false c := by revert c; decide +kernel
theorem dev12_ (c : Dev nD) : (⟨k0_dev12 c, k0_dev12_lt c⟩ : Dev nD) = nx true c := by revert c; decide +kernel
theorem dev13_ (c : Dev nD) : (⟨k0_dev13 c, k0_dev13_lt c⟩ : Dev nD) = nx false c := by revert c; decide +kernel
theorem dev14_ (c : Dev nD) : (⟨k0_dev14 c, k0_dev14_lt c⟩ : Dev nD) = nx true c := by revert c; decide +kernel

end Cert.RingGemm

end
-- ==== Proof.Sched.lean ====
/-
The semaphores of the exchange: who waits on each, who raises it, in which order, and what each raise hands over.

Each direction of the ring sends six blocks per device (three while summing, three while spreading the sums). Send
number `t` lands in slot `t % 2` of the next device's landing buffer. A device may overwrite a slot only once its owner
has read it: the first two sends know that from the barrier, every later one from a block that came the other way.
-/
module

public import proofs.«01_k».proof.Proof.Blocks

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The cells -/

/-- The slot of send number `t`. -/
def sl (t : ℕ) : Fin 2 := ⟨t % 2, Nat.mod_lt _ (by decide)⟩

abbrev barS : Sem sig := ((SemArray.scalar (sig.barrier 0 rfl)) : Sems sig S_).sem
def sendQ (d : Bool) (s : Fin 2) : DmaSem sig := match d, s with
  | false, ⟨0, _⟩ => 4 | false, ⟨1, _⟩ => 5 | true, ⟨0, _⟩ => 8 | true, ⟨1, _⟩ => 9
def recvQ (d : Bool) (s : Fin 2) : DmaSem sig := match d, s with
  | false, ⟨0, _⟩ => 6 | false, ⟨1, _⟩ => 7 | true, ⟨0, _⟩ => 10 | true, ⟨1, _⟩ => 11
def copyQ (d : Bool) (s : Fin 2) : DmaSem sig := match d, s with
  | false, ⟨0, _⟩ => 12 | false, ⟨1, _⟩ => 13 | true, ⟨0, _⟩ => 14 | true, ⟨1, _⟩ => 15

abbrev barCell (c : Dev nD) : GSem nD τ sig := ((c : Thread nD τ), .reg barS)
abbrev sendCell (d : Bool) (s : Fin 2) (c : Dev nD) : GSem nD τ sig := ((c : Thread nD τ), .dma (sendQ d s))
abbrev recvCell (d : Bool) (s : Fin 2) (c : Dev nD) : GSem nD τ sig := ((c : Thread nD τ), .dma (recvQ d s))
abbrev copyCell (d : Bool) (s : Fin 2) (c : Dev nD) : GSem nD τ sig := ((c : Thread nD τ), .dma (copyQ d s))

/-- A device's thirteen cells, numbered: the barrier, then the DMA cells in the order of their numbers. -/
def ksem (k : Fin 13) : SemLoc sig := match k with
  | ⟨0, _⟩ => .reg barS
  | ⟨k + 1, h⟩ => .dma ⟨k + 4, by have : k < 12 := by omega
                                  show k + 4 < 16; omega⟩
abbrev kcell (ck : Dev nD × Fin 13) : GSem nD τ sig := ((ck.1 : Thread nD τ), ksem ck.2)
def sendK (d : Bool) (s : Fin 2) : Fin 13 := match d, s with
  | false, ⟨0, _⟩ => 1 | false, ⟨1, _⟩ => 2 | true, ⟨0, _⟩ => 5 | true, ⟨1, _⟩ => 6
def recvK (d : Bool) (s : Fin 2) : Fin 13 := match d, s with
  | false, ⟨0, _⟩ => 3 | false, ⟨1, _⟩ => 4 | true, ⟨0, _⟩ => 7 | true, ⟨1, _⟩ => 8
def copyK (d : Bool) (s : Fin 2) : Fin 13 := match d, s with
  | false, ⟨0, _⟩ => 9 | false, ⟨1, _⟩ => 10 | true, ⟨0, _⟩ => 11 | true, ⟨1, _⟩ => 12
theorem kcell_bar (c : Dev nD) : kcell (c, 0) = barCell c := rfl
theorem kcell_send (d s) (c : Dev nD) : kcell (c, sendK d s) = sendCell d s c := by
  revert d s; intro d s; rcases d <;> fin_cases s <;> rfl
theorem kcell_recv (d s) (c : Dev nD) : kcell (c, recvK d s) = recvCell d s c := by
  revert d s; intro d s; rcases d <;> fin_cases s <;> rfl
theorem kcell_copy (d s) (c : Dev nD) : kcell (c, copyK d s) = copyCell d s c := by
  revert d s; intro d s; rcases d <;> fin_cases s <;> rfl

/-- What a cell is for. -/
inductive Chan where
  | bar
  | send (d : Bool) (s : Fin 2)
  | recv (d : Bool) (s : Fin 2)
  | copy (d : Bool) (s : Fin 2)
  | other

def chan (g : SemLoc sig) : Chan := match g with
  | .reg _ => .bar
  | .dma q => match q.val with
    | 4 => .send false 0 | 5 => .send false 1 | 6 => .recv false 0 | 7 => .recv false 1
    | 8 => .send true 0 | 9 => .send true 1 | 10 => .recv true 0 | 11 => .recv true 1
    | 12 => .copy false 0 | 13 => .copy false 1 | 14 => .copy true 0 | 15 => .copy true 1
    | _ => .other

theorem chan_bar (q) : chan (.reg q) = .bar := rfl
theorem chan_send (d s) : chan (.dma (sendQ d s)) = .send d s := by rcases d <;> fin_cases s <;> rfl
theorem chan_recv (d s) : chan (.dma (recvQ d s)) = .recv d s := by rcases d <;> fin_cases s <;> rfl
theorem chan_copy (d s) : chan (.dma (copyQ d s)) = .copy d s := by rcases d <;> fin_cases s <;> rfl

/-- Credit of one landed block of halved floats, and of one block of the result. -/
abbrev N16 : ℕ := (commS false 0).view.dmaCredit
abbrev N32 : ℕ := (outB 0 false).view.dmaCredit
theorem N16_pos : 0 < N16 := View.dmaCredit_pos _ (by decide)
theorem N32_pos : 0 < N32 := View.dmaCredit_pos _ (by decide)
theorem credit_comm (d s) : (commS d s).view.dmaCredit = N16 := by rcases d <;> fin_cases s <;> rfl
theorem credit_acc (j h) : (accB j h).view.dmaCredit = N16 := rfl
theorem credit_out (j h) : (outB j h).view.dmaCredit = N32 := rfl

/-! ## What each raise hands over -/

section Sched

variable (M : Bool → ℕ → Dev nD → V16 F) (OV : Bool → ℕ → Dev nD → V32 F)

/-- With a block of direction `d`, the sender also hands over the slot into which the receiver's next block the other way
    goes, and that the round of that slot's cell is open. -/
def fb (d : Bool) (t : ℕ) (c : Dev nD) : sProp 𝕄 :=
  if 1 ≤ t ∧ t ≤ 4 then
    iprop(commA (pv d c) (!d) (sl (t + 1)) ∗ reached ER (recvCell (!d) (sl (t + 1)) (pv d c)) ((t + 1) / 2))
  else iprop(emp)
def barPay (c : Dev nD) (b : Bool) : sProp 𝕄 := iprop(commA (nx b c) b 0 ∗ commA (nx b c) b 1)
def sendPay (d : Bool) (t : ℕ) (c : Dev nD) : sProp 𝕄 := accA c (bk d t c) d
def recvPay (d : Bool) (t : ℕ) (c : Dev nD) : sProp 𝕄 := iprop(commH c d (sl t) (M d t (pv d c)) ∗ fb d t c)
def copyPay (d : Bool) (k : ℕ) (c : Dev nD) : sProp 𝕄 := iprop(stgA c d (sl k) ∗ outH c (bk d (k + 3) c) d (OV d k c))

def Rd : Rounds.Schedule (GSem nD τ sig) Bool 𝕄 where
  duties g r := match chan g.2 with
    | .bar => if r = 0 then Finset.univ else ∅
    | .send _ _ => if r < 3 then {false} else ∅
    | .recv _ _ => if r < 3 then {false} else ∅
    | .copy _ _ => if r < 2 then {false} else ∅
    | .other => ∅
  unitless _ := False
  amount g _ _ := match chan g.2 with
    | .bar => 1
    | .send _ _ => N16
    | .recv _ _ => N16
    | .copy _ _ => N32
    | .other => 1
  payload g r b := match chan g.2 with
    | .bar => barPay g.1.1 b
    | .send d s => sendPay d (2 * r + s.val) g.1.1
    | .recv d s => recvPay M d (2 * r + s.val) g.1.1
    | .copy d s => copyPay OV d (2 * r + s.val) g.1.1
    | .other => iprop(emp)
  amount_pos g r b _ := by
    rcases chan g.2 with _ | _ | _ | _ | _
    · exact Nat.one_pos
    · exact N16_pos
    · exact N16_pos
    · exact N32_pos
    · exact Nat.one_pos

instance fb_storable (d t c) : BI.Storable (upEmb : UEmb _ 𝕄) (fb (F := F) d t c) := by unfold fb; split <;> infer_instance
instance Rd_payload_storable (g : GSem nD τ sig) (r : ℕ) (b : Bool) : BI.Storable (upEmb : UEmb _ 𝕄) ((Rd (F := F) M OV).payload g r b) := by
  show BI.Storable upEmb (match chan g.2 with
    | .bar => barPay g.1.1 b
    | .send d s => sendPay d (2 * r + s.val) g.1.1
    | .recv d s => recvPay M d (2 * r + s.val) g.1.1
    | .copy d s => copyPay OV d (2 * r + s.val) g.1.1
    | .other => iprop(emp))
  unfold barPay sendPay recvPay copyPay
  split <;> infer_instance

theorem duties_bar (c : Dev nD) : (Rd (F := F) M OV).duties (barCell c) 0 = Finset.univ := rfl
theorem duties_send (d s) (c : Dev nD) {r} (hr : r < 3) : (Rd (F := F) M OV).duties (sendCell d s c) r = {false} := by
  dsimp only [Rd]; rw [chan_send]; exact if_pos hr
theorem duties_recv (d s) (c : Dev nD) {r} (hr : r < 3) : (Rd (F := F) M OV).duties (recvCell d s c) r = {false} := by
  dsimp only [Rd]; rw [chan_recv]; exact if_pos hr
theorem duties_copy (d s) (c : Dev nD) {r} (hr : r < 2) : (Rd (F := F) M OV).duties (copyCell d s c) r = {false} := by
  dsimp only [Rd]; rw [chan_copy]; exact if_pos hr
theorem duties_bar_later (c : Dev nD) : ∀ r, 1 ≤ r → (Rd (F := F) M OV).duties (barCell c) r = ∅ := fun r hr => by
  dsimp only [Rd]; rw [chan_bar]; exact if_neg (by omega)
theorem duties_send_later (d s) (c : Dev nD) : ∀ r, 3 ≤ r → (Rd (F := F) M OV).duties (sendCell d s c) r = ∅ := fun r hr => by
  dsimp only [Rd]; rw [chan_send]; exact if_neg (by omega)
theorem duties_recv_later (d s) (c : Dev nD) : ∀ r, 3 ≤ r → (Rd (F := F) M OV).duties (recvCell d s c) r = ∅ := fun r hr => by
  dsimp only [Rd]; rw [chan_recv]; exact if_neg (by omega)
theorem duties_copy_later (d s) (c : Dev nD) : ∀ r, 2 ≤ r → (Rd (F := F) M OV).duties (copyCell d s c) r = ∅ := fun r hr => by
  dsimp only [Rd]; rw [chan_copy]; exact if_neg (by omega)

theorem amount_bar (c : Dev nD) (r b) : (Rd (F := F) M OV).amount (barCell c) r b = 1 := rfl
theorem amount_send (d s) (c : Dev nD) (r b) : (Rd (F := F) M OV).amount (sendCell d s c) r b = N16 := by dsimp only [Rd]; rw [chan_send]
theorem amount_recv (d s) (c : Dev nD) (r b) : (Rd (F := F) M OV).amount (recvCell d s c) r b = N16 := by dsimp only [Rd]; rw [chan_recv]
theorem amount_copy (d s) (c : Dev nD) (r b) : (Rd (F := F) M OV).amount (copyCell d s c) r b = N32 := by dsimp only [Rd]; rw [chan_copy]

theorem expect_bar (c : Dev nD) : (Rd (F := F) M OV).expect (barCell c) 0 = 2 := rfl
theorem expect_send (d s) (c : Dev nD) {r} (hr : r < 3) : (Rd (F := F) M OV).expect (sendCell d s c) r = N16 := by
  unfold Schedule.expect Schedule.amountOf; rw [duties_send M OV d s c hr, Finset.sum_singleton, amount_send]
theorem expect_recv (d s) (c : Dev nD) {r} (hr : r < 3) : (Rd (F := F) M OV).expect (recvCell d s c) r = N16 := by
  unfold Schedule.expect Schedule.amountOf; rw [duties_recv M OV d s c hr, Finset.sum_singleton, amount_recv]
theorem expect_copy (d s) (c : Dev nD) {r} (hr : r < 2) : (Rd (F := F) M OV).expect (copyCell d s c) r = N32 := by
  unfold Schedule.expect Schedule.amountOf; rw [duties_copy M OV d s c hr, Finset.sum_singleton, amount_copy]

theorem halves (t : ℕ) : 2 * (t / 2) + (sl t).val = t := Nat.div_add_mod t 2
theorem payload_bar (c : Dev nD) (b) : (Rd (F := F) M OV).payload (barCell c) 0 b = barPay c b := rfl
theorem payload_send (d t) (c : Dev nD) (b) : (Rd (F := F) M OV).payload (sendCell d (sl t) c) (t / 2) b = sendPay d t c := by
  dsimp only [Rd]; rw [chan_send]; dsimp only; rw [halves]
theorem payload_recv (d t) (c : Dev nD) (b) : (Rd (F := F) M OV).payload (recvCell d (sl t) c) (t / 2) b = recvPay M d t c := by
  dsimp only [Rd]; rw [chan_recv]; dsimp only; rw [halves]
theorem payload_copy (d t) (c : Dev nD) (b) : (Rd (F := F) M OV).payload (copyCell d (sl t) c) (t / 2) b = copyPay OV d t c := by
  dsimp only [Rd]; rw [chan_copy]; dsimp only; rw [halves]

theorem rest_bar (c : Dev nD) : bigSep ((Rd (F := F) M OV).duties (barCell c) 0 \ ∅) (fun u => (Rd (F := F) M OV).payload (barCell c) 0 u)
    = iprop(barPay c false ∗ barPay c true) := by
  rw [Finset.sdiff_empty, duties_bar]
  exact bigSep_univ_eq_bigSepL [false, true] (by decide) (by decide) _
theorem rest_send (d t) (c : Dev nD) (ht : t < 6) :
    bigSep ((Rd (F := F) M OV).duties (sendCell d (sl t) c) (t / 2) \ ∅) (fun u => (Rd (F := F) M OV).payload (sendCell d (sl t) c) (t / 2) u) = sendPay d t c := by
  rw [Finset.sdiff_empty, duties_send M OV d _ c (by omega), bigSep_singleton, payload_send]
theorem rest_recv (d t) (c : Dev nD) (ht : t < 6) :
    bigSep ((Rd (F := F) M OV).duties (recvCell d (sl t) c) (t / 2) \ ∅) (fun u => (Rd (F := F) M OV).payload (recvCell d (sl t) c) (t / 2) u) = recvPay M d t c := by
  rw [Finset.sdiff_empty, duties_recv M OV d _ c (by omega), bigSep_singleton, payload_recv]
theorem rest_copy (d t) (c : Dev nD) (ht : t < 4) :
    bigSep ((Rd (F := F) M OV).duties (copyCell d (sl t) c) (t / 2) \ ∅) (fun u => (Rd (F := F) M OV).payload (copyCell d (sl t) c) (t / 2) u) = copyPay OV d t c := by
  rw [Finset.sdiff_empty, duties_copy M OV d _ c (by omega), bigSep_singleton, payload_copy]

/-! ## What each device owes, and the order of the waits -/

/-- The credit a device owes for send number `t` of direction `d`. -/
abbrev ow (d : Bool) (t : ℕ) (c : Dev nD) : CellTallies nD τ sig ℕ := tallyAt (recvCell d (sl t) (nx d c)) (t + 2) N16
/-- The same for the last `n` sends of both directions. -/
def Orem (c : Dev nD) : ℕ → CellTallies nD τ sig ℕ
  | 0 => 0
  | n + 1 => Orem c n + ow true (5 - n) c + ow false (5 - n) c
def O₀ (c : Dev nD) : CellTallies nD τ sig ℕ := Orem c 6 + tallyAt (barCell (nx false c)) 1 1 + tallyAt (barCell (nx true c)) 1 1

def L (g : GSem nD τ sig) : Finset ℕ := if g.1.2 = .tc then Finset.range 8 else ∅
def lv (_ : GSem nD τ sig) (i : ℕ) : ℕ := i
theorem L_of_ne (g : GSem nD τ sig) (h : g.1.2 ≠ .tc) : L g = ∅ := if_neg h

/-- Every credit still owed is on a core's cell, above level `b`. -/
def Above (b : ℕ) (O : CellTallies nD τ sig ℕ) : Prop := ∀ g u, 0 < O g u → g.1.2 = .tc ∧ b < u ∧ u < 8

theorem Above.zero (b : ℕ) : Above b 0 := fun g u h => absurd h (Nat.lt_irrefl 0)
theorem Above.mono {b b' : ℕ} {O} (h : Above b O) (hb : b' ≤ b) : Above b' O := fun g u hg => by
  have := h g u hg; exact ⟨this.1, by omega, this.2.2⟩
theorem Above.add {b : ℕ} {O O'} (h : Above b O) (h' : Above b O') : Above b (O + O') := fun g u hg => by
  rw [Pi.add_apply, Finsupp.add_apply] at hg
  rcases Nat.lt_or_ge 0 (O g u) with h1 | h1
  · exact h g u h1
  · exact h' g u (by omega)
theorem Above.tally {b : ℕ} (c : Dev nD) (sm : SemLoc sig) {i n : ℕ} (hb : b < i) (hi : i < 8) :
    Above b (tallyAt ((c : Thread nD τ), sm) i n) := fun g u hg => by
  rw [tallyAt_apply] at hg
  by_cases h : g = ((c : Thread nD τ), sm) ∧ u = i
  · rw [h.1, h.2]; exact ⟨rfl, hb, hi⟩
  · rw [if_neg h] at hg; exact absurd hg (Nat.lt_irrefl 0)
theorem Above.orem (c : Dev nD) : ∀ n, n ≤ 6 → Above (7 - n) (Orem c n)
  | 0, _ => Above.zero _
  | n + 1, h => (((Above.orem c n (by omega)).mono (by omega)).add (Above.tally _ _ (by omega) (by omega))).add
      (Above.tally _ _ (by omega) (by omega))
theorem Above.start (c : Dev nD) : Above 0 (O₀ c) :=
  (((Above.orem c 6 (by omega)).mono (by omega)).add (Above.tally _ _ (by omega) (by omega))).add (Above.tally _ _ (by omega) (by omega))

theorem mayWait {c : Dev nD} (sm : SemLoc sig) (i : ℕ) (hi : i < 8) {O} (hO : Above i O) :
    (levAts L lv : sProp 𝕄) ⊢ MayWait (c : Thread nD τ) sm i O :=
  MayOwe.of_cut (L := L) (lev := lv) i
    (fun p hp => by rw [Finset.mem_singleton.mp hp, show L ((c : Thread nD τ), sm) = Finset.range 8 from if_pos rfl]; exact Finset.mem_range.mpr hi)
    (fun g u hg => by rw [show L g = Finset.range 8 from if_pos (hO g u hg).1]; exact Finset.mem_range.mpr (hO g u hg).2.2)
    (fun p hp => by rw [Finset.mem_singleton.mp hp]; exact le_refl _)
    (fun g u hg => (hO g u hg).2.1)

end Sched

end Cert.RingGemm

end
-- ==== Proof.Steps.lean ====
/-
One rule for each kind of step of the kernel: a signal and the wait of the barrier, a send to the next device, the two
waits that end a send, a copy of a staged block into the result, the wait that ends it.
-/
module

public import proofs.«01_k».proof.Proof.Sched

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (M : Bool → ℕ → Dev nD → V16 F) (OV : Bool → ℕ → Dev nD → V32 F) (K : Dev nD × Fin 13 → ℕ)

/-- What everyone knows: every cell's invariant, and that its first round is open. -/
def records : sProp 𝕄 :=
  iprop((bigSep Finset.univ fun ck : Dev nD × Fin 13 => cellInv ER (Rd M OV) (K ck) (kcell ck))
    ∗ bigSep Finset.univ fun ck : Dev nD × Fin 13 => reached ER (kcell ck) 0)
instance records_persistent : BI.Persistent (records M OV K) := by unfold records; infer_instance

theorem inv_at (ck : Dev nD × Fin 13) {g : GSem nD τ sig} (h : kcell ck = g) : records M OV K ⊢ cellInv ER (Rd M OV) (K ck) g := by
  subst h; unfold records
  iintro ⟨#H, -⟩
  iapply (show (bigSep Finset.univ fun ck : Dev nD × Fin 13 => (cellInv ER (Rd M OV) (K ck) (kcell ck) : sProp 𝕄))
    ⊢ cellInv ER (Rd M OV) (K ck) (kcell ck) from bigSep_elim (Finset.mem_univ ck)); iexact H
theorem reached_at (ck : Dev nD × Fin 13) {g : GSem nD τ sig} (h : kcell ck = g) : records M OV K ⊢ reached ER g 0 := by
  subst h; unfold records
  iintro ⟨-, #H⟩
  iapply (show (bigSep Finset.univ fun ck : Dev nD × Fin 13 => (reached ER (kcell ck) 0 : sProp 𝕄))
    ⊢ reached ER (kcell ck) 0 from bigSep_elim (Finset.mem_univ ck)); iexact H

/-- What a device owes, whatever it has waited for so far. -/
def owesE (c : Dev nD) (O : CellTallies nD τ sig ℕ) : sProp 𝕄 := iprop(∃ W, owes (c : Thread nD τ) O W)

/-- The right to make send number `t` of direction `d`. -/
def toks (d : Bool) (t : ℕ) (c : Dev nD) : sProp 𝕄 :=
  iprop(dutyTok ER (sendCell d (sl t) c) (t / 2) false ∗ dutyTok ER (recvCell d (sl t) (nx d c)) (t / 2) false)

section Rules

variable (c : Dev nD) {α : Type}

local notation "WP" => wp frame (wpE (defs₀ (F := F)) 𝒱₀ (c : Thread nD τ) none) Set.univ

/-- The signal that gives the neighbour against direction `b` this device's two landing slots of direction `b`. -/
theorem wp_bar_signal (b : Bool) (O : CellTallies nD τ sig ℕ) {n : Dev nD} (hn : n = nx (!b) c)
    {k : PUnit → Prog (TpuEff nD τ sig (Elt F) Λ₀ .tc) α} {Q : α → sProp 𝕄} :
    records M OV K ⊢ iprop(commA c b 0 -∗ commA c b 1 -∗ owesE c (O + tallyAt (barCell (nx (!b) c)) 1 1)
      -∗ dutyTok ER (barCell (nx (!b) c)) 0 b
      -∗ (owesE c O -∗ WP (k ⟨⟩) Q)
      -∗ WP (.op (.semSignal (n : Thread nD τ) barS 1) k) Q) := by
  subst hn
  unfold owesE
  iintro #HR H0 H1 ⟨%W, HO⟩ Ht Hk
  iapply (Rounds.wp_signal 𝒱₀ ER (Rd M OV) (c : Thread nD τ) none (dst := (nx (!b) c : Thread nD τ)) (κ := K (nx (!b) c, 0)) (d := b) (r := 0)
      (by rw [duties_bar]; exact Finset.mem_univ _) (amount_bar M OV (nx (!b) c) 0 b) 1 O rfl) $$ [HO Ht H0 H1]
  · isplitr; · iapply (inv_at M OV K (nx (!b) c, 0) (kcell_bar _)); iexact HR
    isplitl [HO]; · iexact HO
    isplitl [Ht]; · iexact Ht
    isplitl [H0 H1]
    · rw [payload_bar]; unfold barPay; rw [nx_nx_not]
      isplitl [H0] <;> iassumption
    · iapply (reached_at M OV K (nx (!b) c, 0) (kcell_bar _)); iexact HR
  iintro HO
  iapply Hk
  iexists W; iexact HO

/-- The wait for both neighbours' signals: their landing slots come with it. -/
theorem wp_bar_wait (O : CellTallies nD τ sig ℕ) (hO : Above 1 O)
    {k : PUnit → Prog (TpuEff nD τ sig (Elt F) Λ₀ .tc) α} {Q : α → sProp 𝕄} :
    records M OV K ⊢ iprop(levAts L lv -∗ cred (tallyAt (barCell c) 1 2) -∗ owesE c O -∗ atPos ER (barCell c) 0 ∅ 0
      -∗ ((barPay c false ∗ barPay c true ∗ owesE c O ∗ atPos ER (barCell c) 1 ∅ 0) -∗ WP (k ⟨⟩) Q)
      -∗ WP (.op (.semWait barS 2) k) Q) := by
  unfold owesE
  iintro #HR #Hlev Hc ⟨%W, HO⟩ Hat Hk
  iapply (Rounds.wp_wait_rest_token 𝒱₀ ER (Rd M OV) (c : Thread nD τ) none (κ := K (c, 0))
      (wpE_semWait_eq 𝒱₀ (c : Thread nD τ) none Set.univ) (Set.mem_univ _) 1 (O := O) (W := W) (R := 0) (m := 0) (T := ∅)
      (by rw [expect_bar])) $$ [Hc HO Hat]
  · isplitr; · iapply (inv_at M OV K (c, 0) (kcell_bar _)); iexact HR
    isplitl [Hc]; · iexact Hc
    isplitl [HO]; · iexact HO
    isplitr; · iapply (mayWait (F := F) (.reg barS) 1 (by decide) hO); iexact Hlev
    iexact Hat
  iintro ⟨HO, Hat, -, Hpay⟩
  ihave Hp := (Entails.of_eq (rest_bar M OV c)) $$ Hpay
  icases Hp with ⟨Hf, Ht⟩
  iapply Hk
  isplitl [Hf]; · iexact Hf
  isplitl [Ht]; · iexact Ht
  isplitl [HO]; · iexists _; iexact HO
  iexact Hat

/-- Send number `t` of direction `d`. -/
theorem wp_hop_send (d : Bool) (t : ℕ) (ht : t < 6) (O : CellTallies nD τ sig ℕ) {n : Dev nD} (hn : n = nx d c)
    {src : Memref sig (c : Thread nD τ).2.kind .vmem S512x2048 .bf16} (hsrc : src = accB (bk d t c) d)
    {dst : Memref sig (Dev.tc n : Thread nD τ).2.kind .vmem S512x2048 .bf16} (hdst : dst = commS d (sl t))
    {qs qr : DmaSem sig} (hqs : qs = sendQ d (sl t)) (hqr : qr = recvQ d (sl t))
    {hsc : dst.view.ref.isScScratch = false} {h1 : src.view.WordExact} {h2 : dst.view.WordExact}
    {h3 : DmaTarget.Typed .vmem (.dma qr) (.remote (Dev.tc n : Thread nD τ) dst (.dma qs) hsc)}
    {k : PUnit → Prog (TpuEff nD τ sig (Elt F) Λ₀ .tc) α} {Q : α → sProp 𝕄} :
    records M OV K ⊢ iprop(accH c (bk d t c) d (M d t c) -∗ commA (nx d c) d (sl t) -∗ fb d t (nx d c) -∗ owesE c (O + ow d t c)
      -∗ toks d t c -∗ reached ER (sendCell d (sl t) c) (t / 2) -∗ reached ER (recvCell d (sl t) (nx d c)) (t / 2)
      -∗ ((cred (tallyAt (sendCell d (sl t) c) 0 N16) ∗ owesE c O) -∗ WP (k ⟨⟩) Q)
      -∗ WP (.op (.enqueueDma src (.remote (Dev.tc n : Thread nD τ) dst (.dma qs) hsc) (.dma qr) h1 h2 h3) k) Q) := by
  subst hn; subst hsrc; subst hdst; subst hqs; subst hqr
  unfold owesE toks commA
  iintro #HR Hs ⟨%y, Hd⟩ Hf ⟨%W, HO⟩ ⟨Hts, Htr⟩ #Hrs #Hrr Hk
  unfold accH commH owns
  icases Hs with ⟨%fs, %hfs, Hs⟩
  icases Hd with ⟨%fd, %hfd, Hd⟩
  iapply (Rounds.wp_send_pointsTo_with 𝒱₀ ER (Rd M OV) (c : Thread nD τ) none (κ₁ := K (c, sendK d (sl t))) (κ₂ := K (nx d c, recvK d (sl t)))
    (c' := (Dev.tc (nx d c) : Thread nD τ)) (src := accB (bk d t c) d) (dst := commS d (sl t)) (sS := .dma (sendQ d (sl t))) (sem := .dma (recvQ d (sl t)))
    (r₁ := t / 2) (r₂ := t / 2) (d₁ := false) (d₂ := false) (fs := fs) (fd := fd) (F := fb d t (nx d c)) (q := fullShare)
    (by rw [duties_send M OV d _ c (by omega)]; exact Finset.mem_singleton_self _)
    (by rw [duties_recv M OV d _ (nx d c) (by omega)]; exact Finset.mem_singleton_self _)
    (t + 2) 0 N16 (credit_comm d (sl t)) (amount_send M OV d _ c _ _) (amount_recv M OV d _ (nx d c) _ _) O rfl (W := W)
    (by rw [payload_send]; unfold sendPay accA accH owns
        iintro H; iexists _; iexists fs; isplitr; · ipureintro; rfl
        iexact H)
    (by rw [payload_recv]; unfold recvPay commH owns; rw [pv_nx]
        iintro ⟨H, Hf⟩
        isplitl [H]
        · iexists _
          isplitr
          rotate_left
          · iexact H
          · ipureintro
            rw [View.read_write_univ, hfs]
        · iexact Hf)) $$ [Hs Hd Hf HO Hts Htr]
  · isplitr; · iapply (inv_at M OV K (c, sendK d (sl t)) (kcell_send d _ c)); iexact HR
    isplitr; · iapply (inv_at M OV K (nx d c, recvK d (sl t)) (kcell_recv d _ _)); iexact HR
    isplitl [Hs]; · iexact Hs
    isplitl [Hd Hf]
    · isplitl [Hd] <;> iassumption
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- The two waits that end send number `t` of direction `d`: the block sent is this device's again, and the block the
    device before it sent has landed. -/
theorem wp_hop_wait (d : Bool) (t : ℕ) (ht : t < 6) (O : CellTallies nD τ sig ℕ) (hO : Above (t + 2) O)
    {A : Memref sig (c : Thread nD τ).2.kind .vmem S512x2048 .bf16} (hA : A = accB (bk d t c) d)
    {C : Memref sig (c : Thread nD τ).2.kind .vmem S512x2048 .bf16} (hC : C = commS d (sl t))
    {qs qr : DmaSem sig} (hqs : qs = sendQ d (sl t)) (hqr : qr = recvQ d (sl t))
    {h1 : A.view.WordExact} {h2 : C.view.WordExact} {h3 : A.view.WordExact} {h4 : C.view.WordExact}
    {k : PUnit → Prog (TpuEff nD τ sig (Elt F) Λ₀ .tc) α} {Q : α → sProp 𝕄} :
    records M OV K ⊢ iprop(levAts L lv -∗ cred (tallyAt (sendCell d (sl t) c) 0 N16) -∗ cred (tallyAt (recvCell d (sl t) c) (t + 2) N16)
      -∗ owesE c O -∗ atPos ER (sendCell d (sl t) c) (t / 2) ∅ 0 -∗ atPos ER (recvCell d (sl t) c) (t / 2) ∅ 0
      -∗ ((accA c (bk d t c) d ∗ commH c d (sl t) (M d t (pv d c)) ∗ fb d t c ∗ owesE c O
          ∗ atPos ER (sendCell d (sl t) c) (t / 2 + 1) ∅ 0 ∗ atPos ER (recvCell d (sl t) c) (t / 2 + 1) ∅ 0
          ∗ reached ER (sendCell d (sl t) c) (t / 2 + 1) ∗ reached ER (recvCell d (sl t) c) (t / 2 + 1)) -∗ WP (k ⟨⟩) Q)
      -∗ WP (.op (.waitDma2 qs C A h2 h1) fun _ => .op (.waitDma2 qr A C h3 h4) k) Q) := by
  subst hA; subst hC; subst hqs; subst hqr
  unfold owesE
  iintro #HR #Hlev Hcs Hcr ⟨%W, HO⟩ Has Har Hk
  iapply (Rounds.wp_wait_rest_token 𝒱₀ ER (Rd M OV) (c : Thread nD τ) none (κ := K (c, sendK d (sl t)))
      (wpE_waitDma2_eq 𝒱₀ (c : Thread nD τ) none Set.univ) (Set.mem_univ _) 0 (O := O) (W := W) (R := t / 2) (m := 0) (T := ∅)
      (by rw [Nat.zero_add, expect_send M OV d _ c (by omega), credit_acc])) $$ [Hcs HO Has]
  · isplitr; · iapply (inv_at M OV K (c, sendK d (sl t)) (kcell_send d _ c)); iexact HR
    isplitl [Hcs]; · rw [credit_acc]; iexact Hcs
    isplitl [HO]; · iexact HO
    isplitr; · iapply (mayWait (F := F) _ 0 (by decide) (hO.mono (Nat.zero_le _))); iexact Hlev
    iexact Has
  iintro ⟨HO, Has, #Hrs, Hpay⟩
  ihave Ha := (Entails.of_eq (rest_send M OV d t c ht)) $$ Hpay
  iapply (Rounds.wp_wait_rest_token 𝒱₀ ER (Rd M OV) (c : Thread nD τ) none (κ := K (c, recvK d (sl t)))
      (wpE_waitDma2_eq 𝒱₀ (c : Thread nD τ) none Set.univ) (Set.mem_univ _) (t + 2) (O := O) (R := t / 2) (m := 0) (T := ∅)
      (by rw [Nat.zero_add, expect_recv M OV d _ c (by omega), credit_comm])) $$ [Hcr HO Har]
  · isplitr; · iapply (inv_at M OV K (c, recvK d (sl t)) (kcell_recv d _ c)); iexact HR
    isplitl [Hcr]; · rw [credit_comm]; iexact Hcr
    isplitl [HO]; · iexact HO
    isplitr; · iapply (mayWait (F := F) _ (t + 2) (by omega) hO); iexact Hlev
    iexact Har
  iintro ⟨HO, Har, #Hrr, Hpay⟩
  ihave Hr := (Entails.of_eq (rest_recv M OV d t c ht)) $$ Hpay
  unfold recvPay sendPay
  icases Hr with ⟨Hc, Hf⟩
  iapply Hk
  isplitl [Ha]; · iexact Ha
  isplitl [Hc]; · iexact Hc
  isplitl [Hf]; · iexact Hf
  isplitl [HO]; · iexists _; iexact HO
  isplitl [Has]; · iexact Has
  isplitl [Har]; · iexact Har
  isplitr; · iexact Hrs
  iexact Hrr

/-- A local copy that pays one duty of its semaphore, between memrefs owned at stated values. -/
theorem wp_copy_owns {sp sp' : Space} {src : Memref sig (c : Thread nD τ).2.kind sp S512x2048 .f32}
    {dst : Memref sig (c : Thread nD τ).2.kind sp' S512x2048 .f32} {q : SemLoc sig} (ck : Dev nD × Fin 13) (hck : kcell ck = ((c : Thread nD τ), q))
    {h1 : src.view.WordExact} {h2 : dst.view.WordExact} {h3 : DmaTarget.Typed (nD := nD) sp q (.here dst)}
    {k : PUnit → Prog (TpuEff nD τ sig (Elt F) Λ₀ .tc) α} {Q : α → sProp 𝕄} {X Y : V32 F} {r : ℕ} {d : Bool}
    (hd : d ∈ (Rd M OV).duties ((c : Thread nD τ), q) r) {N : ℕ} (hN : dst.view.amount q = N)
    (hk : (Rd M OV).amount ((c : Thread nD τ), q) r d = N)
    (hpay : iprop(owns (c : Thread nD τ) dst fullShare X ∗ owns (c : Thread nD τ) src fullShare X) ⊢ (Rd M OV).payload ((c : Thread nD τ), q) r d) :
    records M OV K ⊢ iprop(owns (c : Thread nD τ) src fullShare X -∗ owns (c : Thread nD τ) dst fullShare Y
      -∗ dutyTok ER ((c : Thread nD τ), q) r d -∗ reached ER ((c : Thread nD τ), q) r
      -∗ (cred (tallyAt ((c : Thread nD τ), q) 0 N) -∗ WP (k ⟨⟩) Q)
      -∗ WP (.op (.enqueueDma src (.here dst) q h1 h2 h3) k) Q) := by
  unfold owns at *
  iintro #HR ⟨%fs, %hfs, Hs⟩ ⟨%fd, %hfd, Hd⟩ Ht #Hr Hk
  iapply (Rounds.wp_copy_pointsTo 𝒱₀ ER (Rd M OV) (c : Thread nD τ) none (κ := K ck)
    (src := src) (dst := dst) (sem := q) (r := r) (d := d) (fs := fs) (fd := fd) (q := fullShare) hd
    0 N hN hk ((show _ ⊢ _ from by
        iintro ⟨Ho, Hs⟩
        isplitl [Ho]
        · iexists _
          isplitr
          rotate_left
          · iexact Ho
          · ipureintro
            rw [View.read_write_univ, hfs]
        · iexists fs; isplitr; · ipureintro; exact hfs
          iexact Hs).trans hpay)) $$ [Hs Hd Ht]
  · isplitr; · iapply (inv_at M OV K ck hck); iexact HR
    isplitl [Hs]; · iexact Hs
    isplitl [Hd]; · iexact Hd
    isplitl [Ht]; · iexact Ht
    iexact Hr
  iexact Hk

/-- The copy of a staged block into the result. -/
theorem wp_cp (d : Bool) (t : ℕ) (ht : t < 4)
    {src : Memref sig (c : Thread nD τ).2.kind .vmem S512x2048 .f32} (hsrc : src = stgS d (sl t))
    {dst : Memref sig (c : Thread nD τ).2.kind .hbm S512x2048 .f32} (hdst : dst = outB (bk d (t + 3) c) d)
    {q : DmaSem sig} (hq : q = copyQ d (sl t))
    {h1 : src.view.WordExact} {h2 : dst.view.WordExact} {h3 : DmaTarget.Typed (nD := nD) .vmem (.dma q) (.here dst)}
    {k : PUnit → Prog (TpuEff nD τ sig (Elt F) Λ₀ .tc) α} {Q : α → sProp 𝕄} :
    records M OV K ⊢ iprop(stgH c d (sl t) (OV d t c) -∗ outA c (bk d (t + 3) c) d -∗ dutyTok ER (copyCell d (sl t) c) (t / 2) false
      -∗ reached ER (copyCell d (sl t) c) (t / 2)
      -∗ (cred (tallyAt (copyCell d (sl t) c) 0 N32) -∗ WP (k ⟨⟩) Q)
      -∗ WP (.op (.enqueueDma src (.here dst) (.dma q) h1 h2 h3) k) Q) := by
  subst hsrc; subst hdst; subst hq
  unfold outA stgH outH
  iintro #HR Hs ⟨%y, Hd⟩ Ht #Hr Hk
  iapply (wp_copy_owns M OV K c (X := OV d t c) (Y := y) (r := t / 2) (d := false) (N := N32) (c, copyK d (sl t)) (kcell_copy d _ c)
    (src := stgS d (sl t)) (dst := outB (bk d (t + 3) c) d)
    (by rw [duties_copy M OV d _ c (by omega)]; exact Finset.mem_singleton_self _)
    (credit_out _ _) (amount_copy M OV d _ c _ _)
    (by rw [payload_copy]; unfold copyPay stgA stgH outH
        iintro ⟨Ho, Hs⟩
        isplitl [Hs]; · iexists _; iexact Hs
        iexact Ho)) $$ HR Hs Hd Ht Hr
  iexact Hk

/-- The wait that ends it. -/
theorem wp_cp_wait (d : Bool) (t : ℕ) (ht : t < 4) (O : CellTallies nD τ sig ℕ) (hO : Above 0 O)
    {sp : Space} {A : Memref sig (c : Thread nD τ).2.kind sp S512x2048 .f32}
    {C : Memref sig (c : Thread nD τ).2.kind .hbm S512x2048 .f32} (hC : C.view.dmaCredit = N32)
    {q : DmaSem sig} (hq : q = copyQ d (sl t)) {h1 : A.view.WordExact} {h2 : C.view.WordExact}
    {k : PUnit → Prog (TpuEff nD τ sig (Elt F) Λ₀ .tc) α} {Q : α → sProp 𝕄} :
    records M OV K ⊢ iprop(levAts L lv -∗ cred (tallyAt (copyCell d (sl t) c) 0 N32)
      -∗ owesE c O -∗ atPos ER (copyCell d (sl t) c) (t / 2) ∅ 0
      -∗ ((stgA c d (sl t) ∗ outH c (bk d (t + 3) c) d (OV d t c) ∗ owesE c O
          ∗ atPos ER (copyCell d (sl t) c) (t / 2 + 1) ∅ 0 ∗ reached ER (copyCell d (sl t) c) (t / 2 + 1)) -∗ WP (k ⟨⟩) Q)
      -∗ WP (.op (.waitDma2 q A C h1 h2) k) Q) := by
  subst hq
  unfold owesE
  iintro #HR #Hlev Hcs ⟨%W, HO⟩ Has Hk
  iapply (Rounds.wp_wait_rest_token 𝒱₀ ER (Rd M OV) (c : Thread nD τ) none (κ := K (c, copyK d (sl t)))
      (wpE_waitDma2_eq 𝒱₀ (c : Thread nD τ) none Set.univ) (Set.mem_univ _) 0 (O := O) (W := W) (R := t / 2) (m := 0) (T := ∅)
      (by rw [Nat.zero_add, expect_copy M OV d _ c (by omega), hC])) $$ [Hcs HO Has]
  · isplitr; · iapply (inv_at M OV K (c, copyK d (sl t)) (kcell_copy d _ c)); iexact HR
    isplitl [Hcs]; · rw [hC]; iexact Hcs
    isplitl [HO]; · iexact HO
    isplitr; · iapply (mayWait (F := F) _ 0 (by decide) hO); iexact Hlev
    iexact Has
  iintro ⟨HO, Has, #Hrs, Hpay⟩
  ihave Ha := (Entails.of_eq (rest_copy M OV d t c ht)) $$ Hpay
  unfold copyPay
  icases Ha with ⟨Hs, Ho⟩
  iapply Hk
  isplitl [Hs]; · iexact Hs
  isplitl [Ho]; · iexact Ho
  isplitl [HO]; · iexists _; iexact HO
  isplitl [Has]; · iexact Has
  iexact Hrs

end Rules

end Cert.RingGemm

end
-- ==== Proof.Split.lean ====
/-
A memref held piece by piece: cut into a family of rectangles and put together again.
-/
module

public import Idealize.ShloMosaic.Lib.Ring
public import Idealize.ShloMosaic.Lib.ViewIndex
public import Idealize.ShloMosaic.Lib.Memref

@[expose] public section

noncomputable section

namespace Cert.RingGemm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring (pointsTo_sub_blocks pointsTo_sub_blocks_join_exists)

variable {nD : Nat} {τ : Topo} {sig : RefSig} {Ix : Type} [DecidableEq Ix] {Val : EltTy → Type} [∀ e, Nonempty (Val e)] {Name : Type} [DecidableEq Name]
variable {U : Type} [URA U] {Lvl : Type}

local notation "𝕄" => MT nD τ sig Ix Val Name U Lvl

/-- Piecewise entailment. -/
theorem bigSep_each {B : Type} {S : Finset B} {Φ Ψ : B → sProp 𝕄} (h : ∀ b, Φ b ⊢ Ψ b) : bigSep S Φ ⊢ bigSep S Ψ :=
  bigSep_mono fun b _ => h b

section Generic

variable {sp : Space} {s : Shape} {e : EltTy} (m : Memref sig .tc sp s e) (c : Dev nD)
variable {B : Type} [Fintype B] [DecidableEq B] (R : B → Rect s) (hs : ∀ b a, (R b).stride a = 1)
  (hd : ∀ b b', b ≠ b' → Disjoint (R b).set (R b').set) (hc : Finset.univ.biUnion (fun b => (R b).set) = Finset.univ)

include hd in
theorem slice_disjoint (b b' : B) (h : b ≠ b') : Disjoint (m.view.slice (R b)).set (m.view.slice (R b')).set := by
  rw [View.set_slice, View.set_slice]
  exact (Finset.disjoint_map _).mpr (hd b b' h)
include hc in
theorem slice_cover : Finset.univ.biUnion (fun b => (m.view.slice (R b)).set) = m.view.set := by
  ext i
  constructor
  · intro h
    obtain ⟨b, -, hb⟩ := Finset.mem_biUnion.mp h
    exact View.set_slice_subset (v := m.view) (R b) hb
  · intro h
    obtain ⟨x, -, hx⟩ := Finset.mem_map.mp h
    have hx' : x ∈ Finset.univ.biUnion (fun b => (R b).set) := by rw [hc]; exact Finset.mem_univ _
    obtain ⟨b, -, hb⟩ := Finset.mem_biUnion.mp hx'
    refine Finset.mem_biUnion.mpr ⟨b, Finset.mem_univ _, ?_⟩
    rw [View.set_slice]
    exact Finset.mem_map.mpr ⟨x, hb, hx⟩

/-- The elements of a piece, as elements of the buffer. -/
def pieceSet (b : B) : Finset (Idx (View.loc (c : Thread nD τ) m.view)) := (m.view.slice (R b)).set
theorem pieceSet_disjoint (hd : ∀ b b', b ≠ b' → Disjoint (R b).set (R b').set) (b b' : B) (h : b ≠ b') :
    Disjoint (pieceSet (τ := τ) m c R b) (pieceSet (τ := τ) m c R b') := slice_disjoint m R hd b b' h
theorem pieceSet_cover (hc : Finset.univ.biUnion (fun b => (R b).set) = Finset.univ) :
    Finset.univ.biUnion (pieceSet (τ := τ) m c R) = m.view.set := slice_cover m R hc

include hd hc in
theorem pieces_eq (f : Buf Val (View.loc (c : Thread nD τ) m.view)) :
    (View.loc (c : Thread nD τ) m.view ↦[m.view.set]{fullShare} f : sProp 𝕄)
      = bigSep Finset.univ fun b => (View.loc (c : Thread nD τ) m.view ↦[pieceSet (τ := τ) m c R b]{fullShare} f : sProp 𝕄) :=
  pointsTo_sub_blocks (pieceSet (τ := τ) m c R) (pieceSet_disjoint (τ := τ) m c R hd) m.view.set (pieceSet_cover (τ := τ) m c R hc) f

include hd hc in
theorem owns_split (X : s.Idx → Val e) :
    (owns (c : Thread nD τ) m fullShare X : sProp 𝕄)
      ⊢ bigSep Finset.univ fun b => owns (c : Thread nD τ) (m.slice (R b) (hs b)) fullShare (fun i => X ((R b).emb i)) := by
  unfold owns
  iintro ⟨%f, %hf, H⟩
  have key : (View.loc (c : Thread nD τ) m.view ↦[m.view.set]{fullShare} f : sProp 𝕄)
      ⊢ bigSep Finset.univ fun b => iprop(∃ g, ⌜(m.slice (R b) (hs b)).view.read Val g = fun i => X ((R b).emb i)⌝
        ∗ (View.loc (c : Thread nD τ) (m.slice (R b) (hs b)).view ↦[(m.slice (R b) (hs b)).view.set]{fullShare} g)) := by
    refine BIBase.Entails.trans (Entails.of_eq (pieces_eq m c R hd hc f)) (bigSep_each fun b => ?_)
    iintro H
    iexists f
    isplitr
    · ipureintro; rw [← hf]; rfl
    · iexact H
  iapply key; iexact H

include hd hc in
theorem owns_join (X : s.Idx → Val e) :
    (bigSep Finset.univ fun b => owns (c : Thread nD τ) (m.slice (R b) (hs b)) fullShare (fun i => X ((R b).emb i)))
      ⊢ (owns (c : Thread nD τ) m fullShare X : sProp 𝕄) := by
  obtain ⟨g, hg⟩ : ∃ g, m.view.read Val g = X :=
    ⟨m.view.write Val (Classical.choice (by infer_instance)) X Finset.univ, View.read_write_univ _ _⟩
  refine BIBase.Entails.trans ?_ (BIBase.Entails.trans (Entails.of_eq (pieces_eq m c R hd hc g).symm) ?_)
  · refine bigSep_each fun b => ?_
    unfold owns
    iintro ⟨%f, %hf, H⟩
    have hi : ∀ i ∈ pieceSet (τ := τ) m c R b, f i = g i := by
      intro i hi
      obtain ⟨x, -, rfl⟩ := Finset.mem_map.mp hi
      refine View.eq_of_read_eq (v := m.view.slice (R b)) (Val := Val) (x := x) ?_
      rw [show (m.view.slice (R b)).read Val f x = X ((R b).emb x) from congrFun hf x, ← hg]; rfl
    iapply (Entails.of_eq (pointsTo_congr (q := fullShare) (f := f) (g := g) hi))
    iexact H
  · unfold owns
    iintro H
    iexists g; isplitr; · ipureintro; exact hg
    iexact H

include hd hc in
theorem owns_join_any :
    (bigSep Finset.univ fun b => iprop(∃ Y, owns (c : Thread nD τ) (m.slice (R b) (hs b)) fullShare Y))
      ⊢ (iprop(∃ X : s.Idx → Val e, owns (c : Thread nD τ) m fullShare X) : sProp 𝕄) := by
  refine BIBase.Entails.trans (bigSep_each (Ψ := fun b => iprop(∃ f : Buf Val (View.loc (c : Thread nD τ) m.view),
    (View.loc (c : Thread nD τ) m.view ↦[pieceSet (τ := τ) m c R b]{fullShare} f))) fun b => ?_) (BIBase.Entails.trans
    (pointsTo_sub_blocks_join_exists (ℓ := View.loc (c : Thread nD τ) m.view) (pieceSet (τ := τ) m c R) (pieceSet_disjoint (τ := τ) m c R hd) m.view.set
      (pieceSet_cover (τ := τ) m c R hc) (Classical.choice (by infer_instance))) ?_)
  · unfold owns
    iintro ⟨%Y, %f, -, H⟩
    iexists f; iexact H
  · unfold owns
    iintro ⟨%g, H⟩
    iexists _; iexists g
    isplitr; · ipureintro; rfl
    iexact H

theorem owns_squeeze_any {s' : Shape} (h : s.Squeezes s') :
    (iprop(∃ X, owns (c : Thread nD τ) m fullShare X) : sProp 𝕄) ⊢ iprop(∃ X : s'.Idx → Val e, owns (c : Thread nD τ) (m.squeeze s' h) fullShare X) := by
  unfold owns
  iintro ⟨%X, %f, -, H⟩
  iexists _; iexists f
  isplitr; · ipureintro; rfl
  rw [show (m.squeeze s' h).view.set = m.view.set from View.set_reshape _ _]
  iexact H
theorem owns_unsqueeze_any {s' : Shape} (h : s.Squeezes s') :
    (iprop(∃ X : s'.Idx → Val e, owns (c : Thread nD τ) (m.squeeze s' h) fullShare X) : sProp 𝕄) ⊢ iprop(∃ X, owns (c : Thread nD τ) m fullShare X) := by
  unfold owns
  iintro ⟨%X, %f, -, H⟩
  iexists _; iexists f
  isplitr; · ipureintro; rfl
  rw [← show (m.squeeze s' h).view.set = m.view.set from View.set_reshape _ _]
  iexact H

end Generic

/-- A whole buffer at some contents. -/
theorem owns_buf (b : Ref sig .tc) (c : Dev nD) :
    iprop(∃ f : Buf Val ((c : Thread nD τ).loc b), (c : Thread nD τ).loc b ↦{fullShare} f)
      ⊢ (iprop(∃ X, owns (c : Thread nD τ) (Memref.whole b) fullShare X) : sProp 𝕄) := by
  iintro ⟨%f, H⟩
  iexists f; iapply (Entails.of_eq (owns_whole (c : Thread nD τ) b fullShare f).symm); iexact H
theorem buf_owns (b : Ref sig .tc) (c : Dev nD) :
    (iprop(∃ X, owns (c : Thread nD τ) (Memref.whole b) fullShare X) : sProp 𝕄)
      ⊢ iprop(∃ f : Buf Val ((c : Thread nD τ).loc b), (c : Thread nD τ).loc b ↦{fullShare} f) := by
  iintro ⟨%f, H⟩
  iexists f; iapply (Entails.of_eq (owns_whole (c : Thread nD τ) b fullShare f)); iexact H

end Cert.RingGemm

end
-- ==== Proof.Pieces.lean ====
/-
How the whole buffers are cut into blocks and slots, and put together again.
-/
module

public import proofs.«01_k».proof.Proof.Steps
public import proofs.«01_k».proof.Proof.Split

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (lead_disjoint lead_cover bigSep_fin2)

variable {F : FTy → Type} [FloatOps F]

local notation "𝕄" => MT nD τ sig ℕ (Elt F) ℕ UU ℕ

/-! ## Chunks and blocks of a 4096 x 2048 array -/

theorem cOff_inb (j : Dev nD) : ∀ a, cOff j a + S1024x2048.size a ≤ S4096x2048.size a := by revert j; decide
abbrev cRect (j : Dev nD) : Rect S4096x2048 := Rect.unit (s := S4096x2048) (cOff j) S1024x2048.size (cOff_inb j)
theorem hOff_inb (h : Bool) : ∀ a, (![if h then 512 else 0, 0] : Fin 2 → ℕ) a + S512x2048.size a ≤ S1024x2048.size a := by revert h; decide
abbrev hRect (h : Bool) : Rect S1024x2048 := Rect.unit (s := S1024x2048) ![if h then 512 else 0, 0] S512x2048.size (hOff_inb h)

/-- Half `h` of a chunk. -/
def half (h : Bool) {α : Type} (w : S1024x2048.Idx → α) : S512x2048.Idx → α := fun i => w ((hRect h).emb i)

theorem emb_block (j : Dev nD) (h : Bool) (i : S512x2048.Idx) : (bRect j h).emb i = (cRect j).emb ((hRect h).emb i) := by
  funext a; apply Fin.ext
  simp only [Rect.emb_apply]
  fin_cases a <;> cases h <;> simp [bRect, cRect, hRect, bOff, cOff, Rect.unit] <;> omega

theorem cSet_disjoint (j j' : Dev nD) (hj : j ≠ j') : Disjoint (cRect j).set (cRect j').set :=
  lead_disjoint (s := S4096x2048) (0 : Fin 2) 1024 (fun j : Fin 4 => cOff j) S1024x2048.size cOff_inb (fun _ => rfl) rfl j j' hj
theorem cSet_cover : Finset.univ.biUnion (fun j : Dev nD => (cRect j).set) = Finset.univ :=
  lead_cover (s := S4096x2048) (0 : Fin 2) 1024 (fun j : Fin 4 => cOff j) S1024x2048.size cOff_inb (fun _ => rfl)
    (by intro b a ha; fin_cases a; · exact absurd rfl ha
        · rfl)
    rfl (by intro a ha; fin_cases a; · exact absurd rfl ha
            · rfl) rfl

theorem mem_bSet {j : Dev nD} {h : Bool} {i : S4096x2048.Idx} :
    i ∈ (bRect j h).set ↔ 1024 * j.val + (if h then 512 else 0) ≤ (i 0).val ∧ (i 0).val < 1024 * j.val + (if h then 512 else 0) + 512 := by
  rw [Rect.mem_set_unit]
  constructor
  · intro H; exact H 0
  · intro H a
    fin_cases a
    · exact H
    · exact ⟨Nat.zero_le _, by simpa [bOff] using (i 1).isLt⟩
theorem mem_cSet {j : Dev nD} {i : S4096x2048.Idx} : i ∈ (cRect j).set ↔ 1024 * j.val ≤ (i 0).val ∧ (i 0).val < 1024 * j.val + 1024 := by
  rw [Rect.mem_set_unit]
  constructor
  · intro H; exact H 0
  · intro H a
    fin_cases a
    · exact H
    · exact ⟨Nat.zero_le _, by simpa [cOff] using (i 1).isLt⟩

theorem bSet_union (j : Dev nD) : (bRect j false).set ∪ (bRect j true).set = (cRect j).set := by
  ext i
  rw [Finset.mem_union, mem_bSet, mem_bSet, mem_cSet]
  simp only [Bool.false_eq_true, if_false, if_true]
  omega
theorem bSet_disjoint_half (j : Dev nD) : Disjoint (bRect j false).set (bRect j true).set := by
  rw [Finset.disjoint_left]; intro i h h'
  rw [mem_bSet] at h h'
  simp only [Bool.false_eq_true, if_false, if_true] at h h'
  omega

theorem bSet_disjoint (b b' : Dev nD × Bool) (hb : b ≠ b') : Disjoint (bRect b.1 b.2).set (bRect b'.1 b'.2).set := by
  obtain ⟨j, h⟩ := b; obtain ⟨j', h'⟩ := b'
  rw [Finset.disjoint_left]; intro i hi hi'
  rw [mem_bSet] at hi hi'
  apply hb
  dsimp only at hi hi'
  have hj : j = j' := by
    apply Fin.ext
    cases h <;> cases h' <;> simp only [Bool.false_eq_true, if_false, if_true] at hi hi' <;> omega
  subst hj
  cases h <;> cases h' <;> simp only [Bool.false_eq_true, if_false, if_true] at hi hi' <;> first | rfl | omega
theorem bSet_cover : Finset.univ.biUnion (fun b : Dev nD × Bool => (bRect b.1 b.2).set) = Finset.univ := by
  ext i
  simp only [Finset.mem_biUnion, Finset.mem_univ, true_and, iff_true]
  have hi : (i 0).val < 4096 := (i 0).isLt
  refine ⟨(⟨(i 0).val / 1024, by show _ < 4; omega⟩, decide (512 ≤ (i 0).val % 1024)), mem_bSet.mpr ?_⟩
  dsimp only
  by_cases h : 512 ≤ (i 0).val % 1024
  · simp only [h, decide_true, if_true]; omega
  · simp only [h, decide_false, Bool.false_eq_true, if_false]; omega

/-! ## The accumulator -/

/-- A chunk of the accumulator. -/
def accCm (j : Dev nD) : Memref sig .tc .vmem S1024x2048 .bf16 := accM.slice (cRect j) (fun _ => rfl)
def accC (c j : Dev nD) (w : Vec F S1024x2048 .bf16) : sProp 𝕄 := owns (c : Thread nD τ) (accCm j) fullShare w
def accCA (c j : Dev nD) : sProp 𝕄 := iprop(∃ w, accC (F := F) c j w)

theorem hSet_disjoint (h h' : Bool) (hh : h ≠ h') : Disjoint (hRect h).set (hRect h').set := by
  rw [Finset.disjoint_left]; intro i hi hi'
  have h1 := (Rect.mem_set_unit.mp hi) 0
  have h2 := (Rect.mem_set_unit.mp hi') 0
  cases h <;> cases h' <;> first | exact hh rfl | (simp at h1 h2; omega)
theorem hSet_cover : Finset.univ.biUnion (fun h : Bool => (hRect h).set) = Finset.univ := by
  ext i
  simp only [Finset.mem_biUnion, Finset.mem_univ, true_and, iff_true]
  have h0 : (i 0).val < 1024 := (i 0).isLt
  have h1 : (i 1).val < 2048 := (i 1).isLt
  refine ⟨decide (512 ≤ (i 0).val), Rect.mem_set_unit.mpr fun a => ?_⟩
  by_cases h : 512 ≤ (i 0).val
  · fin_cases a <;> simp [h] <;> omega
  · fin_cases a <;> simp [h] <;> omega

theorem half_piece (c j : Dev nD) (h : Bool) (x : V16 F) :
    (owns (c : Thread nD τ) ((accCm j).slice (hRect h) (fun _ => rfl)) fullShare x : sProp 𝕄) ⊢ accH c j h x := by
  have hset : ((accCm j).slice (hRect h) (fun _ => rfl)).view.set = (accB j h).view.set := by
    ext i
    constructor
    · intro hi
      obtain ⟨y, -, e⟩ := Finset.mem_map.mp hi
      exact Finset.mem_map.mpr ⟨y, Finset.mem_univ _, (emb_block j h y).trans e⟩
    · intro hi
      obtain ⟨y, -, e⟩ := Finset.mem_map.mp hi
      exact Finset.mem_map.mpr ⟨y, Finset.mem_univ _, (emb_block j h y).symm.trans e⟩
  unfold accH owns
  iintro ⟨%f, %hf, H⟩
  iexists f
  isplitr
  · ipureintro
    rw [← hf]
    funext i
    show accM.view.read (Elt F) f ((bRect j h).emb i) = accM.view.read (Elt F) f ((cRect j).emb ((hRect h).emb i))
    rw [emb_block]
  · rw [← hset]; iexact H

theorem acc_halves (c j : Dev nD) (w : Vec F S1024x2048 .bf16) :
    accC c j w ⊢ iprop(accH c j false (half false w) ∗ accH c j true (half true w)) := by
  refine BIBase.Entails.trans (owns_split (accCm j) c hRect (fun _ _ => rfl) hSet_disjoint hSet_cover w) ?_
  refine BIBase.Entails.trans (bigSep_each fun h => half_piece c j h (half h w)) ?_
  exact Entails.of_eq (bigSep_univ_eq_bigSepL [false, true] (by decide) (by decide) _)

theorem acc_split (c : Dev nD) :
    iprop(∃ f : Buf (Elt F) ((c : Thread nD τ).loc cc0_scratch0), (c : Thread nD τ).loc cc0_scratch0 ↦{fullShare} f) ⊢ bigSep Finset.univ fun j : Dev nD => accCA (F := F) c j := by
  refine BIBase.Entails.trans (owns_buf cc0_scratch0 c) ?_
  iintro ⟨%X, H⟩
  iapply (BIBase.Entails.trans (owns_split accM c cRect (fun _ _ => rfl) cSet_disjoint cSet_cover X) (bigSep_each fun j => ?_))
  · unfold accCA accC
    iintro H; iexists _; iexact H
  · iexact H

theorem acc_join (c : Dev nD) :
    (bigSep Finset.univ fun b : Dev nD × Bool => accA (F := F) c b.1 b.2)
      ⊢ iprop(∃ g : Buf (Elt F) ((c : Thread nD τ).loc cc0_scratch0), (c : Thread nD τ).loc cc0_scratch0 ↦{fullShare} g) :=
  BIBase.Entails.trans (owns_join_any accM c (fun b : Dev nD × Bool => bRect b.1 b.2) (fun _ _ => rfl) bSet_disjoint bSet_cover) (buf_owns cc0_scratch0 c)

/-! ## The result -/

/-- The result assembled from its blocks. -/
def outFull (o : Dev nD → Bool → V32 F) : Vec F S4096x2048 .f32 := fun i =>
  o ⟨(i 0).val / 1024, by have : (i 0).val < 4096 := (i 0).isLt
                          show _ < 4; omega⟩ (decide (512 ≤ (i 0).val % 1024))
    (Fin.cons ⟨(i 0).val % 512, Nat.mod_lt _ (by decide)⟩ (Fin.cons ⟨(i 1).val, (i 1).isLt⟩ (fun a => a.elim0)))

theorem outFull_block (o : Dev nD → Bool → V32 F) (j : Dev nD) (h : Bool) (i : S512x2048.Idx) :
    outFull o ((bRect j h).emb i) = o j h i := by
  have hi : (i 0).val < 512 := (i 0).isLt
  have e0 : ((bRect j h).emb i 0).val = 1024 * j.val + (if h then 512 else 0) + (i 0).val := by
    simp only [Rect.emb_apply]; simp [bRect, bOff, Rect.unit]
  have e1 : ((bRect j h).emb i 1).val = (i 1).val := by
    simp only [Rect.emb_apply]; simp [bRect, bOff, Rect.unit]
  unfold outFull
  congr 1
  · apply Fin.ext; show ((bRect j h).emb i 0).val / 1024 = j.val
    rw [e0]; cases h <;> simp only [Bool.false_eq_true, if_false, if_true] <;> omega
  · rw [e0]; cases h
    · simp only [Bool.false_eq_true, if_false, decide_eq_false_iff_not]; omega
    · simp only [if_true, decide_eq_true_eq]; omega
  · funext a
    fin_cases a
    · apply Fin.ext; show ((bRect j h).emb i 0).val % 512 = (i 0).val
      rw [e0]; cases h <;> simp only [Bool.false_eq_true, if_false, if_true] <;> omega
    · apply Fin.ext; exact e1

theorem out_split (c : Dev nD) :
    iprop(∃ f : Buf (Elt F) ((c : Thread nD τ).loc main_v1), (c : Thread nD τ).loc main_v1 ↦{fullShare} f) ⊢ bigSep Finset.univ fun b : Dev nD × Bool => outA (F := F) c b.1 b.2 := by
  refine BIBase.Entails.trans (owns_buf main_v1 c) ?_
  iintro ⟨%X, H⟩
  iapply (BIBase.Entails.trans (owns_split outM c (fun b : Dev nD × Bool => bRect b.1 b.2) (fun _ _ => rfl) bSet_disjoint bSet_cover X) (bigSep_each fun b => ?_))
  · unfold outA outH
    iintro H; iexists _; iexact H
  · iexact H

theorem out_join (c : Dev nD) (o : Dev nD → Bool → V32 F) :
    (bigSep Finset.univ fun b : Dev nD × Bool => outH (F := F) c b.1 b.2 (o b.1 b.2))
      ⊢ (((c : Thread nD τ).loc main_v1 ↦{fullShare} (outFull o : Vec F S4096x2048 .f32)) : sProp 𝕄) := by
  refine BIBase.Entails.trans (bigSep_each fun b => ?_)
    (BIBase.Entails.trans (owns_join outM c (fun b : Dev nD × Bool => bRect b.1 b.2) (fun _ _ => rfl) bSet_disjoint bSet_cover (outFull o))
      (Entails.of_eq (owns_whole (c : Thread nD τ) main_v1 fullShare (outFull o))))
  unfold outH
  rw [show o b.1 b.2 = fun i => outFull o ((bRect b.1 b.2).emb i) from funext fun i => (outFull_block o b.1 b.2 i).symm]
  exact BIBase.Entails.rfl

/-! ## The landing and staging buffers -/

theorem sSet_disjoint (s s' : Fin 2) (h : s ≠ s') : Disjoint (sRect s).set (sRect s').set :=
  lead_disjoint (s := S2x512x2048) (0 : Fin 3) 1 (fun s : Fin 2 => sOff s) S1x512x2048.size sOff_inb
    (fun b => by simp [sOff]) rfl s s' h
theorem sSet_cover : Finset.univ.biUnion (fun s : Fin 2 => (sRect s).set) = Finset.univ :=
  lead_cover (s := S2x512x2048) (0 : Fin 3) 1 (fun s : Fin 2 => sOff s) S1x512x2048.size sOff_inb (fun b => by simp [sOff])
    (by intro b a ha; fin_cases a; · exact absurd rfl ha
        · rfl
        · rfl)
    rfl (by intro a ha; fin_cases a; · exact absurd rfl ha
            · rfl
            · rfl) rfl

theorem slots_split {e : EltTy} (m : Memref sig .tc .vmem S2x512x2048 e) (c : Dev nD) :
    (iprop(∃ X, owns (c : Thread nD τ) m fullShare X) : sProp 𝕄)
      ⊢ iprop((∃ X : S512x2048.Idx → Elt F e, owns (c : Thread nD τ) ((m.slice (sRect 0) (fun _ => rfl)).squeeze S512x2048 squeezes_S1x512x2048_S512x2048) fullShare X)
        ∗ (∃ X : S512x2048.Idx → Elt F e, owns (c : Thread nD τ) ((m.slice (sRect 1) (fun _ => rfl)).squeeze S512x2048 squeezes_S1x512x2048_S512x2048) fullShare X)) := by
  iintro ⟨%X, H⟩
  ihave H2 := (BIBase.Entails.trans (owns_split m c (fun s : Fin 2 => sRect s) (fun _ _ => rfl) sSet_disjoint sSet_cover X)
    (Entails.of_eq (bigSep_fin2 _))) $$ H
  icases H2 with ⟨H0, H1⟩
  isplitl [H0]
  · iapply (owns_squeeze_any (m.slice (sRect 0) (fun _ => rfl)) c squeezes_S1x512x2048_S512x2048); iexists _; iexact H0
  · iapply (owns_squeeze_any (m.slice (sRect 1) (fun _ => rfl)) c squeezes_S1x512x2048_S512x2048); iexists _; iexact H1

theorem slots_join {e : EltTy} (m : Memref sig .tc .vmem S2x512x2048 e) (c : Dev nD) :
    iprop((∃ X : S512x2048.Idx → Elt F e, owns (c : Thread nD τ) ((m.slice (sRect 0) (fun _ => rfl)).squeeze S512x2048 squeezes_S1x512x2048_S512x2048) fullShare X)
        ∗ (∃ X : S512x2048.Idx → Elt F e, owns (c : Thread nD τ) ((m.slice (sRect 1) (fun _ => rfl)).squeeze S512x2048 squeezes_S1x512x2048_S512x2048) fullShare X))
      ⊢ (iprop(∃ X, owns (c : Thread nD τ) m fullShare X) : sProp 𝕄) := by
  refine BIBase.Entails.trans ?_ (owns_join_any m c (fun s : Fin 2 => sRect s) (fun _ _ => rfl) sSet_disjoint sSet_cover)
  refine BIBase.Entails.trans ?_ (Entails.of_eq (bigSep_fin2 _).symm)
  iintro ⟨H0, H1⟩
  isplitl [H0]
  · iapply (owns_unsqueeze_any (m.slice (sRect 0) (fun _ => rfl)) c squeezes_S1x512x2048_S512x2048); iexact H0
  · iapply (owns_unsqueeze_any (m.slice (sRect 1) (fun _ => rfl)) c squeezes_S1x512x2048_S512x2048); iexact H1

theorem comm_split_f (c : Dev nD) : iprop(∃ f : Buf (Elt F) ((c : Thread nD τ).loc cc0_scratch1), (c : Thread nD τ).loc cc0_scratch1 ↦{fullShare} f)
    ⊢ iprop(commA (F := F) c false 0 ∗ commA c false 1) :=
  BIBase.Entails.trans (owns_buf cc0_scratch1 c) (slots_split (commM false) c)
theorem comm_join_f (c : Dev nD) : iprop(commA (F := F) c false 0 ∗ commA c false 1)
    ⊢ iprop(∃ f : Buf (Elt F) ((c : Thread nD τ).loc cc0_scratch1), (c : Thread nD τ).loc cc0_scratch1 ↦{fullShare} f) :=
  BIBase.Entails.trans (slots_join (commM false) c) (buf_owns cc0_scratch1 c)
theorem comm_split_t (c : Dev nD) : iprop(∃ f : Buf (Elt F) ((c : Thread nD τ).loc cc0_scratch2), (c : Thread nD τ).loc cc0_scratch2 ↦{fullShare} f)
    ⊢ iprop(commA (F := F) c true 0 ∗ commA c true 1) :=
  BIBase.Entails.trans (owns_buf cc0_scratch2 c) (slots_split (commM true) c)
theorem comm_join_t (c : Dev nD) : iprop(commA (F := F) c true 0 ∗ commA c true 1)
    ⊢ iprop(∃ f : Buf (Elt F) ((c : Thread nD τ).loc cc0_scratch2), (c : Thread nD τ).loc cc0_scratch2 ↦{fullShare} f) :=
  BIBase.Entails.trans (slots_join (commM true) c) (buf_owns cc0_scratch2 c)
theorem stg_split_f (c : Dev nD) : iprop(∃ f : Buf (Elt F) ((c : Thread nD τ).loc cc0_scratch3), (c : Thread nD τ).loc cc0_scratch3 ↦{fullShare} f)
    ⊢ iprop(stgA (F := F) c false 0 ∗ stgA c false 1) :=
  BIBase.Entails.trans (owns_buf cc0_scratch3 c) (slots_split (stgM false) c)
theorem stg_join_f (c : Dev nD) : iprop(stgA (F := F) c false 0 ∗ stgA c false 1)
    ⊢ iprop(∃ f : Buf (Elt F) ((c : Thread nD τ).loc cc0_scratch3), (c : Thread nD τ).loc cc0_scratch3 ↦{fullShare} f) :=
  BIBase.Entails.trans (slots_join (stgM false) c) (buf_owns cc0_scratch3 c)
theorem stg_split_t (c : Dev nD) : iprop(∃ f : Buf (Elt F) ((c : Thread nD τ).loc cc0_scratch4), (c : Thread nD τ).loc cc0_scratch4 ↦{fullShare} f)
    ⊢ iprop(stgA (F := F) c true 0 ∗ stgA c true 1) :=
  BIBase.Entails.trans (owns_buf cc0_scratch4 c) (slots_split (stgM true) c)
theorem stg_join_t (c : Dev nD) : iprop(stgA (F := F) c true 0 ∗ stgA c true 1)
    ⊢ iprop(∃ f : Buf (Elt F) ((c : Thread nD τ).loc cc0_scratch4), (c : Thread nD τ).loc cc0_scratch4 ↦{fullShare} f) :=
  BIBase.Entails.trans (slots_join (stgM true) c) (buf_owns cc0_scratch4 c)

end Cert.RingGemm

end
-- ==== Proof.Mem.lean ====
/-
The loads and stores of whole chunks, the scalars, and what every block holds during the run.
-/
module

public import proofs.«01_k».proof.Proof.Pieces
public import Idealize.ShloMosaic.Lib.Pipeline.Value

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Loads and stores of chunks -/

theorem xOff_inb (j : Dev nD) : ∀ a, cOff j a + S1024x1024.size a ≤ S4096x1024.size a := by revert j; decide
abbrev xRect (j : Dev nD) : Rect S4096x1024 := Rect.unit (s := S4096x1024) (cOff j) S1024x1024.size (xOff_inb j)

/-- Rows `1024 j … 1024 j + 1023` of a device's columns of `x`. -/
def xChunk {α : Type} (X : S4096x1024.Idx → α) (j : Dev nD) : S1024x1024.Idx → α := fun i => X ((xRect j).emb i)

section Steps

variable {α : Type} (c : Dev nD)

local notation "WP" => wp frame (wpE (defs₀ (F := F)) 𝒱₀ (c : Thread nD τ) none) Set.univ

theorem ld_x {j : Dev nD} {X : Vec F S4096x1024 .bf16} {o : Fin 2 → Nat} (ho : o = cOff j) {inb hl}
    {k : Vec F S1024x1024 .bf16 → Prog (TpuEff nD τ sig (Elt F) Λ₀ .tc) α} {Q : α → sProp 𝕄} :
    iprop((c : Thread nD τ).loc cc0_stg0_0 ↦{fullShare} X) ⊢ iprop((((c : Thread nD τ).loc cc0_stg0_0 ↦{fullShare} X) -∗ WP (k (xChunk X j)) Q)
      -∗ WP (.op (.load xM (Rect.unit (s := S4096x1024) o S1024x1024.size inb).toLoadRect hl) k) Q) := by
  subst ho
  iintro H Hk
  iapply (wp_load_rect 𝒱₀ (c : Thread nD τ) none Set.univ (m := xM) (r := xRect j) (S := Finset.univ) (f := X) (Finset.subset_univ _)) $$ H
  iintro H
  iapply Hk $$ H

theorem ld_w {W : Vec F S1024x2048 .bf16} {inb hl}
    {k : Vec F S1024x2048 .bf16 → Prog (TpuEff nD τ sig (Elt F) Λ₀ .tc) α} {Q : α → sProp 𝕄} :
    iprop((c : Thread nD τ).loc cc0_stg1_0 ↦{fullShare} W) ⊢ iprop((((c : Thread nD τ).loc cc0_stg1_0 ↦{fullShare} W) -∗ WP (k W) Q)
      -∗ WP (.op (.load wM (Rect.unit (s := S1024x2048) ![0, 0] S1024x2048.size inb).toLoadRect hl) k) Q) := by
  iintro H Hk
  have e : (wM.access (Rect.unit (s := S1024x2048) ![0, 0] S1024x2048.size inb)).read (Elt F) W = W :=
    Memref.readAt_unit_zero (Elt F) cc0_stg1_0 (by funext a; fin_cases a <;> rfl) _ W
  iapply (wp_load_rect 𝒱₀ (c : Thread nD τ) none Set.univ (m := wM) (r := Rect.unit (s := S1024x2048) ![0, 0] S1024x2048.size inb) (S := Finset.univ) (f := W) (Finset.subset_univ _)) $$ H
  iintro H
  rw [e]
  iapply Hk $$ H

theorem ld_sx {X : Vec F S1 .f32} {inb hl}
    {k : Vec F S1 .f32 → Prog (TpuEff nD τ sig (Elt F) Λ₀ .tc) α} {Q : α → sProp 𝕄} :
    iprop((c : Thread nD τ).loc cc0_stg2_0 ↦{fullShare} X) ⊢ iprop((((c : Thread nD τ).loc cc0_stg2_0 ↦{fullShare} X) -∗ WP (k X) Q)
      -∗ WP (.op (.load sxM (Rect.unit (s := S1) ![0] S1.size inb).toLoadRect hl) k) Q) := by
  iintro H Hk
  have e : (sxM.access (Rect.unit (s := S1) ![0] S1.size inb)).read (Elt F) X = X :=
    Memref.readAt_unit_zero (Elt F) cc0_stg2_0 (by funext a; fin_cases a; rfl) _ X
  iapply (wp_load_rect 𝒱₀ (c : Thread nD τ) none Set.univ (m := sxM) (r := Rect.unit (s := S1) ![0] S1.size inb) (S := Finset.univ) (f := X) (Finset.subset_univ _)) $$ H
  iintro H
  rw [e]
  iapply Hk $$ H

theorem ld_sw {X : Vec F S1 .f32} {inb hl}
    {k : Vec F S1 .f32 → Prog (TpuEff nD τ sig (Elt F) Λ₀ .tc) α} {Q : α → sProp 𝕄} :
    iprop((c : Thread nD τ).loc cc0_stg3_0 ↦{fullShare} X) ⊢ iprop((((c : Thread nD τ).loc cc0_stg3_0 ↦{fullShare} X) -∗ WP (k X) Q)
      -∗ WP (.op (.load swM (Rect.unit (s := S1) ![0] S1.size inb).toLoadRect hl) k) Q) := by
  iintro H Hk
  have e : (swM.access (Rect.unit (s := S1) ![0] S1.size inb)).read (Elt F) X = X :=
    Memref.readAt_unit_zero (Elt F) cc0_stg3_0 (by funext a; fin_cases a; rfl) _ X
  iapply (wp_load_rect 𝒱₀ (c : Thread nD τ) none Set.univ (m := swM) (r := Rect.unit (s := S1) ![0] S1.size inb) (S := Finset.univ) (f := X) (Finset.subset_univ _)) $$ H
  iintro H
  rw [e]
  iapply Hk $$ H

theorem accCA_eq (c j : Dev nD) :
    accCA (F := F) c j = iprop(∃ x f, ⌜(accM.access (cRect j)).read (Elt F) f = x⌝
      ∗ ((accM.access (cRect j)).loc (c : Thread nD τ) ↦[(accM.access (cRect j)).set]{fullShare} f)) := rfl

/-- A chunk is read (and the value dropped). -/
theorem ld_chunk {j : Dev nD} {o : Fin 2 → Nat} (ho : o = cOff j) {inb hl}
    {k : Vec F S1024x2048 .bf16 → Prog (TpuEff nD τ sig (Elt F) Λ₀ .tc) α} {Q : α → sProp 𝕄} :
    accCA (F := F) c j ⊢ iprop((∀ y, accCA c j -∗ WP (k y) Q)
      -∗ WP (.op (.load accM (Rect.unit (s := S4096x2048) o S1024x2048.size inb).toLoadRect hl) k) Q) := by
  subst ho
  rw [accCA_eq]
  iintro ⟨%x, %f, %hf, H⟩ Hk
  iapply (wp_load_rect 𝒱₀ (c : Thread nD τ) none Set.univ (m := accM) (r := cRect j) (S := (accM.access (cRect j)).set) (f := f) (Finset.Subset.refl _)) $$ H
  iintro H
  iapply Hk $$ %_
  iexists x
  iexists f
  isplitr; · ipureintro; exact hf
  iexact H

theorem acc_halves' (c j : Dev nD) (w : Vec F S1024x2048 .bf16) (f) :
    iprop(⌜(accM.access (cRect j)).read (Elt F) f = w⌝
      ∗ ((accM.access (cRect j)).loc (c : Thread nD τ) ↦[(accM.access (cRect j)).set]{fullShare} f))
    ⊢ (iprop(accH c j false (half false w) ∗ accH c j true (half true w)) : sProp 𝕄) := by
  iintro H
  iapply (acc_halves (F := F) c j w)
  unfold accC owns
  iexists f; iexact H

/-- A chunk is written: its two halves are what is used from then on. -/
theorem st_chunk {j : Dev nD} {w : Vec F S1024x2048 .bf16} {o : Fin 2 → Nat} (ho : o = cOff j) {inb hx hm}
    {k : PUnit → Prog (TpuEff nD τ sig (Elt F) Λ₀ .tc) α} {Q : α → sProp 𝕄} :
    accCA (F := F) c j ⊢ iprop((accH c j false (half false w) -∗ accH c j true (half true w) -∗ WP (k ⟨⟩) Q)
      -∗ WP (.op (.store accM (Rect.unit (s := S4096x2048) o S1024x2048.size inb) w Finset.univ hx hm) k) Q) := by
  subst ho
  rw [accCA_eq]
  iintro ⟨%x, %f, %hf, H⟩ Hk
  iapply (wp_store 𝒱₀ (c : Thread nD τ) none Set.univ (m := accM) (r := cRect j) (S := (accM.access (cRect j)).set) (f := f) (w := w) (Mk := Finset.univ) (Finset.Subset.refl _)) $$ H
  iintro H
  ihave H := (acc_halves' (F := F) c j w ((accM.access (cRect j)).write (Elt F) f w Finset.univ)) $$ [H]
  rotate_left
  · icases H with ⟨H1, H2⟩
    iapply Hk $$ H1 H2
  isplitr
  rotate_left
  · iexact H
  · ipureintro; exact View.read_write_univ (v := (accCm j).view) (Val := Elt F) f w

end Steps

/-! ## The program's memrefs -/

theorem accB_of {j : Dev nD} {h : Bool} {o : Fin 2 → Nat} (ho : o = bOff j h) {inb} {hr} :
    accM.slice (Rect.unit (s := S4096x2048) o S512x2048.size inb) hr = accB j h := by subst ho; rfl
theorem outB_of {j : Dev nD} {h : Bool} {o : Fin 2 → Nat} (ho : o = bOff j h) {inb} {hr} :
    outM.slice (Rect.unit (s := S4096x2048) o S512x2048.size inb) hr = outB j h := by subst ho; rfl
theorem commS_of {d : Bool} {s : Fin 2} {m : Memref sig .tc .vmem S2x512x2048 .bf16} (hm : m = commM d) {o : Fin 3 → Nat} (ho : o = sOff s) {inb} {hr} {hq} :
    (m.slice (Rect.unit (s := S2x512x2048) o S1x512x2048.size inb) hr).squeeze S512x2048 hq = commS d s := by subst ho; subst hm; rfl
theorem stgS_of {d : Bool} {s : Fin 2} {m : Memref sig .tc .vmem S2x512x2048 .f32} (hm : m = stgM d) {o : Fin 3 → Nat} (ho : o = sOff s) {inb} {hr} {hq} :
    (m.slice (Rect.unit (s := S2x512x2048) o S1x512x2048.size inb) hr).squeeze S512x2048 hq = stgS d s := by subst ho; subst hm; rfl

/-! ## The same blocks, counted on -/

theorem off3c_0 (c : Dev nD) : k0_off3 c 0#32 = bOff (bk false 4 c) false := by rw [bk_add_four]; exact off3_0 c
theorem off4c_0 (c : Dev nD) : k0_off4 c 0#32 = bOff (bk true 4 c) true := by rw [bk_add_four]; exact off4_0 c
theorem off15c_0 (c : Dev nD) : k0_off15 c 0#32 = bOff (bk false 4 c) false := by rw [bk_add_four]; exact off15_0 c
theorem off16c_0 (c : Dev nD) : k0_off16 c 0#32 = bOff (bk true 4 c) true := by rw [bk_add_four]; exact off16_0 c
theorem off3c_1 (c : Dev nD) : k0_off3 c 1#32 = bOff (bk false 5 c) false := by rw [bk_add_four]; exact off3_1 c
theorem off4c_1 (c : Dev nD) : k0_off4 c 1#32 = bOff (bk true 5 c) true := by rw [bk_add_four]; exact off4_1 c
theorem off13c_1 (c : Dev nD) : k0_off13 c 1#32 = bOff (bk false 4 c) false := by rw [show (4 : ℕ) = 0 + 4 from rfl, bk_add_four]; exact off13_1 c
theorem off14c_1 (c : Dev nD) : k0_off14 c 1#32 = bOff (bk true 4 c) true := by rw [show (4 : ℕ) = 0 + 4 from rfl, bk_add_four]; exact off14_1 c
theorem off15c_1 (c : Dev nD) : k0_off15 c 1#32 = bOff (bk false 5 c) false := by rw [bk_add_four]; exact off15_1 c
theorem off16c_1 (c : Dev nD) : k0_off16 c 1#32 = bOff (bk true 5 c) true := by rw [bk_add_four]; exact off16_1 c
theorem off3c_2 (c : Dev nD) : k0_off3 c 2#32 = bOff (bk false 6 c) false := by rw [bk_add_four]; exact off3_2 c
theorem off4c_2 (c : Dev nD) : k0_off4 c 2#32 = bOff (bk true 6 c) true := by rw [bk_add_four]; exact off4_2 c
theorem off13c_2 (c : Dev nD) : k0_off13 c 2#32 = bOff (bk false 5 c) false := by rw [show (5 : ℕ) = 1 + 4 from rfl, bk_add_four]; exact off13_2 c
theorem off14c_2 (c : Dev nD) : k0_off14 c 2#32 = bOff (bk true 5 c) true := by rw [show (5 : ℕ) = 1 + 4 from rfl, bk_add_four]; exact off14_2 c
theorem off15c_2 (c : Dev nD) : k0_off15 c 2#32 = bOff (bk false 6 c) false := by rw [bk_add_four]; exact off15_2 c
theorem off16c_2 (c : Dev nD) : k0_off16 c 2#32 = bOff (bk true 6 c) true := by rw [bk_add_four]; exact off16_2 c

theorem bk_pv (d : Bool) (k : ℕ) (c : Dev nD) : bk d k (pv d c) = bk d (k + 1) c := by
  apply Fin.ext; simp only [bk, pv, nx]; cases d <;> simp <;> omega

/-! ## What the blocks hold -/

/-- What the run starts from, device by device. -/
structure Ins (F : FTy → Type) where
  X : Dev nD → Vec F S4096x1024 .bf16
  W : Dev nD → Vec F S1024x2048 .bf16
  sx : Dev nD → Vec F S1 .f32
  sw : Dev nD → Vec F S1 .f32

variable (I : Ins F)

/-- Device `c`'s own product for chunk `j`, half `h`. -/
def part (c j : Dev nD) (h : Bool) : V16 F := half h (k0_pay1 (xChunk (I.X c) j) (I.W c))
/-- The running sum after `t` hops. -/
def sums (d : Bool) : ℕ → Dev nD → V16 F
  | 0, c => part I c (bk d 0 c) d
  | t + 1, c => addf (part I c (bk d (t + 1) c) d) (sums d t (pv d c))
/-- The one index of an array of one element. -/
abbrev i1 : S1.Idx := Shape.Idx.first (numel1_S1.symm ▸ Nat.one_pos)
abbrev scal (c : Dev nD) : F .f32 := k0_pay11 (I.sx c i1) (I.sw c i1)
/-- The finished block, and the same rounded for the gather. -/
def fin32 (d : Bool) (c : Dev nD) : V32 F := k0_pay12 (scal I c) (sums I d 3 c)
def fin16 (d : Bool) (c : Dev nD) : V16 F := truncf .bf16 (fin32 I d c) bitsLt_bf16_f32
/-- What hop `t` sends in direction `d` from `c`. -/
def Mv (d : Bool) (t : ℕ) (c : Dev nD) : V16 F := if t < 3 then sums I d t c else fin16 I d (bk d (t - 3) c)
/-- What copy `k` writes to the result. -/
def Ov (d : Bool) (k : ℕ) (c : Dev nD) : V32 F := if k = 0 then fin32 I d c else extf .f32 (fin16 I d (bk d k c)) bitsLt_bf16_f32

theorem Mv_sum (d : Bool) (t : ℕ) (h : t < 3) (c) : Mv I d t c = sums I d t c := by unfold Mv; rw [if_pos h]
/-- A hop of the gather passes on what was received. -/
theorem Mv_pass (d : Bool) (t : ℕ) (c) : Mv I d (t + 3) (pv d c) = Mv I d (t + 4) c := by
  unfold Mv
  rw [if_neg (by omega), if_neg (by omega), show t + 3 - 3 = t by omega, show t + 4 - 3 = t + 1 by omega, bk_pv]

theorem cast_back (v : V32 F) :
    shapeCast S512x2048 (shapeCast S1x512x2048 v shapeCasts_S512x2048_S1x512x2048) shapeCasts_S1x512x2048_S512x2048 = v := by
  rw [shapeCast_shapeCast]

theorem pay1_half (c j : Dev nD) (h : Bool) : half h (k0_pay1 (xChunk (I.X c) j) (I.W c)) = part I c j h := rfl
theorem pay2_half (c j : Dev nD) (h : Bool) : half h (k0_pay2 (xChunk (I.X c) j) (I.W c)) = part I c j h := rfl
theorem pay3_half (c j : Dev nD) (h : Bool) : half h (k0_pay3 (xChunk (I.X c) j) (I.W c)) = part I c j h := rfl
theorem pay4_half (c j : Dev nD) (h : Bool) : half h (k0_pay4 (xChunk (I.X c) j) (I.W c)) = part I c j h := rfl

theorem sum_step (d : Bool) (t : ℕ) (ht : t < 3) (c : Dev nD) {y : Vec F S1x512x2048 .bf16}
    (hy : shapeCast S512x2048 y shapeCasts_S1x512x2048_S512x2048 = Mv I d t (pv d c)) :
    k0_pay5 (part I c (bk d (t + 1) c) d) y = sums I d (t + 1) c := by
  unfold k0_pay5
  dsimp only
  rw [hy, Mv_sum I d t ht, shapeCast_self]
  rfl
theorem pay6_eq : k0_pay6 (F := F) = k0_pay5 := rfl
theorem pay7_eq : k0_pay7 (F := F) = k0_pay5 := rfl
theorem pay8_eq : k0_pay8 (F := F) = k0_pay5 := rfl
theorem pay9_eq : k0_pay9 (F := F) = k0_pay5 := rfl
theorem pay10_eq : k0_pay10 (F := F) = k0_pay5 := rfl
theorem pay19_eq : k0_pay19 (F := F) = k0_pay18 := rfl
theorem pay22_eq : k0_pay22 (F := F) = k0_pay18 := rfl
theorem pay23_eq : k0_pay23 (F := F) = k0_pay18 := rfl
theorem pay26_eq : k0_pay26 (F := F) = k0_pay18 := rfl
theorem pay27_eq : k0_pay27 (F := F) = k0_pay18 := rfl
theorem pay21_eq : k0_pay21 (F := F) = k0_pay20 := rfl
theorem pay24_eq : k0_pay24 (F := F) = k0_pay20 := rfl
theorem pay25_eq : k0_pay25 (F := F) = k0_pay20 := rfl
theorem pay28_eq : k0_pay28 (F := F) = k0_pay20 := rfl
theorem pay29_eq : k0_pay29 (F := F) = k0_pay20 := rfl
theorem pay16_eq : k0_pay16 (F := F) = k0_pay13 := rfl
theorem pay17_eq : k0_pay17 (F := F) = k0_pay14 := rfl

theorem fin_round (d : Bool) (c : Dev nD) : k0_pay13 (scal I c) (sums I d 3 c) = Mv I d 3 c := by
  unfold k0_pay13 Mv
  dsimp only
  rw [shapeCast_self, if_neg (by omega), show 3 - 3 = 0 from rfl, bk_zero]
  rfl
theorem fin_stage (d : Bool) (c : Dev nD) :
    shapeCast S512x2048 (k0_pay14 (scal I c) (sums I d 3 c)) shapeCasts_S1x512x2048_S512x2048 = Ov I d 0 c := by
  unfold k0_pay14 Ov
  dsimp only
  rw [cast_back, if_pos rfl]
  rfl
theorem gather_step (d : Bool) (t : ℕ) (c : Dev nD) {y : Vec F S1x512x2048 .bf16}
    (hy : shapeCast S512x2048 y shapeCasts_S1x512x2048_S512x2048 = Mv I d (t + 3) (pv d c)) : k0_pay18 y = Mv I d (t + 4) c := by
  unfold k0_pay18
  dsimp only
  rw [hy, shapeCast_self, Mv_pass]
theorem gather_stage (d : Bool) (t : ℕ) (c : Dev nD) {y : Vec F S1x512x2048 .bf16}
    (hy : shapeCast S512x2048 y shapeCasts_S1x512x2048_S512x2048 = Mv I d (t + 3) (pv d c)) :
    shapeCast S512x2048 (k0_pay20 y) shapeCasts_S1x512x2048_S512x2048 = Ov I d (t + 1) c := by
  unfold k0_pay20
  dsimp only
  rw [hy, cast_back, Mv_pass]
  unfold Mv Ov
  rw [if_neg (by omega), if_neg (by omega), show t + 4 - 3 = t + 1 by omega]

end Cert.RingGemm

end
-- ==== Proof.Moves.lean ====
/-
The steps of the run, each stated of a slot and a round: sends, waits, copies, and the loads and stores with the value they leave.
-/
module

public import proofs.«01_k».proof.Proof.Mem

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × Fin 13 → ℕ)

section Moves

variable (c : Dev nD) {α : Type}

local notation "WP" => wp frame (wpE (defs₀ (F := F)) 𝒱₀ (c : Thread nD τ) none) Set.univ
local notation "REC" => records (Mv I) (Ov I) K

/-! ## Loads and stores -/

theorem ld_accD {j : Dev nD} {h : Bool} {o : Fin 2 → Nat} (ho : o = bOff j h) {inb hl}
    {k : V16 F → Prog (TpuEff nD τ sig (Elt F) Λ₀ .tc) α} {Q : α → sProp 𝕄} :
    accA (F := F) c j h ⊢ iprop((∀ y, accA c j h -∗ WP (k y) Q)
      -∗ WP (.op (.load accM (Rect.unit (s := S4096x2048) o S512x2048.size inb).toLoadRect hl) k) Q) := by
  unfold accA
  iintro ⟨%x, H⟩ Hk
  iapply (ld_acc (F := F) c ho) $$ H
  iintro H
  iapply Hk $$ %_
  iexists x; iexact H

theorem st_accE {j : Dev nD} {h : Bool} {w v : V16 F} (hw : w = v) {o : Fin 2 → Nat} (ho : o = bOff j h) {inb hx hm}
    {k : PUnit → Prog (TpuEff nD τ sig (Elt F) Λ₀ .tc) α} {Q : α → sProp 𝕄} :
    accA (F := F) c j h ⊢ iprop((accH c j h v -∗ WP (k ⟨⟩) Q)
      -∗ WP (.op (.store accM (Rect.unit (s := S4096x2048) o S512x2048.size inb) w Finset.univ hx hm) k) Q) := by
  subst hw
  unfold accA
  iintro ⟨%x, H⟩ Hk
  iapply (st_acc (F := F) c ho) $$ H
  iexact Hk

theorem accH_any {j : Dev nD} {h : Bool} {x : V16 F} : (accH c j h x : sProp 𝕄) ⊢ accA c j h := by
  unfold accA; iintro H; iexists x; iexact H

theorem ld_stgD {d : Bool} {s : Fin 2} {m : Memref sig .tc .vmem S2x512x2048 .f32} (hm : m = stgM d)
    {o : Fin 3 → Nat} (ho : o = sOff s) {inb hl} {k : Vec F S1x512x2048 .f32 → Prog (TpuEff nD τ sig (Elt F) Λ₀ .tc) α} {Q : α → sProp 𝕄} :
    stgA (F := F) c d s ⊢ iprop((∀ y : Vec F S1x512x2048 .f32, stgA c d s -∗ WP (k y) Q)
      -∗ WP (.op (.load m (Rect.unit (s := S2x512x2048) o S1x512x2048.size inb).toLoadRect hl) k) Q) := by
  unfold stgA
  iintro ⟨%x, H⟩ Hk
  iapply (ld_slot32 (F := F) c hm ho) $$ H
  iintro %y H
  iapply Hk $$ %_
  iexists x; iexact H

theorem st_stgE {d : Bool} {s : Fin 2} {w : Vec F S1x512x2048 .f32} {v : V32 F}
    (hw : shapeCast S512x2048 w shapeCasts_S1x512x2048_S512x2048 = v) {m : Memref sig .tc .vmem S2x512x2048 .f32} (hm : m = stgM d)
    {o : Fin 3 → Nat} (ho : o = sOff s) {inb hx hn} {k : PUnit → Prog (TpuEff nD τ sig (Elt F) Λ₀ .tc) α} {Q : α → sProp 𝕄} :
    stgA (F := F) c d s ⊢ iprop((stgH c d s v -∗ WP (k ⟨⟩) Q)
      -∗ WP (.op (.store m (Rect.unit (s := S2x512x2048) o S1x512x2048.size inb) w Finset.univ hx hn) k) Q) := by
  subst hw
  unfold stgA
  iintro ⟨%x, H⟩ Hk
  iapply (st_slot32 (F := F) c hm ho) $$ H
  iexact Hk

/-- A chunk of the product is stored. -/
theorem st_part {k k' : ℕ} (hk : bk true k' c = bk false k c) {w : Vec F S1024x2048 .bf16}
    (hw : w = k0_pay1 (xChunk (I.X c) (bk false k c)) (I.W c)) {o : Fin 2 → Nat} (ho : o = cOff (bk false k c)) {inb hx hm}
    {kk : PUnit → Prog (TpuEff nD τ sig (Elt F) Λ₀ .tc) α} {Q : α → sProp 𝕄} :
    accCA (F := F) c (bk false k c) ⊢ iprop((accH c (bk false k c) false (part I c (bk false k c) false)
        -∗ accH c (bk true k' c) true (part I c (bk true k' c) true) -∗ WP (kk ⟨⟩) Q)
      -∗ WP (.op (.store accM (Rect.unit (s := S4096x2048) o S1024x2048.size inb) w Finset.univ hx hm) kk) Q) := by
  rw [hk]
  subst hw
  exact st_chunk (F := F) c ho

/-! ## The barrier -/

/-- What a device owes between its two signals. -/
def Omid (c : Dev nD) : CellTallies nD τ sig ℕ := Orem c 6 + tallyAt (barCell (nx false c)) 1 1

theorem bar_signal (b e : Bool) (he : e = !b) (O O' : CellTallies nD τ sig ℕ)
    (hO' : O' = O + tallyAt (barCell (nx e c)) 1 1) {n : Dev nD} (hn : n = nx e c)
    {k : PUnit → Prog (TpuEff nD τ sig (Elt F) Λ₀ .tc) α} {Q : α → sProp 𝕄} :
    REC ⊢ iprop(commA c b 0 -∗ commA c b 1 -∗ owesE c O'
      -∗ dutyTok ER (barCell (nx e c)) 0 b
      -∗ (owesE c O -∗ WP (k ⟨⟩) Q)
      -∗ WP (.op (.semSignal (n : Thread nD τ) barS 1) k) Q) := by
  subst he; subst hO'
  exact wp_bar_signal (Mv I) (Ov I) K c b O hn

theorem bar_wait (O : CellTallies nD τ sig ℕ) (hO : Above 1 O)
    {k : PUnit → Prog (TpuEff nD τ sig (Elt F) Λ₀ .tc) α} {Q : α → sProp 𝕄} :
    REC ⊢ iprop(levAts L lv -∗ cred (tallyAt (barCell c) 1 2) -∗ owesE c O -∗ atPos ER (barCell c) 0 ∅ 0
      -∗ (commA (nx false c) false 0 -∗ commA (nx false c) false 1 -∗ commA (nx true c) true 0 -∗ commA (nx true c) true 1
            -∗ owesE c O -∗ atPos ER (barCell c) 1 ∅ 0 -∗ WP (k ⟨⟩) Q)
      -∗ WP (.op (.semWait barS 2) k) Q) := by
  iintro #HR #Hlev Hc HO Hat Hk
  iapply (wp_bar_wait (Mv I) (Ov I) K c O hO) $$ HR Hlev Hc HO Hat
  unfold barPay
  iintro ⟨⟨H1, H2⟩, ⟨H3, H4⟩, HO, Hat⟩
  iapply Hk $$ H1 H2 H3 H4 HO Hat

/-! ## The hops -/

theorem reached_send (d : Bool) (s : Fin 2) : REC ⊢ reached ER (sendCell d s c) 0 := reached_at (Mv I) (Ov I) K (c, sendK d s) (kcell_send d s c)
theorem reached_recv (d : Bool) (s : Fin 2) (n : Dev nD) : REC ⊢ reached ER (recvCell d s n) 0 := reached_at (Mv I) (Ov I) K (n, recvK d s) (kcell_recv d s n)
theorem reached_copy (d : Bool) (s : Fin 2) : REC ⊢ reached ER (copyCell d s c) 0 := reached_at (Mv I) (Ov I) K (c, copyK d s) (kcell_copy d s c)

/-- The slot handed over with a block. -/
theorem fb_make (d : Bool) (t : ℕ) (ht : 1 ≤ t ∧ t ≤ 4) (s' : Fin 2) (hs' : sl (t + 1) = s') (r' : ℕ) (hr' : (t + 1) / 2 = r')
    (e : Bool) (he : e = !d) (x : V16 F) :
    (commH c e s' x : sProp 𝕄) ⊢ iprop(reached ER (recvCell e s' c) r' -∗ fb d t (nx d c)) := by
  subst hs'; subst hr'; subst he
  unfold fb commA
  rw [if_pos ht, pv_nx]
  iintro H #Hr
  isplitl [H]
  · iexists x; iexact H
  · iexact Hr
theorem fb_none (d : Bool) (t : ℕ) (ht : ¬(1 ≤ t ∧ t ≤ 4)) : ⊢ (fb d t (nx d c) : sProp 𝕄) := by
  unfold fb; rw [if_neg ht]; iempintro

theorem hop_send (d : Bool) (t : ℕ) (ht : t < 6) (s : Fin 2) (hs : sl t = s) (r : ℕ) (hr : t / 2 = r) (O : CellTallies nD τ sig ℕ)
    (v : V16 F) (hv : v = Mv I d t c) (j : Dev nD) (hj : bk d t c = j) {n : Dev nD} (hn : n = nx d c)
    {src : Memref sig (c : Thread nD τ).2.kind .vmem S512x2048 .bf16} (hsrc : src = accB j d)
    {dst : Memref sig (Dev.tc n : Thread nD τ).2.kind .vmem S512x2048 .bf16} (hdst : dst = commS d s)
    {qs qr : DmaSem sig} (hqs : qs = sendQ d s) (hqr : qr = recvQ d s)
    {hsc : dst.view.ref.isScScratch = false} {h1 : src.view.WordExact} {h2 : dst.view.WordExact}
    {h3 : DmaTarget.Typed .vmem (.dma qr) (.remote (Dev.tc n : Thread nD τ) dst (.dma qs) hsc)}
    {k : PUnit → Prog (TpuEff nD τ sig (Elt F) Λ₀ .tc) α} {Q : α → sProp 𝕄} :
    REC ⊢ iprop(accH c j d v -∗ commA (nx d c) d s -∗ fb d t (nx d c) -∗ owesE c (O + ow d t c)
      -∗ toks d t c -∗ reached ER (sendCell d s c) r -∗ reached ER (recvCell d s (nx d c)) r
      -∗ (cred (tallyAt (sendCell d s c) 0 N16) -∗ owesE c O -∗ WP (k ⟨⟩) Q)
      -∗ WP (.op (.enqueueDma src (.remote (Dev.tc n : Thread nD τ) dst (.dma qs) hsc) (.dma qr) h1 h2 h3) k) Q) := by
  subst hs; subst hr; subst hv; subst hj
  iintro #HR Ha Hc Hf HO Ht #Hrs #Hrr Hk
  iapply (wp_hop_send (Mv I) (Ov I) K c d t ht O hn hsrc hdst hqs hqr) $$ HR Ha Hc Hf HO Ht Hrs Hrr
  iintro ⟨H1, H2⟩
  iapply Hk $$ H1 H2

theorem send_wait (d : Bool) (t : ℕ) (ht : t < 6) (s : Fin 2) (hs : sl t = s) (r : ℕ) (hr : t / 2 = r)
    (O : CellTallies nD τ sig ℕ) (hO : Above (t + 2) O) (j : Dev nD) (hj : bk d t c = j)
    {A : Memref sig (c : Thread nD τ).2.kind .vmem S512x2048 .bf16}
    {j' : Dev nD} (hA : A = accB j' d)
    {C : Memref sig (c : Thread nD τ).2.kind .vmem S512x2048 .bf16}
    {qs : DmaSem sig} (hqs : qs = sendQ d s) {h1 : A.view.WordExact} {h2 : C.view.WordExact}
    {k : PUnit → Prog (TpuEff nD τ sig (Elt F) Λ₀ .tc) α} {Q : α → sProp 𝕄} :
    REC ⊢ iprop(levAts L lv -∗ cred (tallyAt (sendCell d s c) 0 N16) -∗ owesE c O -∗ atPos ER (sendCell d s c) r ∅ 0
      -∗ (accA c j d -∗ owesE c O -∗ atPos ER (sendCell d s c) (r + 1) ∅ 0 -∗ reached ER (sendCell d s c) (r + 1) -∗ WP (k ⟨⟩) Q)
      -∗ WP (.op (.waitDma2 qs C A h2 h1) k) Q) := by
  subst hA; subst hqs; subst hs; subst hr; subst hj
  unfold owesE
  iintro #HR #Hlev Hcs ⟨%W, HO⟩ Has Hk
  iapply (Rounds.wp_wait_rest_token 𝒱₀ ER (Rd (Mv I) (Ov I)) (c : Thread nD τ) none (κ := K (c, sendK d (sl t)))
      (wpE_waitDma2_eq 𝒱₀ (c : Thread nD τ) none Set.univ) (Set.mem_univ _) 0 (O := O) (W := W) (R := t / 2) (m := 0) (T := ∅)
      (by rw [Nat.zero_add, expect_send (Mv I) (Ov I) d _ c (by omega), credit_acc])) $$ [Hcs HO Has]
  · isplitr; · iapply (inv_at (Mv I) (Ov I) K (c, sendK d (sl t)) (kcell_send d _ c)); iexact HR
    isplitl [Hcs]; · rw [credit_acc]; iexact Hcs
    isplitl [HO]; · iexact HO
    isplitr; · iapply (mayWait (F := F) _ 0 (by decide) (hO.mono (Nat.zero_le _))); iexact Hlev
    iexact Has
  iintro ⟨HO, Has, #Hrs, Hpay⟩
  ihave Ha := (Entails.of_eq (rest_send (Mv I) (Ov I) d t c ht)) $$ Hpay
  unfold sendPay
  iapply Hk $$ Ha [HO] Has Hrs
  iexists _; iexact HO

theorem recv_wait (d : Bool) (t : ℕ) (ht : t < 6) (s : Fin 2) (hs : sl t = s) (r : ℕ) (hr : t / 2 = r)
    (O : CellTallies nD τ sig ℕ) (hO : Above (t + 2) O)
    {A : Memref sig (c : Thread nD τ).2.kind .vmem S512x2048 .bf16}
    {C : Memref sig (c : Thread nD τ).2.kind .vmem S512x2048 .bf16} (hC : C = commS d s)
    {qr : DmaSem sig} (hqr : qr = recvQ d s) {h3 : A.view.WordExact} {h4 : C.view.WordExact}
    {k : PUnit → Prog (TpuEff nD τ sig (Elt F) Λ₀ .tc) α} {Q : α → sProp 𝕄} :
    REC ⊢ iprop(levAts L lv -∗ cred (tallyAt (recvCell d s c) (t + 2) N16) -∗ owesE c O -∗ atPos ER (recvCell d s c) r ∅ 0
      -∗ (commH c d s (Mv I d t (pv d c)) -∗ fb d t c -∗ owesE c O -∗ atPos ER (recvCell d s c) (r + 1) ∅ 0
            -∗ reached ER (recvCell d s c) (r + 1) -∗ WP (k ⟨⟩) Q)
      -∗ WP (.op (.waitDma2 qr A C h3 h4) k) Q) := by
  subst hC; subst hqr; subst hs; subst hr
  unfold owesE
  iintro #HR #Hlev Hcr ⟨%W, HO⟩ Har Hk
  iapply (Rounds.wp_wait_rest_token 𝒱₀ ER (Rd (Mv I) (Ov I)) (c : Thread nD τ) none (κ := K (c, recvK d (sl t)))
      (wpE_waitDma2_eq 𝒱₀ (c : Thread nD τ) none Set.univ) (Set.mem_univ _) (t + 2) (O := O) (W := W) (R := t / 2) (m := 0) (T := ∅)
      (by rw [Nat.zero_add, expect_recv (Mv I) (Ov I) d _ c (by omega), credit_comm])) $$ [Hcr HO Har]
  · isplitr; · iapply (inv_at (Mv I) (Ov I) K (c, recvK d (sl t)) (kcell_recv d _ c)); iexact HR
    isplitl [Hcr]; · rw [credit_comm]; iexact Hcr
    isplitl [HO]; · iexact HO
    isplitr; · iapply (mayWait (F := F) _ (t + 2) (by omega) hO); iexact Hlev
    iexact Har
  iintro ⟨HO, Har, #Hrr, Hpay⟩
  ihave Hr := (Entails.of_eq (rest_recv (Mv I) (Ov I) d t c ht)) $$ Hpay
  unfold recvPay
  icases Hr with ⟨Hc, Hf⟩
  iapply Hk $$ Hc Hf [HO] Har Hrr
  iexists _; iexact HO

/-- What came with a block. -/
theorem fb_take (d : Bool) (t : ℕ) (ht : 1 ≤ t ∧ t ≤ 4) (s' : Fin 2) (hs' : sl (t + 1) = s') (r' : ℕ) (hr' : (t + 1) / 2 = r')
    (e : Bool) (he : e = !d) :
    (fb d t c : sProp 𝕄) ⊢ iprop(commA (nx e c) e s' ∗ reached ER (recvCell e s' (nx e c)) r') := by
  subst hs'; subst hr'; subst he
  unfold fb
  rw [if_pos ht]
  exact .rfl

/-! ## The copies -/

theorem cp_start (d : Bool) (t : ℕ) (ht : t < 4) (s : Fin 2) (hs : sl t = s) (r : ℕ) (hr : t / 2 = r)
    {src : Memref sig (c : Thread nD τ).2.kind .vmem S512x2048 .f32} (hsrc : src = stgS d s)
    {dst : Memref sig (c : Thread nD τ).2.kind .hbm S512x2048 .f32} (hdst : dst = outB (bk d (t + 3) c) d)
    {q : DmaSem sig} (hq : q = copyQ d s)
    {h1 : src.view.WordExact} {h2 : dst.view.WordExact} {h3 : DmaTarget.Typed (nD := nD) .vmem (.dma q) (.here dst)}
    {k : PUnit → Prog (TpuEff nD τ sig (Elt F) Λ₀ .tc) α} {Q : α → sProp 𝕄} :
    REC ⊢ iprop(stgH c d s (Ov I d t c) -∗ outA c (bk d (t + 3) c) d -∗ dutyTok ER (copyCell d s c) r false
      -∗ reached ER (copyCell d s c) r
      -∗ (cred (tallyAt (copyCell d s c) 0 N32) -∗ WP (k ⟨⟩) Q)
      -∗ WP (.op (.enqueueDma src (.here dst) (.dma q) h1 h2 h3) k) Q) := by
  subst hs; subst hr
  exact wp_cp (Mv I) (Ov I) K c d t ht hsrc hdst hq

theorem cp_wait (d : Bool) (t : ℕ) (ht : t < 4) (s : Fin 2) (hs : sl t = s) (r : ℕ) (hr : t / 2 = r)
    (O : CellTallies nD τ sig ℕ) (hO : Above 0 O)
    {A : Memref sig (c : Thread nD τ).2.kind .vmem S512x2048 .f32}
    {C : Memref sig (c : Thread nD τ).2.kind .hbm S512x2048 .f32} (hC : C.view.dmaCredit = N32)
    {q : DmaSem sig} (hq : q = copyQ d s) {h1 : A.view.WordExact} {h2 : C.view.WordExact}
    {k : PUnit → Prog (TpuEff nD τ sig (Elt F) Λ₀ .tc) α} {Q : α → sProp 𝕄} :
    REC ⊢ iprop(levAts L lv -∗ cred (tallyAt (copyCell d s c) 0 N32) -∗ owesE c O -∗ atPos ER (copyCell d s c) r ∅ 0
      -∗ (stgA c d s -∗ outH c (bk d (t + 3) c) d (Ov I d t c) -∗ owesE c O
          -∗ atPos ER (copyCell d s c) (r + 1) ∅ 0 -∗ reached ER (copyCell d s c) (r + 1) -∗ WP (k ⟨⟩) Q)
      -∗ WP (.op (.waitDma2 q A C h1 h2) k) Q) := by
  subst hs; subst hr
  iintro #HR #Hlev Hc HO Ha Hk
  iapply (wp_cp_wait (Mv I) (Ov I) K c d t ht O hO hC hq) $$ HR Hlev Hc HO Ha
  iintro ⟨H1, H2, H3, H4, H5⟩
  iapply Hk $$ H1 H2 H3 H4 H5

end Moves

/-! ## The program's semaphores, slots and peers -/

theorem sem5_0 : ((cc0_scratch5.slice (Rect.unit (s := S2) ![0] S1.size inb_S2_S1_0)).squeeze S_ squeezes_S1_S_).sem = sendQ false 0 := by decide +kernel
theorem sem5_1 : ((cc0_scratch5.slice (Rect.unit (s := S2) ![1] S1.size inb_S2_S1_1)).squeeze S_ squeezes_S1_S_).sem = sendQ false 1 := by decide +kernel
theorem sem6_0 : ((cc0_scratch6.slice (Rect.unit (s := S2) ![0] S1.size inb_S2_S1_0)).squeeze S_ squeezes_S1_S_).sem = recvQ false 0 := by decide +kernel
theorem sem6_1 : ((cc0_scratch6.slice (Rect.unit (s := S2) ![1] S1.size inb_S2_S1_1)).squeeze S_ squeezes_S1_S_).sem = recvQ false 1 := by decide +kernel
theorem sem7_0 : ((cc0_scratch7.slice (Rect.unit (s := S2) ![0] S1.size inb_S2_S1_0)).squeeze S_ squeezes_S1_S_).sem = sendQ true 0 := by decide +kernel
theorem sem7_1 : ((cc0_scratch7.slice (Rect.unit (s := S2) ![1] S1.size inb_S2_S1_1)).squeeze S_ squeezes_S1_S_).sem = sendQ true 1 := by decide +kernel
theorem sem8_0 : ((cc0_scratch8.slice (Rect.unit (s := S2) ![0] S1.size inb_S2_S1_0)).squeeze S_ squeezes_S1_S_).sem = recvQ true 0 := by decide +kernel
theorem sem8_1 : ((cc0_scratch8.slice (Rect.unit (s := S2) ![1] S1.size inb_S2_S1_1)).squeeze S_ squeezes_S1_S_).sem = recvQ true 1 := by decide +kernel
theorem sem9_0 : ((cc0_scratch9.slice (Rect.unit (s := S2) ![0] S1.size inb_S2_S1_0)).squeeze S_ squeezes_S1_S_).sem = copyQ false 0 := by decide +kernel
theorem sem9_1 : ((cc0_scratch9.slice (Rect.unit (s := S2) ![1] S1.size inb_S2_S1_1)).squeeze S_ squeezes_S1_S_).sem = copyQ false 1 := by decide +kernel
theorem sem10_0 : ((cc0_scratch10.slice (Rect.unit (s := S2) ![0] S1.size inb_S2_S1_0)).squeeze S_ squeezes_S1_S_).sem = copyQ true 0 := by decide +kernel
theorem sem10_1 : ((cc0_scratch10.slice (Rect.unit (s := S2) ![1] S1.size inb_S2_S1_1)).squeeze S_ squeezes_S1_S_).sem = copyQ true 1 := by decide +kernel

theorem sOff_0 : (![0, 0, 0] : Fin 3 → Nat) = sOff 0 := by decide
theorem sOff_1 : (![1, 0, 0] : Fin 3 → Nat) = sOff 1 := by decide
theorem owes_next (c : Dev nD) (n t : ℕ) (h : 5 - n = t) :
    (owesE c (Orem c (n + 1)) : sProp 𝕄) ⊢ owesE c (Orem c n + ow true t c + ow false t c) := by subst h; exact .rfl
theorem flip0 (c : Dev nD) : bk true 0 c = bk false 0 c := by revert c; decide
theorem flip1 (c : Dev nD) : bk true 1 c = bk false 3 c := by revert c; decide
theorem flip2 (c : Dev nD) : bk true 2 c = bk false 2 c := by revert c; decide
theorem flip3 (c : Dev nD) : bk true 3 c = bk false 1 c := by revert c; decide
theorem Mv_zero (d : Bool) (c : Dev nD) : part I c (bk d 0 c) d = Mv I d 0 c := rfl
theorem sums_Mv1 (d : Bool) (c : Dev nD) : sums I d 1 c = Mv I d 1 c := rfl
theorem sums_Mv2 (d : Bool) (c : Dev nD) : sums I d 2 c = Mv I d 2 c := rfl
theorem credit_out0 {inb} {hr} : (outM.slice (Rect.unit (s := S4096x2048) ![0, 0] S512x2048.size inb) hr).view.dmaCredit = N32 := rfl
theorem credit_outO {j : Dev nD} {h : Bool} {o : Fin 2 → Nat} (ho : o = bOff j h) {inb} {hr} : (outM.slice (Rect.unit (s := S4096x2048) o S512x2048.size inb) hr).view.dmaCredit = N32 := by subst ho; rfl

end Cert.RingGemm

end
-- ==== Proof.RunA.lean ====
/-
The run of a device, a stretch of the program at a time (products and sums).
-/
module

public import proofs.«01_k».proof.Proof.Moves

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × Fin 13 → ℕ) (c : Dev nD)

local notation "WP" => wp frame (wpE (defs₀ (F := F)) 𝒱₀ (c : Thread nD τ) none) Set.univ
local notation "REC" => records (Mv I) (Ov I) K

theorem run_1  {h0 h1 h2 h3 h4 h5 h6 h7 h8 h9} {β : Type}
    {kk : (Σ' (d0 : Dev nD) (v2 : BitVec 32) (v14 : BitVec 32), BitVec 32) → Prog (TpuEff nD τ sig (Elt F) Λ₀ .tc) β} {Q : β → sProp 𝕄} :
    REC ⊢ iprop(levAts L lv
      -∗ commA c false 0
      -∗ commA c false 1
      -∗ owesE c (O₀ c)
      -∗ dutyTok ER (barCell (nx true c)) 0 false
      -∗ commA c true 0
      -∗ commA c true 1
      -∗ dutyTok ER (barCell (nx false c)) 0 true
      -∗ cred (tallyAt (barCell c) 1 2)
      -∗ atPos ER (barCell c) 0 ∅ 0
      -∗ (∀ w1 : BitVec 32, ∀ w2 : BitVec 32, ∀ w3 : BitVec 32, atPos ER (barCell c) 1 ∅ 0 -∗ owesE c (Orem c 6) -∗ commA (nx false c) false 0 -∗ commA (nx false c) false 1 -∗ commA (nx true c) true 0 -∗ commA (nx true c) true 1
          -∗ WP (kk ⟨c, w1, w2, w3⟩) Q)
      -∗ WP (k0_part1 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 >>= kk) Q) := by
  rw [k0_part1_eq_skeleton]; unfold k0_part1_skel
  simp only [semSignalWord, semWaitWord, smemLoad, smemLoadElt, Prog.lift, Prog.bind_op, Prog.bind_ret, Prog.pure_eq_ret, wp_deviceId]
  iintro #HR #Hlev Hcmf0 Hcmf1 HO Hbt0 Hcmt0 Hcmt1 Hbt1 Hbc Hba Hk
  iapply (bar_signal I K c false true rfl (Omid c) (O₀ c) rfl (dev1_ c)) $$ HR Hcmf0 Hcmf1 HO Hbt0; iintro HO
  iapply (bar_signal I K c true false rfl (Orem c 6) (Omid c) rfl (dev2_ c)) $$ HR Hcmt0 Hcmt1 HO Hbt1; iintro HO
  iapply (bar_wait I K c (Orem c 6) (Above.orem c 6 (by decide))) $$ HR Hlev Hbc HO Hba; iintro Hcxf0 Hcxf1 Hcxt0 Hcxt1 HO Hba
  iapply Hk $$ %_ %_ %_ Hba HO Hcxf0 Hcxf1 Hcxt0 Hcxt1

theorem run_2 (v2 : BitVec 32) {h0 h1 h2 h3 h4 h5 h6 h7 h8 h9} {β : Type}
    {kk : (Σ' (v66 : BitVec 32), BitVec 32) → Prog (TpuEff nD τ sig (Elt F) Λ₀ .tc) β} {Q : β → sProp 𝕄} :
    REC ⊢ iprop(levAts L lv
      -∗ ((c : Thread nD τ).loc cc0_stg0_0 ↦{fullShare} (I.X c))
      -∗ ((c : Thread nD τ).loc cc0_stg1_0 ↦{fullShare} (I.W c))
      -∗ accCA c (bk false 0 c)
      -∗ (∀ w0 : BitVec 32, ∀ w1 : BitVec 32, ((c : Thread nD τ).loc cc0_stg0_0 ↦{fullShare} (I.X c)) -∗ ((c : Thread nD τ).loc cc0_stg1_0 ↦{fullShare} (I.W c)) -∗ accH c (bk false 0 c) false (part I c (bk false 0 c) false) -∗ accH c (bk true 0 c) true (part I c (bk true 0 c) true)
          -∗ WP (kk ⟨w0, w1⟩) Q)
      -∗ WP (k0_part2 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 >>= kk) Q) := by
  rw [k0_part2_eq_skeleton]; unfold k0_part2_skel
  simp only [semSignalWord, semWaitWord, smemLoad, smemLoadElt, Prog.lift, Prog.bind_op, Prog.bind_ret, Prog.pure_eq_ret, wp_deviceId]
  iintro #HR #Hlev Hx Hw Hch0 Hk
  iapply (ld_x (F := F) c (off1_ c)) $$ Hx; iintro Hx
  iapply (ld_w (F := F) c) $$ Hw; iintro Hw
  iapply (ld_chunk (F := F) c (off2_ c)) $$ Hch0; iintro %u1 Hch0
  iapply (st_part (F := F) I c (k := 0) (k' := 0) (flip0 c) (w := k0_pay1 (xChunk (I.X c) (bk false 0 c)) (I.W c)) rfl (off2_ c)) $$ Hch0; iintro Haf0 Hat0
  iapply Hk $$ %_ %_ Hx Hw Haf0 Hat0

theorem run_3 (v2 : BitVec 32) (v14 : BitVec 32) (v25 : BitVec 32) (v66 : BitVec 32) (c1024_i32_39 : BitVec 32) {h0 h1 h2 h3 h4 h5 h6 h7 h8 h9} {β : Type}
    {kk : (BitVec 32) → Prog (TpuEff nD τ sig (Elt F) Λ₀ .tc) β} {Q : β → sProp 𝕄} :
    REC ⊢ iprop(levAts L lv
      -∗ accH c (bk false 0 c) false (part I c (bk false 0 c) false)
      -∗ commA (nx false c) false 0
      -∗ owesE c (Orem c 6)
      -∗ toks false 0 c
      -∗ accH c (bk true 0 c) true (part I c (bk true 0 c) true)
      -∗ commA (nx true c) true 0
      -∗ toks true 0 c
      -∗ (∀ w0 : BitVec 32, owesE c (Orem c 5) -∗ cred (tallyAt (sendCell false 0 c) 0 N16) -∗ cred (tallyAt (sendCell true 0 c) 0 N16)
          -∗ WP (kk w0) Q)
      -∗ WP (k0_part3 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 v25 v66 c1024_i32_39 >>= kk) Q) := by
  rw [k0_part3_eq_skeleton]; unfold k0_part3_skel
  simp only [semSignalWord, semWaitWord, smemLoad, smemLoadElt, Prog.lift, Prog.bind_op, Prog.bind_ret, Prog.pure_eq_ret, wp_deviceId]
  iintro #HR #Hlev Haf0 Hcxf0 HO Htkf0 Hat0 Hcxt0 Htkt0 Hk
  ihave HO := (owes_next (F := F) c 5 0 rfl) $$ HO
  ihave Hf := (fb_none (F := F) c false 0 (by decide))
  ihave #Hq1 := (reached_send I K c false 0) $$ HR
  ihave #Hq2 := (reached_recv I K false 0 (nx false c)) $$ HR
  iapply (hop_send I K c false 0 (by decide) 0 rfl 0 rfl (Orem c 5 + ow true 0 c) (part I c (bk false 0 c) false) (Mv_zero I false c) (bk false 0 c) rfl (dev3_ c) (accB_of (off3_0 c)) (commS_of (d := false) (m := Memref.whole cc0_scratch1) rfl sOff_0) sem5_0 sem6_0) $$ HR Haf0 Hcxf0 Hf HO Htkf0 Hq1 Hq2; iintro Hcsf0 HO
  ihave Hf := (fb_none (F := F) c true 0 (by decide))
  ihave #Hq1 := (reached_send I K c true 0) $$ HR
  ihave #Hq2 := (reached_recv I K true 0 (nx true c)) $$ HR
  iapply (hop_send I K c true 0 (by decide) 0 rfl 0 rfl (Orem c 5) (part I c (bk true 0 c) true) (Mv_zero I true c) (bk true 0 c) rfl (dev4_ c) (accB_of (off4_0 c)) (commS_of (d := true) (m := Memref.whole cc0_scratch2) rfl sOff_0) sem7_0 sem8_0) $$ HR Hat0 Hcxt0 Hf HO Htkt0 Hq1 Hq2; iintro Hcst0 HO
  iapply Hk $$ %_ HO Hcsf0 Hcst0

theorem run_4 (v2 : BitVec 32) (v97 : BitVec 32) {h0 h1 h2 h3 h4 h5 h6 h7 h8 h9} {β : Type}
    {kk : (Σ' (v135 : BitVec 32), BitVec 32) → Prog (TpuEff nD τ sig (Elt F) Λ₀ .tc) β} {Q : β → sProp 𝕄} :
    REC ⊢ iprop(levAts L lv
      -∗ ((c : Thread nD τ).loc cc0_stg0_0 ↦{fullShare} (I.X c))
      -∗ ((c : Thread nD τ).loc cc0_stg1_0 ↦{fullShare} (I.W c))
      -∗ accCA c (bk false 3 c)
      -∗ accCA c (bk false 2 c)
      -∗ (∀ w0 : BitVec 32, ∀ w1 : BitVec 32, ((c : Thread nD τ).loc cc0_stg0_0 ↦{fullShare} (I.X c)) -∗ ((c : Thread nD τ).loc cc0_stg1_0 ↦{fullShare} (I.W c)) -∗ accH c (bk false 3 c) false (part I c (bk false 3 c) false) -∗ accH c (bk true 1 c) true (part I c (bk true 1 c) true) -∗ accH c (bk false 2 c) false (part I c (bk false 2 c) false) -∗ accH c (bk true 2 c) true (part I c (bk true 2 c) true)
          -∗ WP (kk ⟨w0, w1⟩) Q)
      -∗ WP (k0_part4 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v97 >>= kk) Q) := by
  rw [k0_part4_eq_skeleton]; unfold k0_part4_skel
  simp only [semSignalWord, semWaitWord, smemLoad, smemLoadElt, Prog.lift, Prog.bind_op, Prog.bind_ret, Prog.pure_eq_ret, wp_deviceId]
  iintro #HR #Hlev Hx Hw Hch3 Hch2 Hk
  iapply (ld_x (F := F) c (off5_1 c)) $$ Hx; iintro Hx
  iapply (ld_w (F := F) c) $$ Hw; iintro Hw
  iapply (ld_chunk (F := F) c (off6_1 c)) $$ Hch3; iintro %u2 Hch3
  iapply (st_part (F := F) I c (k := 3) (k' := 1) (flip1 c) (w := k0_pay2 (xChunk (I.X c) (bk false 3 c)) (I.W c)) rfl (off6_1 c)) $$ Hch3; iintro Haf3 Hat1
  iapply (ld_x (F := F) c (off5_2 c)) $$ Hx; iintro Hx
  iapply (ld_w (F := F) c) $$ Hw; iintro Hw
  iapply (ld_chunk (F := F) c (off6_2 c)) $$ Hch2; iintro %u3 Hch2
  iapply (st_part (F := F) I c (k := 2) (k' := 2) (flip2 c) (w := k0_pay3 (xChunk (I.X c) (bk false 2 c)) (I.W c)) rfl (off6_2 c)) $$ Hch2; iintro Haf2 Hat2
  iapply Hk $$ %_ %_ Hx Hw Haf3 Hat1 Haf2 Hat2

theorem run_5 (v25 : BitVec 32) (v135 : BitVec 32) (c4_i32_84 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ ((c : Thread nD τ).loc cc0_stg0_0 ↦{fullShare} (I.X c))
      -∗ ((c : Thread nD τ).loc cc0_stg1_0 ↦{fullShare} (I.W c))
      -∗ accCA c (bk false 1 c)
      -∗ cred (tallyAt (sendCell false 0 c) 0 N16)
      -∗ owesE c (Orem c 5)
      -∗ atPos ER (sendCell false 0 c) 0 ∅ 0
      -∗ (((c : Thread nD τ).loc cc0_stg0_0 ↦{fullShare} (I.X c)) -∗ ((c : Thread nD τ).loc cc0_stg1_0 ↦{fullShare} (I.W c)) -∗ atPos ER (sendCell false 0 c) 1 ∅ 0 -∗ owesE c (Orem c 5) -∗ accH c (bk false 1 c) false (part I c (bk false 1 c) false) -∗ accH c (bk true 3 c) true (part I c (bk true 3 c) true) -∗ accA c (bk false 4 c) false -∗ reached ER (sendCell false 0 c) 1
          -∗ WP (kk ⟨⟩) Q)
      -∗ WP (k0_part5 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v25 v135 c4_i32_84 >>= kk) Q) := by
  rw [k0_part5_eq_skeleton]; unfold k0_part5_skel
  simp only [semSignalWord, semWaitWord, smemLoad, smemLoadElt, Prog.lift, Prog.bind_op, Prog.bind_ret, Prog.pure_eq_ret, wp_deviceId]
  iintro #HR #Hlev Hx Hw Hch1 Hcsf0 HO Hasf0 Hk
  iapply (ld_x (F := F) c (off5_3 c)) $$ Hx; iintro Hx
  iapply (ld_w (F := F) c) $$ Hw; iintro Hw
  iapply (ld_chunk (F := F) c (off6_3 c)) $$ Hch1; iintro %u4 Hch1
  iapply (st_part (F := F) I c (k := 1) (k' := 3) (flip3 c) (w := k0_pay4 (xChunk (I.X c) (bk false 1 c)) (I.W c)) rfl (off6_3 c)) $$ Hch1; iintro Haf1 Hat3
  iapply (send_wait I K c false 0 (by decide) 0 rfl 0 rfl (Orem c 5) (Above.orem c 5 (by decide)) (bk false 4 c) (bk_add_four false 0 c).symm (accB_of (off3_0 c)) sem5_0) $$ HR Hlev Hcsf0 HO Hasf0; iintro Haf0 HO Hasf0 Hrsf0
  iapply Hk $$ Hx Hw Hasf0 HO Haf1 Hat3 Haf0 Hrsf0

theorem run_6 (v2 : BitVec 32) (v14 : BitVec 32) {h0 h1 h2 h3 h4 h5 h6 h7 h8 h9} {β : Type}
    {kk : (Σ' (v194 : BitVec 32) (v196 : BitVec 32) (c4_i32_137 : BitVec 32), BitVec 32) → Prog (TpuEff nD τ sig (Elt F) Λ₀ .tc) β} {Q : β → sProp 𝕄} :
    REC ⊢ iprop(levAts L lv
      -∗ cred (tallyAt (recvCell false 0 c) 2 N16)
      -∗ owesE c (Orem c 5)
      -∗ atPos ER (recvCell false 0 c) 0 ∅ 0
      -∗ cred (tallyAt (sendCell true 0 c) 0 N16)
      -∗ atPos ER (sendCell true 0 c) 0 ∅ 0
      -∗ cred (tallyAt (recvCell true 0 c) 2 N16)
      -∗ atPos ER (recvCell true 0 c) 0 ∅ 0
      -∗ (∀ w0 : BitVec 32, ∀ w1 : BitVec 32, ∀ w2 : BitVec 32, ∀ w3 : BitVec 32, atPos ER (recvCell false 0 c) 1 ∅ 0 -∗ atPos ER (sendCell true 0 c) 1 ∅ 0 -∗ atPos ER (recvCell true 0 c) 1 ∅ 0 -∗ owesE c (Orem c 5) -∗ commH c false 0 (Mv I false 0 (pv false c)) -∗ reached ER (recvCell false 0 c) 1 -∗ accA c (bk true 4 c) true -∗ reached ER (sendCell true 0 c) 1 -∗ commH c true 0 (Mv I true 0 (pv true c)) -∗ reached ER (recvCell true 0 c) 1
          -∗ WP (kk ⟨w0, w1, w2, w3⟩) Q)
      -∗ WP (k0_part6 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 >>= kk) Q) := by
  rw [k0_part6_eq_skeleton]; unfold k0_part6_skel
  simp only [semSignalWord, semWaitWord, smemLoad, smemLoadElt, Prog.lift, Prog.bind_op, Prog.bind_ret, Prog.pure_eq_ret, wp_deviceId]
  iintro #HR #Hlev Hcrf0 HO Harf0 Hcst0 Hast0 Hcrt0 Hart0 Hk
  iapply (recv_wait I K c false 0 (by decide) 0 rfl 0 rfl (Orem c 5) (Above.orem c 5 (by decide)) (commS_of (d := false) (m := Memref.whole cc0_scratch1) rfl sOff_0) sem6_0) $$ HR Hlev Hcrf0 HO Harf0; iintro Hcmf0 Hf HO Harf0 Hrrf0
  iclear Hf
  iapply (send_wait I K c true 0 (by decide) 0 rfl 0 rfl (Orem c 5) (Above.orem c 5 (by decide)) (bk true 4 c) (bk_add_four true 0 c).symm (accB_of (off4_0 c)) sem7_0) $$ HR Hlev Hcst0 HO Hast0; iintro Hat0 HO Hast0 Hrst0
  iapply (recv_wait I K c true 0 (by decide) 0 rfl 0 rfl (Orem c 5) (Above.orem c 5 (by decide)) (commS_of (d := true) (m := Memref.whole cc0_scratch2) rfl sOff_0) sem8_0) $$ HR Hlev Hcrt0 HO Hart0; iintro Hcmt0 Hf HO Hart0 Hrrt0
  iclear Hf
  iapply Hk $$ %_ %_ %_ %_ Harf0 Hast0 Hart0 HO Hcmf0 Hrrf0 Hat0 Hrst0 Hcmt0 Hrrt0

theorem run_7 (v2 : BitVec 32) (v194 : BitVec 32) (v196 : BitVec 32) (c4_i32_137 : BitVec 32) (c0_i32_138 : BitVec 32) {h0 h1 h2 h3 h4 h5 h6 h7 h8 h9} {β : Type}
    {kk : (Σ' (v231 : BitVec 32) (c4_i32_160 : BitVec 32), BitVec 32) → Prog (TpuEff nD τ sig (Elt F) Λ₀ .tc) β} {Q : β → sProp 𝕄} :
    REC ⊢ iprop(levAts L lv
      -∗ accH c (bk false 1 c) false (part I c (bk false 1 c) false)
      -∗ commH c false 0 (Mv I false 0 (pv false c))
      -∗ accH c (bk true 1 c) true (part I c (bk true 1 c) true)
      -∗ commH c true 0 (Mv I true 0 (pv true c))
      -∗ (∀ w0 : BitVec 32, ∀ w1 : BitVec 32, ∀ w2 : BitVec 32, accH c (bk true 1 c) true (sums I true 1 c) -∗ accH c (bk false 1 c) false (sums I false 1 c) -∗ commH c false 0 (Mv I false 0 (pv false c)) -∗ commH c true 0 (Mv I true 0 (pv true c))
          -∗ WP (kk ⟨w0, w1, w2⟩) Q)
      -∗ WP (k0_part7 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v194 v196 c4_i32_137 c0_i32_138 >>= kk) Q) := by
  rw [k0_part7_eq_skeleton]; unfold k0_part7_skel
  simp only [semSignalWord, semWaitWord, smemLoad, smemLoadElt, Prog.lift, Prog.bind_op, Prog.bind_ret, Prog.pure_eq_ret, wp_deviceId]
  iintro #HR #Hlev Haf1 Hcmf0 Hat1 Hcmt0 Hk
  iapply (ld_acc (F := F) c (off7_0 c)) $$ Haf1; iintro Haf1
  iapply (ld_slot16 (F := F) c (d := false) (m := Memref.whole cc0_scratch1) rfl sOff_0) $$ Hcmf0; iintro %y5 %hy5 Hcmf0
  iapply (ld_acc (F := F) c (off7_0 c)) $$ Haf1; iintro Haf1
  ihave Haf1 := (accH_any (F := F) c) $$ Haf1
  iapply (st_accE (F := F) c (w := k0_pay5 (part I c (bk false 1 c) false) y5) (v := sums I false 1 c) (sum_step I false 0 (by decide) c hy5) (off7_0 c)) $$ Haf1; iintro Haf1
  iapply (ld_acc (F := F) c (off8_0 c)) $$ Hat1; iintro Hat1
  iapply (ld_slot16 (F := F) c (d := true) (m := Memref.whole cc0_scratch2) rfl sOff_0) $$ Hcmt0; iintro %y6 %hy6 Hcmt0
  iapply (ld_acc (F := F) c (off8_0 c)) $$ Hat1; iintro Hat1
  ihave Hat1 := (accH_any (F := F) c) $$ Hat1
  iapply (st_accE (F := F) c (w := k0_pay6 (part I c (bk true 1 c) true) y6) (v := sums I true 1 c) (sum_step I true 0 (by decide) c hy6) (off8_0 c)) $$ Hat1; iintro Hat1
  iapply Hk $$ %_ %_ %_ Hat1 Haf1 Hcmf0 Hcmt0

theorem run_8 (v2 : BitVec 32) (v25 : BitVec 32) (v231 : BitVec 32) (c4_i32_160 : BitVec 32) (c0_i32_161 : BitVec 32) {h0 h1 h2 h3 h4 h5 h6 h7 h8 h9} {β : Type}
    {kk : (BitVec 32) → Prog (TpuEff nD τ sig (Elt F) Λ₀ .tc) β} {Q : β → sProp 𝕄} :
    REC ⊢ iprop(levAts L lv
      -∗ accH c (bk false 1 c) false (sums I false 1 c)
      -∗ commA (nx false c) false 1
      -∗ owesE c (Orem c 5)
      -∗ toks false 1 c
      -∗ commH c true 0 (Mv I true 0 (pv true c))
      -∗ reached ER (recvCell true 0 c) 1
      -∗ (∀ w0 : BitVec 32, owesE c (Orem c 4 + ow true 1 c) -∗ cred (tallyAt (sendCell false 1 c) 0 N16)
          -∗ WP (kk w0) Q)
      -∗ WP (k0_part8 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v25 v231 c4_i32_160 c0_i32_161 >>= kk) Q) := by
  rw [k0_part8_eq_skeleton]; unfold k0_part8_skel
  simp only [semSignalWord, semWaitWord, smemLoad, smemLoadElt, Prog.lift, Prog.bind_op, Prog.bind_ret, Prog.pure_eq_ret, wp_deviceId]
  iintro #HR #Hlev Haf1 Hcxf1 HO Htkf1 Hcmt0 Hrrt0 Hk
  ihave HO := (owes_next (F := F) c 4 1 rfl) $$ HO
  ihave Hf := (fb_make (F := F) c false 1 (by decide) 0 rfl 1 rfl true rfl _) $$ Hcmt0 Hrrt0
  ihave #Hq1 := (reached_send I K c false 1) $$ HR
  ihave #Hq2 := (reached_recv I K false 1 (nx false c)) $$ HR
  iapply (hop_send I K c false 1 (by decide) 1 rfl 0 rfl (Orem c 4 + ow true 1 c) (sums I false 1 c) (sums_Mv1 I false c) (bk false 1 c) rfl (dev5_ c) (accB_of (off3_1 c)) (commS_of (d := false) (m := Memref.whole cc0_scratch1) rfl sOff_1) sem5_1 sem6_1) $$ HR Haf1 Hcxf1 Hf HO Htkf1 Hq1 Hq2; iintro Hcsf1 HO
  iapply Hk $$ %_ HO Hcsf1

theorem run_9 (v14 : BitVec 32) (v25 : BitVec 32) (c1_i32_187 : BitVec 32) {h0 h1 h2 h3 h4 h5 h6 h7 h8 h9} {β : Type}
    {kk : (BitVec 32) → Prog (TpuEff nD τ sig (Elt F) Λ₀ .tc) β} {Q : β → sProp 𝕄} :
    REC ⊢ iprop(levAts L lv
      -∗ accH c (bk true 1 c) true (sums I true 1 c)
      -∗ commA (nx true c) true 1
      -∗ owesE c (Orem c 4 + ow true 1 c)
      -∗ toks true 1 c
      -∗ commH c false 0 (Mv I false 0 (pv false c))
      -∗ reached ER (recvCell false 0 c) 1
      -∗ cred (tallyAt (sendCell false 1 c) 0 N16)
      -∗ atPos ER (sendCell false 1 c) 0 ∅ 0
      -∗ cred (tallyAt (recvCell false 1 c) 3 N16)
      -∗ atPos ER (recvCell false 1 c) 0 ∅ 0
      -∗ atPos ER (sendCell true 1 c) 0 ∅ 0
      -∗ (∀ w0 : BitVec 32, atPos ER (sendCell false 1 c) 1 ∅ 0 -∗ atPos ER (recvCell false 1 c) 1 ∅ 0 -∗ atPos ER (sendCell true 1 c) 1 ∅ 0 -∗ owesE c (Orem c 4) -∗ accA c (bk false 5 c) false -∗ reached ER (sendCell false 1 c) 1 -∗ commH c false 1 (Mv I false 1 (pv false c)) -∗ reached ER (recvCell false 1 c) 1 -∗ commA (nx true c) true 0 -∗ reached ER (recvCell true 0 (nx true c)) 1 -∗ accA c (bk true 5 c) true -∗ reached ER (sendCell true 1 c) 1
          -∗ WP (kk w0) Q)
      -∗ WP (k0_part9 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v14 v25 c1_i32_187 >>= kk) Q) := by
  rw [k0_part9_eq_skeleton]; unfold k0_part9_skel
  simp only [semSignalWord, semWaitWord, smemLoad, smemLoadElt, Prog.lift, Prog.bind_op, Prog.bind_ret, Prog.pure_eq_ret, wp_deviceId]
  iintro #HR #Hlev Hat1 Hcxt1 HO Htkt1 Hcmf0 Hrrf0 Hcsf1 Hasf1 Hcrf1 Harf1 Hast1 Hk
  ihave Hf := (fb_make (F := F) c true 1 (by decide) 0 rfl 1 rfl false rfl _) $$ Hcmf0 Hrrf0
  ihave #Hq1 := (reached_send I K c true 1) $$ HR
  ihave #Hq2 := (reached_recv I K true 1 (nx true c)) $$ HR
  iapply (hop_send I K c true 1 (by decide) 1 rfl 0 rfl (Orem c 4) (sums I true 1 c) (sums_Mv1 I true c) (bk true 1 c) rfl (dev6_ c) (accB_of (off4_1 c)) (commS_of (d := true) (m := Memref.whole cc0_scratch2) rfl sOff_1) sem7_1 sem8_1) $$ HR Hat1 Hcxt1 Hf HO Htkt1 Hq1 Hq2; iintro Hcst1 HO
  iapply (send_wait I K c false 1 (by decide) 1 rfl 0 rfl (Orem c 4) (Above.orem c 4 (by decide)) (bk false 5 c) (bk_add_four false 1 c).symm (accB_of (off3_1 c)) sem5_1) $$ HR Hlev Hcsf1 HO Hasf1; iintro Haf1 HO Hasf1 Hrsf1
  iapply (recv_wait I K c false 1 (by decide) 1 rfl 0 rfl (Orem c 4) (Above.orem c 4 (by decide)) (commS_of (d := false) (m := Memref.whole cc0_scratch1) rfl sOff_1) sem6_1) $$ HR Hlev Hcrf1 HO Harf1; iintro Hcmf1 Hf HO Harf1 Hrrf1
  ihave Hf := (fb_take (F := F) c false 1 (by decide) 0 rfl 1 rfl true rfl) $$ Hf
  icases Hf with ⟨Hcxt0, Hrxt0⟩
  iapply (send_wait I K c true 1 (by decide) 1 rfl 0 rfl (Orem c 4) (Above.orem c 4 (by decide)) (bk true 5 c) (bk_add_four true 1 c).symm (accB_of (off4_1 c)) sem7_1) $$ HR Hlev Hcst1 HO Hast1; iintro Hat1 HO Hast1 Hrst1
  iapply Hk $$ %_ Hasf1 Harf1 Hast1 HO Haf1 Hrsf1 Hcmf1 Hrrf1 Hcxt0 Hrxt0 Hat1 Hrst1

theorem run_10 (v2 : BitVec 32) (v14 : BitVec 32) (c1_i32_217 : BitVec 32) {h0 h1 h2 h3 h4 h5 h6 h7 h8 h9} {β : Type}
    {kk : (Σ' (v309 : BitVec 32) (v321 : BitVec 32), Vec F S512x2048 .bf16) → Prog (TpuEff nD τ sig (Elt F) Λ₀ .tc) β} {Q : β → sProp 𝕄} :
    REC ⊢ iprop(levAts L lv
      -∗ cred (tallyAt (recvCell true 1 c) 3 N16)
      -∗ owesE c (Orem c 4)
      -∗ atPos ER (recvCell true 1 c) 0 ∅ 0
      -∗ accH c (bk false 2 c) false (part I c (bk false 2 c) false)
      -∗ (∀ w0 : BitVec 32, ∀ w1 : BitVec 32, atPos ER (recvCell true 1 c) 1 ∅ 0 -∗ owesE c (Orem c 4) -∗ accH c (bk false 2 c) false (part I c (bk false 2 c) false) -∗ commH c true 1 (Mv I true 1 (pv true c)) -∗ reached ER (recvCell true 1 c) 1 -∗ commA (nx false c) false 0 -∗ reached ER (recvCell false 0 (nx false c)) 1
          -∗ WP (kk ⟨w0, w1, (part I c (bk false 2 c) false)⟩) Q)
      -∗ WP (k0_part10 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 c1_i32_217 >>= kk) Q) := by
  rw [k0_part10_eq_skeleton]; unfold k0_part10_skel
  simp only [semSignalWord, semWaitWord, smemLoad, smemLoadElt, Prog.lift, Prog.bind_op, Prog.bind_ret, Prog.pure_eq_ret, wp_deviceId]
  iintro #HR #Hlev Hcrt1 HO Hart1 Haf2 Hk
  iapply (recv_wait I K c true 1 (by decide) 1 rfl 0 rfl (Orem c 4) (Above.orem c 4 (by decide)) (commS_of (d := true) (m := Memref.whole cc0_scratch2) rfl sOff_1) sem8_1) $$ HR Hlev Hcrt1 HO Hart1; iintro Hcmt1 Hf HO Hart1 Hrrt1
  ihave Hf := (fb_take (F := F) c true 1 (by decide) 0 rfl 1 rfl false rfl) $$ Hf
  icases Hf with ⟨Hcxf0, Hrxf0⟩
  iapply (ld_acc (F := F) c (off7_1 c)) $$ Haf2; iintro Haf2
  iapply Hk $$ %_ %_ Hart1 HO Haf2 Hcmt1 Hrrt1 Hcxf0 Hrxf0

theorem run_11 (v2 : BitVec 32) (v309 : BitVec 32) (v321 : BitVec 32) {h0 h1 h2 h3 h4 h5 h6 h7 h8 h9} {β : Type}
    {kk : (Σ' (v358 : BitVec 32) (c4_i32_262 : BitVec 32) (v359 : BitVec 1), BitVec 32) → Prog (TpuEff nD τ sig (Elt F) Λ₀ .tc) β} {Q : β → sProp 𝕄} :
    REC ⊢ iprop(levAts L lv
      -∗ commH c false 1 (Mv I false 1 (pv false c))
      -∗ accH c (bk false 2 c) false (part I c (bk false 2 c) false)
      -∗ accH c (bk true 2 c) true (part I c (bk true 2 c) true)
      -∗ commH c true 1 (Mv I true 1 (pv true c))
      -∗ (∀ w0 : BitVec 32, ∀ w1 : BitVec 32, ∀ w2 : BitVec 1, ∀ w3 : BitVec 32, accH c (bk false 2 c) false (sums I false 2 c) -∗ accH c (bk true 2 c) true (sums I true 2 c) -∗ commH c false 1 (Mv I false 1 (pv false c)) -∗ commH c true 1 (Mv I true 1 (pv true c))
          -∗ WP (kk ⟨w0, w1, w2, w3⟩) Q)
      -∗ WP (k0_part11 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v309 v321 (part I c (bk false 2 c) false) >>= kk) Q) := by
  rw [k0_part11_eq_skeleton]; unfold k0_part11_skel
  simp only [semSignalWord, semWaitWord, smemLoad, smemLoadElt, Prog.lift, Prog.bind_op, Prog.bind_ret, Prog.pure_eq_ret, wp_deviceId]
  iintro #HR #Hlev Hcmf1 Haf2 Hat2 Hcmt1 Hk
  iapply (ld_slot16 (F := F) c (d := false) (m := Memref.whole cc0_scratch1) rfl sOff_1) $$ Hcmf1; iintro %y7 %hy7 Hcmf1
  iapply (ld_acc (F := F) c (off7_1 c)) $$ Haf2; iintro Haf2
  ihave Haf2 := (accH_any (F := F) c) $$ Haf2
  iapply (st_accE (F := F) c (w := k0_pay7 (part I c (bk false 2 c) false) y7) (v := sums I false 2 c) (sum_step I false 1 (by decide) c hy7) (off7_1 c)) $$ Haf2; iintro Haf2
  iapply (ld_acc (F := F) c (off8_1 c)) $$ Hat2; iintro Hat2
  iapply (ld_slot16 (F := F) c (d := true) (m := Memref.whole cc0_scratch2) rfl sOff_1) $$ Hcmt1; iintro %y8 %hy8 Hcmt1
  iapply (ld_acc (F := F) c (off8_1 c)) $$ Hat2; iintro Hat2
  ihave Hat2 := (accH_any (F := F) c) $$ Hat2
  iapply (st_accE (F := F) c (w := k0_pay8 (part I c (bk true 2 c) true) y8) (v := sums I true 2 c) (sum_step I true 1 (by decide) c hy8) (off8_1 c)) $$ Hat2; iintro Hat2
  iapply Hk $$ %_ %_ %_ %_ Haf2 Hat2 Hcmf1 Hcmt1

theorem run_12 (v14 : BitVec 32) (v25 : BitVec 32) (v358 : BitVec 32) (c4_i32_262 : BitVec 32) (v359 : BitVec 1) (c1_i32_264 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ accH c (bk false 2 c) false (sums I false 2 c)
      -∗ commA (nx false c) false 0
      -∗ owesE c (Orem c 4)
      -∗ toks false 2 c
      -∗ commH c true 1 (Mv I true 1 (pv true c))
      -∗ reached ER (recvCell true 1 c) 1
      -∗ reached ER (sendCell false 0 c) 1
      -∗ reached ER (recvCell false 0 (nx false c)) 1
      -∗ accH c (bk true 2 c) true (sums I true 2 c)
      -∗ commA (nx true c) true 0
      -∗ toks true 2 c
      -∗ commH c false 1 (Mv I false 1 (pv false c))
      -∗ reached ER (recvCell false 1 c) 1
      -∗ reached ER (sendCell true 0 c) 1
      -∗ reached ER (recvCell true 0 (nx true c)) 1
      -∗ (owesE c (Orem c 3) -∗ cred (tallyAt (sendCell false 0 c) 0 N16) -∗ cred (tallyAt (sendCell true 0 c) 0 N16)
          -∗ WP (kk ⟨⟩) Q)
      -∗ WP (k0_part12 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v14 v25 v358 c4_i32_262 v359 c1_i32_264 >>= kk) Q) := by
  rw [k0_part12_eq_skeleton]; unfold k0_part12_skel
  simp only [semSignalWord, semWaitWord, smemLoad, smemLoadElt, Prog.lift, Prog.bind_op, Prog.bind_ret, Prog.pure_eq_ret, wp_deviceId]
  iintro #HR #Hlev Haf2 Hcxf0 HO Htkf2 Hcmt1 Hrrt1 Hrsf0 Hrxf0 Hat2 Hcxt0 Htkt2 Hcmf1 Hrrf1 Hrst0 Hrxt0 Hk
  ihave HO := (owes_next (F := F) c 3 2 rfl) $$ HO
  ihave Hf := (fb_make (F := F) c false 2 (by decide) 1 rfl 1 rfl true rfl _) $$ Hcmt1 Hrrt1
  iapply (hop_send I K c false 2 (by decide) 0 rfl 1 rfl (Orem c 3 + ow true 2 c) (sums I false 2 c) (sums_Mv2 I false c) (bk false 2 c) rfl (dev7_ c) (accB_of (off3_2 c)) (commS_of (d := false) (m := Memref.whole cc0_scratch1) rfl sOff_0) sem5_0 sem6_0) $$ HR Haf2 Hcxf0 Hf HO Htkf2 Hrsf0 Hrxf0; iintro Hcsf0 HO
  ihave Hf := (fb_make (F := F) c true 2 (by decide) 1 rfl 1 rfl false rfl _) $$ Hcmf1 Hrrf1
  iapply (hop_send I K c true 2 (by decide) 0 rfl 1 rfl (Orem c 3) (sums I true 2 c) (sums_Mv2 I true c) (bk true 2 c) rfl (dev8_ c) (accB_of (off4_2 c)) (commS_of (d := true) (m := Memref.whole cc0_scratch2) rfl sOff_0) sem7_0 sem8_0) $$ HR Hat2 Hcxt0 Hf HO Htkt2 Hrst0 Hrxt0; iintro Hcst0 HO
  iapply Hk $$ HO Hcsf0 Hcst0

theorem run_13 (v2 : BitVec 32) (v14 : BitVec 32) (v25 : BitVec 32) {h0 h1 h2 h3 h4 h5 h6 h7 h8 h9} {β : Type}
    {kk : (Σ' (v416 : BitVec 32), BitVec 32) → Prog (TpuEff nD τ sig (Elt F) Λ₀ .tc) β} {Q : β → sProp 𝕄} :
    REC ⊢ iprop(levAts L lv
      -∗ cred (tallyAt (sendCell false 0 c) 0 N16)
      -∗ owesE c (Orem c 3)
      -∗ atPos ER (sendCell false 0 c) 1 ∅ 0
      -∗ cred (tallyAt (recvCell false 0 c) 4 N16)
      -∗ atPos ER (recvCell false 0 c) 1 ∅ 0
      -∗ cred (tallyAt (sendCell true 0 c) 0 N16)
      -∗ atPos ER (sendCell true 0 c) 1 ∅ 0
      -∗ cred (tallyAt (recvCell true 0 c) 4 N16)
      -∗ atPos ER (recvCell true 0 c) 1 ∅ 0
      -∗ (∀ w0 : BitVec 32, ∀ w1 : BitVec 32, atPos ER (sendCell false 0 c) 2 ∅ 0 -∗ atPos ER (recvCell false 0 c) 2 ∅ 0 -∗ atPos ER (sendCell true 0 c) 2 ∅ 0 -∗ atPos ER (recvCell true 0 c) 2 ∅ 0 -∗ owesE c (Orem c 3) -∗ accA c (bk false 6 c) false -∗ reached ER (sendCell false 0 c) 2 -∗ commH c false 0 (Mv I false 2 (pv false c)) -∗ reached ER (recvCell false 0 c) 2 -∗ commA (nx true c) true 1 -∗ reached ER (recvCell true 1 (nx true c)) 1 -∗ accA c (bk true 6 c) true -∗ reached ER (sendCell true 0 c) 2 -∗ commH c true 0 (Mv I true 2 (pv true c)) -∗ reached ER (recvCell true 0 c) 2 -∗ commA (nx false c) false 1 -∗ reached ER (recvCell false 1 (nx false c)) 1
          -∗ WP (kk ⟨w0, w1⟩) Q)
      -∗ WP (k0_part13 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 v25 >>= kk) Q) := by
  rw [k0_part13_eq_skeleton]; unfold k0_part13_skel
  simp only [semSignalWord, semWaitWord, smemLoad, smemLoadElt, Prog.lift, Prog.bind_op, Prog.bind_ret, Prog.pure_eq_ret, wp_deviceId]
  iintro #HR #Hlev Hcsf0 HO Hasf0 Hcrf2 Harf0 Hcst0 Hast0 Hcrt2 Hart0 Hk
  iapply (send_wait I K c false 2 (by decide) 0 rfl 1 rfl (Orem c 3) (Above.orem c 3 (by decide)) (bk false 6 c) (bk_add_four false 2 c).symm (accB_of (off3_2 c)) sem5_0) $$ HR Hlev Hcsf0 HO Hasf0; iintro Haf2 HO Hasf0 Hrsf0
  iapply (recv_wait I K c false 2 (by decide) 0 rfl 1 rfl (Orem c 3) (Above.orem c 3 (by decide)) (commS_of (d := false) (m := Memref.whole cc0_scratch1) rfl sOff_0) sem6_0) $$ HR Hlev Hcrf2 HO Harf0; iintro Hcmf0 Hf HO Harf0 Hrrf0
  ihave Hf := (fb_take (F := F) c false 2 (by decide) 1 rfl 1 rfl true rfl) $$ Hf
  icases Hf with ⟨Hcxt1, Hrxt1⟩
  iapply (send_wait I K c true 2 (by decide) 0 rfl 1 rfl (Orem c 3) (Above.orem c 3 (by decide)) (bk true 6 c) (bk_add_four true 2 c).symm (accB_of (off4_2 c)) sem7_0) $$ HR Hlev Hcst0 HO Hast0; iintro Hat2 HO Hast0 Hrst0
  iapply (recv_wait I K c true 2 (by decide) 0 rfl 1 rfl (Orem c 3) (Above.orem c 3 (by decide)) (commS_of (d := true) (m := Memref.whole cc0_scratch2) rfl sOff_0) sem8_0) $$ HR Hlev Hcrt2 HO Hart0; iintro Hcmt0 Hf HO Hart0 Hrrt0
  ihave Hf := (fb_take (F := F) c true 2 (by decide) 1 rfl 1 rfl false rfl) $$ Hf
  icases Hf with ⟨Hcxf1, Hrxf1⟩
  iapply Hk $$ %_ %_ Hasf0 Harf0 Hast0 Hart0 HO Haf2 Hrsf0 Hcmf0 Hrrf0 Hcxt1 Hrxt1 Hat2 Hrst0 Hcmt0 Hrrt0 Hcxf1 Hrxf1

theorem run_14 (v2 : BitVec 32) (v416 : BitVec 32) (v417 : BitVec 32) {h0 h1 h2 h3 h4 h5 h6 h7 h8 h9} {β : Type}
    {kk : (Σ' (v436 : BitVec 32) (v451 : Vec F S512x2048 .bf16), Vec F S1x512x2048 .bf16) → Prog (TpuEff nD τ sig (Elt F) Λ₀ .tc) β} {Q : β → sProp 𝕄} :
    REC ⊢ iprop(levAts L lv
      -∗ accH c (bk false 3 c) false (part I c (bk false 3 c) false)
      -∗ commH c false 0 (Mv I false 2 (pv false c))
      -∗ accH c (bk true 3 c) true (part I c (bk true 3 c) true)
      -∗ commH c true 0 (Mv I true 2 (pv true c))
      -∗ (∀ w0 : BitVec 32, ∀ y10 : Vec F S1x512x2048 .bf16, ⌜shapeCast S512x2048 y10 shapeCasts_S1x512x2048_S512x2048 = Mv I true 2 (pv true c)⌝ -∗ accH c (bk false 3 c) false (sums I false 3 c) -∗ accH c (bk true 3 c) true (part I c (bk true 3 c) true) -∗ commH c false 0 (Mv I false 2 (pv false c)) -∗ commH c true 0 (Mv I true 2 (pv true c))
          -∗ WP (kk ⟨w0, (part I c (bk true 3 c) true), y10⟩) Q)
      -∗ WP (k0_part14 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v416 v417 >>= kk) Q) := by
  rw [k0_part14_eq_skeleton]; unfold k0_part14_skel
  simp only [semSignalWord, semWaitWord, smemLoad, smemLoadElt, Prog.lift, Prog.bind_op, Prog.bind_ret, Prog.pure_eq_ret, wp_deviceId]
  iintro #HR #Hlev Haf3 Hcmf0 Hat3 Hcmt0 Hk
  iapply (ld_acc (F := F) c (off7_2 c)) $$ Haf3; iintro Haf3
  iapply (ld_slot16 (F := F) c (d := false) (m := Memref.whole cc0_scratch1) rfl sOff_0) $$ Hcmf0; iintro %y9 %hy9 Hcmf0
  iapply (ld_acc (F := F) c (off7_2 c)) $$ Haf3; iintro Haf3
  ihave Haf3 := (accH_any (F := F) c) $$ Haf3
  iapply (st_accE (F := F) c (w := k0_pay9 (part I c (bk false 3 c) false) y9) (v := sums I false 3 c) (sum_step I false 2 (by decide) c hy9) (off7_2 c)) $$ Haf3; iintro Haf3
  iapply (ld_acc (F := F) c (off8_2 c)) $$ Hat3; iintro Hat3
  iapply (ld_slot16 (F := F) c (d := true) (m := Memref.whole cc0_scratch2) rfl sOff_0) $$ Hcmt0; iintro %y10 %hy10 Hcmt0
  iapply Hk $$ %_ %y10 %hy10 Haf3 Hat3 Hcmf0 Hcmt0

theorem run_15 (v2 : BitVec 32) (v436 : BitVec 32) {y10 : Vec F S1x512x2048 .bf16} (hy10 : shapeCast S512x2048 y10 shapeCasts_S1x512x2048_S512x2048 = Mv I true 2 (pv true c)) {h0 h1 h2 h3 h4 h5 h6 h7 h8 h9} {β : Type}
    {kk : (Σ' (v463 : F .f32) (v486 : BitVec 32), BitVec 32) → Prog (TpuEff nD τ sig (Elt F) Λ₀ .tc) β} {Q : β → sProp 𝕄} :
    REC ⊢ iprop(levAts L lv
      -∗ accH c (bk true 3 c) true (part I c (bk true 3 c) true)
      -∗ ((c : Thread nD τ).loc cc0_stg2_0 ↦{fullShare} (I.sx c))
      -∗ ((c : Thread nD τ).loc cc0_stg3_0 ↦{fullShare} (I.sw c))
      -∗ (∀ w1 : BitVec 32, ∀ w2 : BitVec 32, ((c : Thread nD τ).loc cc0_stg2_0 ↦{fullShare} (I.sx c)) -∗ ((c : Thread nD τ).loc cc0_stg3_0 ↦{fullShare} (I.sw c)) -∗ accH c (bk true 3 c) true (sums I true 3 c)
          -∗ WP (kk ⟨(k0_pay11 (I.sx c i1) (I.sw c i1)), w1, w2⟩) Q)
      -∗ WP (k0_part15 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v436 (part I c (bk true 3 c) true) y10 >>= kk) Q) := by
  rw [k0_part15_eq_skeleton]; unfold k0_part15_skel
  simp only [semSignalWord, semWaitWord, smemLoad, smemLoadElt, Prog.lift, Prog.bind_op, Prog.bind_ret, Prog.pure_eq_ret, wp_deviceId]
  iintro #HR #Hlev Hat3 Hsx Hsw Hk
  iapply (ld_acc (F := F) c (off8_2 c)) $$ Hat3; iintro Hat3
  ihave Hat3 := (accH_any (F := F) c) $$ Hat3
  iapply (st_accE (F := F) c (w := k0_pay10 (part I c (bk true 3 c) true) y10) (v := sums I true 3 c) (sum_step I true 2 (by decide) c hy10) (off8_2 c)) $$ Hat3; iintro Hat3
  iapply (ld_sx (F := F) c) $$ Hsx; iintro Hsx
  iapply (ld_sw (F := F) c) $$ Hsw; iintro Hsw
  iapply Hk $$ %_ %_ Hsx Hsw Hat3

end Cert.RingGemm

end
-- ==== Proof.RunB.lean ====
/-
The run of a device, a stretch of the program at a time (finish and gather).
-/
module

public import proofs.«01_k».proof.Proof.Moves

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × Fin 13 → ℕ) (c : Dev nD)

local notation "WP" => wp frame (wpE (defs₀ (F := F)) 𝒱₀ (c : Thread nD τ) none) Set.univ
local notation "REC" => records (Mv I) (Ov I) K

theorem run_16 (v486 : BitVec 32) (v488 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ accH c (bk false 3 c) false (sums I false 3 c)
      -∗ stgA c false 0
      -∗ outA c (bk false 3 c) false
      -∗ dutyTok ER (copyCell false 0 c) 0 false
      -∗ accH c (bk true 3 c) true (sums I true 3 c)
      -∗ stgA c true 0
      -∗ (stgH c true 0 (Ov I true 0 c) -∗ accH c (bk false 3 c) false (Mv I false 3 c) -∗ accH c (bk true 3 c) true (Mv I true 3 c) -∗ cred (tallyAt (copyCell false 0 c) 0 N32)
          -∗ WP (kk ⟨⟩) Q)
      -∗ WP (k0_part16 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c (k0_pay11 (I.sx c i1) (I.sw c i1)) v486 v488 >>= kk) Q) := by
  rw [k0_part16_eq_skeleton]; unfold k0_part16_skel
  simp only [semSignalWord, semWaitWord, smemLoad, smemLoadElt, Prog.lift, Prog.bind_op, Prog.bind_ret, Prog.pure_eq_ret, wp_deviceId]
  iintro #HR #Hlev Haf3 Hstf0 Houtf0 Hctkf0 Hat3 Hstt0 Hk
  iapply (ld_acc (F := F) c (off9_ c)) $$ Haf3; iintro Haf3
  iapply (ld_acc (F := F) c (off9_ c)) $$ Haf3; iintro Haf3
  ihave Haf3 := (accH_any (F := F) c) $$ Haf3
  iapply (st_accE (F := F) c (w := k0_pay13 (k0_pay11 (I.sx c i1) (I.sw c i1)) (sums I false 3 c)) (v := Mv I false 3 c) (fin_round I false c) (off9_ c)) $$ Haf3; iintro Haf3
  iapply (ld_stgD (F := F) c (d := false) (m := Memref.whole cc0_scratch3) rfl sOff_0) $$ Hstf0; iintro %u11 Hstf0
  iapply (st_stgE (F := F) c (d := false) (w := k0_pay14 (k0_pay11 (I.sx c i1) (I.sw c i1)) (sums I false 3 c)) (v := Ov I false 0 c) (fin_stage I false c) (m := Memref.whole cc0_scratch3) rfl sOff_0) $$ Hstf0; iintro Hstf0
  ihave #Hq1 := (reached_copy I K c false 0) $$ HR
  iapply (cp_start I K c false 0 (by decide) 0 rfl 0 rfl (stgS_of (d := false) (m := Memref.whole cc0_scratch3) rfl sOff_0) (outB_of (off10_ c)) sem9_0) $$ HR Hstf0 Houtf0 Hctkf0 Hq1; iintro Hccf0
  iapply (ld_acc (F := F) c (off11_ c)) $$ Hat3; iintro Hat3
  iapply (ld_acc (F := F) c (off11_ c)) $$ Hat3; iintro Hat3
  ihave Hat3 := (accH_any (F := F) c) $$ Hat3
  iapply (st_accE (F := F) c (w := k0_pay16 (k0_pay11 (I.sx c i1) (I.sw c i1)) (sums I true 3 c)) (v := Mv I true 3 c) (fin_round I true c) (off11_ c)) $$ Hat3; iintro Hat3
  iapply (ld_stgD (F := F) c (d := true) (m := Memref.whole cc0_scratch4) rfl sOff_0) $$ Hstt0; iintro %u12 Hstt0
  iapply (st_stgE (F := F) c (d := true) (w := k0_pay17 (k0_pay11 (I.sx c i1) (I.sw c i1)) (sums I true 3 c)) (v := Ov I true 0 c) (fin_stage I true c) (m := Memref.whole cc0_scratch4) rfl sOff_0) $$ Hstt0; iintro Hstt0
  iapply Hk $$ Hstt0 Haf3 Hat3 Hccf0

theorem run_17 (v2 : BitVec 32) (v25 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ stgH c true 0 (Ov I true 0 c)
      -∗ outA c (bk true 3 c) true
      -∗ dutyTok ER (copyCell true 0 c) 0 false
      -∗ (cred (tallyAt (copyCell true 0 c) 0 N32)
          -∗ WP (kk ⟨⟩) Q)
      -∗ WP (k0_part17 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v25 >>= kk) Q) := by
  rw [k0_part17_eq_skeleton]; unfold k0_part17_skel
  simp only [semSignalWord, semWaitWord, smemLoad, smemLoadElt, Prog.lift, Prog.bind_op, Prog.bind_ret, Prog.pure_eq_ret, wp_deviceId]
  iintro #HR #Hlev Hstt0 Houtt0 Hctkt0 Hk
  ihave #Hq1 := (reached_copy I K c true 0) $$ HR
  iapply (cp_start I K c true 0 (by decide) 0 rfl 0 rfl (stgS_of (d := true) (m := Memref.whole cc0_scratch4) rfl sOff_0) (outB_of (off12_ c)) sem10_0) $$ HR Hstt0 Houtt0 Hctkt0 Hq1; iintro Hcct0
  iapply Hk $$ Hcct0

theorem run_18 (v14 : BitVec 32) (v25 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ accH c (bk false 3 c) false (Mv I false 3 c)
      -∗ commA (nx false c) false 1
      -∗ owesE c (Orem c 3)
      -∗ toks false 3 c
      -∗ commH c true 0 (Mv I true 2 (pv true c))
      -∗ reached ER (recvCell true 0 c) 2
      -∗ reached ER (sendCell false 1 c) 1
      -∗ reached ER (recvCell false 1 (nx false c)) 1
      -∗ accH c (bk true 3 c) true (Mv I true 3 c)
      -∗ commA (nx true c) true 1
      -∗ toks true 3 c
      -∗ commH c false 0 (Mv I false 2 (pv false c))
      -∗ reached ER (recvCell false 0 c) 2
      -∗ reached ER (sendCell true 1 c) 1
      -∗ reached ER (recvCell true 1 (nx true c)) 1
      -∗ atPos ER (sendCell false 1 c) 1 ∅ 0
      -∗ cred (tallyAt (recvCell false 1 c) 5 N16)
      -∗ atPos ER (recvCell false 1 c) 1 ∅ 0
      -∗ (atPos ER (sendCell false 1 c) 2 ∅ 0 -∗ atPos ER (recvCell false 1 c) 2 ∅ 0 -∗ owesE c (Orem c 2) -∗ cred (tallyAt (sendCell true 1 c) 0 N16) -∗ accA c (bk false 3 c) false -∗ reached ER (sendCell false 1 c) 2 -∗ commH c false 1 (Mv I false 3 (pv false c)) -∗ reached ER (recvCell false 1 c) 2 -∗ commA (nx true c) true 0 -∗ reached ER (recvCell true 0 (nx true c)) 2
          -∗ WP (kk ⟨⟩) Q)
      -∗ WP (k0_part18 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v14 v25 >>= kk) Q) := by
  rw [k0_part18_eq_skeleton]; unfold k0_part18_skel
  simp only [semSignalWord, semWaitWord, smemLoad, smemLoadElt, Prog.lift, Prog.bind_op, Prog.bind_ret, Prog.pure_eq_ret, wp_deviceId]
  iintro #HR #Hlev Haf3 Hcxf1 HO Htkf3 Hcmt0 Hrrt0 Hrsf1 Hrxf1 Hat3 Hcxt1 Htkt3 Hcmf0 Hrrf0 Hrst1 Hrxt1 Hasf1 Hcrf3 Harf1 Hk
  ihave HO := (owes_next (F := F) c 2 3 rfl) $$ HO
  ihave Hf := (fb_make (F := F) c false 3 (by decide) 0 rfl 2 rfl true rfl _) $$ Hcmt0 Hrrt0
  iapply (hop_send I K c false 3 (by decide) 1 rfl 1 rfl (Orem c 2 + ow true 3 c) (Mv I false 3 c) rfl (bk false 3 c) rfl (dev9_ c) (accB_of (off13_0 c)) (commS_of (d := false) (m := Memref.whole cc0_scratch1) rfl sOff_1) sem5_1 sem6_1) $$ HR Haf3 Hcxf1 Hf HO Htkf3 Hrsf1 Hrxf1; iintro Hcsf1 HO
  ihave Hf := (fb_make (F := F) c true 3 (by decide) 0 rfl 2 rfl false rfl _) $$ Hcmf0 Hrrf0
  iapply (hop_send I K c true 3 (by decide) 1 rfl 1 rfl (Orem c 2) (Mv I true 3 c) rfl (bk true 3 c) rfl (dev10_ c) (accB_of (off14_0 c)) (commS_of (d := true) (m := Memref.whole cc0_scratch2) rfl sOff_1) sem7_1 sem8_1) $$ HR Hat3 Hcxt1 Hf HO Htkt3 Hrst1 Hrxt1; iintro Hcst1 HO
  iapply (send_wait I K c false 3 (by decide) 1 rfl 1 rfl (Orem c 2) (Above.orem c 2 (by decide)) (bk false 3 c) rfl (accB_of (off13_0 c)) sem5_1) $$ HR Hlev Hcsf1 HO Hasf1; iintro Haf3 HO Hasf1 Hrsf1
  iapply (recv_wait I K c false 3 (by decide) 1 rfl 1 rfl (Orem c 2) (Above.orem c 2 (by decide)) (commS_of (d := false) (m := Memref.whole cc0_scratch1) rfl sOff_1) sem6_1) $$ HR Hlev Hcrf3 HO Harf1; iintro Hcmf1 Hf HO Harf1 Hrrf1
  ihave Hf := (fb_take (F := F) c false 3 (by decide) 0 rfl 2 rfl true rfl) $$ Hf
  icases Hf with ⟨Hcxt0, Hrxt0⟩
  iapply Hk $$ Hasf1 Harf1 HO Hcst1 Haf3 Hrsf1 Hcmf1 Hrrf1 Hcxt0 Hrxt0

theorem run_19 (v2 : BitVec 32) (v14 : BitVec 32) {h0 h1 h2 h3 h4 h5 h6 h7 h8 h9} {β : Type}
    {kk : (Σ' (v608 : BitVec 32) (v612 : BitVec 32) (v617 : BitVec 1), BitVec 32) → Prog (TpuEff nD τ sig (Elt F) Λ₀ .tc) β} {Q : β → sProp 𝕄} :
    REC ⊢ iprop(levAts L lv
      -∗ cred (tallyAt (sendCell true 1 c) 0 N16)
      -∗ owesE c (Orem c 2)
      -∗ atPos ER (sendCell true 1 c) 1 ∅ 0
      -∗ cred (tallyAt (recvCell true 1 c) 5 N16)
      -∗ atPos ER (recvCell true 1 c) 1 ∅ 0
      -∗ (∀ w0 : BitVec 32, ∀ w1 : BitVec 32, ∀ w2 : BitVec 1, ∀ w3 : BitVec 32, atPos ER (sendCell true 1 c) 2 ∅ 0 -∗ atPos ER (recvCell true 1 c) 2 ∅ 0 -∗ owesE c (Orem c 2) -∗ accA c (bk true 3 c) true -∗ reached ER (sendCell true 1 c) 2 -∗ commH c true 1 (Mv I true 3 (pv true c)) -∗ reached ER (recvCell true 1 c) 2 -∗ commA (nx false c) false 0 -∗ reached ER (recvCell false 0 (nx false c)) 2
          -∗ WP (kk ⟨w0, w1, w2, w3⟩) Q)
      -∗ WP (k0_part19 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 >>= kk) Q) := by
  rw [k0_part19_eq_skeleton]; unfold k0_part19_skel
  simp only [semSignalWord, semWaitWord, smemLoad, smemLoadElt, Prog.lift, Prog.bind_op, Prog.bind_ret, Prog.pure_eq_ret, wp_deviceId]
  iintro #HR #Hlev Hcst1 HO Hast1 Hcrt3 Hart1 Hk
  iapply (send_wait I K c true 3 (by decide) 1 rfl 1 rfl (Orem c 2) (Above.orem c 2 (by decide)) (bk true 3 c) rfl (accB_of (off14_0 c)) sem7_1) $$ HR Hlev Hcst1 HO Hast1; iintro Hat3 HO Hast1 Hrst1
  iapply (recv_wait I K c true 3 (by decide) 1 rfl 1 rfl (Orem c 2) (Above.orem c 2 (by decide)) (commS_of (d := true) (m := Memref.whole cc0_scratch2) rfl sOff_1) sem8_1) $$ HR Hlev Hcrt3 HO Hart1; iintro Hcmt1 Hf HO Hart1 Hrrt1
  ihave Hf := (fb_take (F := F) c true 3 (by decide) 0 rfl 2 rfl false rfl) $$ Hf
  icases Hf with ⟨Hcxf0, Hrxf0⟩
  iapply Hk $$ %_ %_ %_ %_ Hast1 Hart1 HO Hat3 Hrst1 Hcmt1 Hrrt1 Hcxf0 Hrxf0

theorem run_20 (v608 : BitVec 32) (v612 : BitVec 32) (v617 : BitVec 1) (v618 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ commH c false 1 (Mv I false 3 (pv false c))
      -∗ accA c (bk false 4 c) false
      -∗ commH c true 1 (Mv I true 3 (pv true c))
      -∗ accA c (bk true 4 c) true
      -∗ stgA c false 1
      -∗ outA c (bk false 4 c) false
      -∗ dutyTok ER (copyCell false 1 c) 0 false
      -∗ (accH c (bk false 4 c) false (Mv I false 4 c) -∗ accH c (bk true 4 c) true (Mv I true 4 c) -∗ commH c false 1 (Mv I false 3 (pv false c)) -∗ commH c true 1 (Mv I true 3 (pv true c)) -∗ cred (tallyAt (copyCell false 1 c) 0 N32)
          -∗ WP (kk ⟨⟩) Q)
      -∗ WP (k0_part20 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v608 v612 v617 v618 >>= kk) Q) := by
  rw [k0_part20_eq_skeleton]; unfold k0_part20_skel
  simp only [semSignalWord, semWaitWord, smemLoad, smemLoadElt, Prog.lift, Prog.bind_op, Prog.bind_ret, Prog.pure_eq_ret, wp_deviceId]
  iintro #HR #Hlev Hcmf1 Haf0 Hcmt1 Hat0 Hstf1 Houtf1 Hctkf1 Hk
  iapply (ld_slot16 (F := F) c (d := false) (m := Memref.whole cc0_scratch1) rfl sOff_1) $$ Hcmf1; iintro %y13 %hy13 Hcmf1
  iapply (ld_accD (F := F) c (off15c_0 c)) $$ Haf0; iintro %u14 Haf0
  iapply (st_accE (F := F) c (w := k0_pay18 y13) (v := Mv I false 4 c) (gather_step I false 0 c hy13) (off15c_0 c)) $$ Haf0; iintro Haf0
  iapply (ld_slot16 (F := F) c (d := true) (m := Memref.whole cc0_scratch2) rfl sOff_1) $$ Hcmt1; iintro %y15 %hy15 Hcmt1
  iapply (ld_accD (F := F) c (off16c_0 c)) $$ Hat0; iintro %u16 Hat0
  iapply (st_accE (F := F) c (w := k0_pay19 y15) (v := Mv I true 4 c) (gather_step I true 0 c hy15) (off16c_0 c)) $$ Hat0; iintro Hat0
  iapply (ld_slot16 (F := F) c (d := false) (m := Memref.whole cc0_scratch1) rfl sOff_1) $$ Hcmf1; iintro %y17 %hy17 Hcmf1
  iapply (ld_stgD (F := F) c (d := false) (m := Memref.whole cc0_scratch3) rfl sOff_1) $$ Hstf1; iintro %u18 Hstf1
  iapply (st_stgE (F := F) c (d := false) (w := k0_pay20 y17) (v := Ov I false 1 c) (gather_stage I false 0 c hy17) (m := Memref.whole cc0_scratch3) rfl sOff_1) $$ Hstf1; iintro Hstf1
  ihave #Hq1 := (reached_copy I K c false 1) $$ HR
  iapply (cp_start I K c false 1 (by decide) 1 rfl 0 rfl (stgS_of (d := false) (m := Memref.whole cc0_scratch3) rfl sOff_1) (outB_of (off3c_0 c)) sem9_1) $$ HR Hstf1 Houtf1 Hctkf1 Hq1; iintro Hccf1
  iapply Hk $$ Haf0 Hat0 Hcmf1 Hcmt1 Hccf1

theorem run_21 (v2 : BitVec 32) {h0 h1 h2 h3 h4 h5 h6 h7 h8 h9} {β : Type}
    {kk : (Σ' (v676 : BitVec 32) (v677 : BitVec 32) (v678 : BitVec 1) (v679 : BitVec 1), BitVec 32) → Prog (TpuEff nD τ sig (Elt F) Λ₀ .tc) β} {Q : β → sProp 𝕄} :
    REC ⊢ iprop(levAts L lv
      -∗ commH c true 1 (Mv I true 3 (pv true c))
      -∗ stgA c true 1
      -∗ outA c (bk true 4 c) true
      -∗ dutyTok ER (copyCell true 1 c) 0 false
      -∗ (∀ w0 : BitVec 32, ∀ w1 : BitVec 32, ∀ w2 : BitVec 1, ∀ w3 : BitVec 1, ∀ w4 : BitVec 32, commH c true 1 (Mv I true 3 (pv true c)) -∗ cred (tallyAt (copyCell true 1 c) 0 N32)
          -∗ WP (kk ⟨w0, w1, w2, w3, w4⟩) Q)
      -∗ WP (k0_part21 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 >>= kk) Q) := by
  rw [k0_part21_eq_skeleton]; unfold k0_part21_skel
  simp only [semSignalWord, semWaitWord, smemLoad, smemLoadElt, Prog.lift, Prog.bind_op, Prog.bind_ret, Prog.pure_eq_ret, wp_deviceId]
  iintro #HR #Hlev Hcmt1 Hstt1 Houtt1 Hctkt1 Hk
  iapply (ld_slot16 (F := F) c (d := true) (m := Memref.whole cc0_scratch2) rfl sOff_1) $$ Hcmt1; iintro %y19 %hy19 Hcmt1
  iapply (ld_stgD (F := F) c (d := true) (m := Memref.whole cc0_scratch4) rfl sOff_1) $$ Hstt1; iintro %u20 Hstt1
  iapply (st_stgE (F := F) c (d := true) (w := k0_pay21 y19) (v := Ov I true 1 c) (gather_stage I true 0 c hy19) (m := Memref.whole cc0_scratch4) rfl sOff_1) $$ Hstt1; iintro Hstt1
  ihave #Hq1 := (reached_copy I K c true 1) $$ HR
  iapply (cp_start I K c true 1 (by decide) 1 rfl 0 rfl (stgS_of (d := true) (m := Memref.whole cc0_scratch4) rfl sOff_1) (outB_of (off4c_0 c)) sem10_1) $$ HR Hstt1 Houtt1 Hctkt1 Hq1; iintro Hcct1
  iapply Hk $$ %_ %_ %_ %_ %_ Hcmt1 Hcct1

theorem run_22 (v14 : BitVec 32) (v25 : BitVec 32) (v676 : BitVec 32) (v677 : BitVec 32) (v678 : BitVec 1) (v679 : BitVec 1) (c0_i32_518 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ accH c (bk false 4 c) false (Mv I false 4 c)
      -∗ commA (nx false c) false 0
      -∗ owesE c (Orem c 2)
      -∗ toks false 4 c
      -∗ commH c true 1 (Mv I true 3 (pv true c))
      -∗ reached ER (recvCell true 1 c) 2
      -∗ reached ER (sendCell false 0 c) 2
      -∗ reached ER (recvCell false 0 (nx false c)) 2
      -∗ accH c (bk true 4 c) true (Mv I true 4 c)
      -∗ commA (nx true c) true 0
      -∗ toks true 4 c
      -∗ commH c false 1 (Mv I false 3 (pv false c))
      -∗ reached ER (recvCell false 1 c) 2
      -∗ reached ER (sendCell true 0 c) 2
      -∗ reached ER (recvCell true 0 (nx true c)) 2
      -∗ atPos ER (sendCell false 0 c) 2 ∅ 0
      -∗ (atPos ER (sendCell false 0 c) 3 ∅ 0 -∗ owesE c (Orem c 1) -∗ cred (tallyAt (sendCell true 0 c) 0 N16) -∗ accA c (bk false 4 c) false -∗ reached ER (sendCell false 0 c) 3
          -∗ WP (kk ⟨⟩) Q)
      -∗ WP (k0_part22 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v14 v25 v676 v677 v678 v679 c0_i32_518 >>= kk) Q) := by
  rw [k0_part22_eq_skeleton]; unfold k0_part22_skel
  simp only [semSignalWord, semWaitWord, smemLoad, smemLoadElt, Prog.lift, Prog.bind_op, Prog.bind_ret, Prog.pure_eq_ret, wp_deviceId]
  iintro #HR #Hlev Haf0 Hcxf0 HO Htkf4 Hcmt1 Hrrt1 Hrsf0 Hrxf0 Hat0 Hcxt0 Htkt4 Hcmf1 Hrrf1 Hrst0 Hrxt0 Hasf0 Hk
  ihave HO := (owes_next (F := F) c 1 4 rfl) $$ HO
  ihave Hf := (fb_make (F := F) c false 4 (by decide) 1 rfl 2 rfl true rfl _) $$ Hcmt1 Hrrt1
  iapply (hop_send I K c false 4 (by decide) 0 rfl 2 rfl (Orem c 1 + ow true 4 c) (Mv I false 4 c) rfl (bk false 4 c) rfl (dev11_ c) (accB_of (off13c_1 c)) (commS_of (d := false) (m := Memref.whole cc0_scratch1) rfl sOff_0) sem5_0 sem6_0) $$ HR Haf0 Hcxf0 Hf HO Htkf4 Hrsf0 Hrxf0; iintro Hcsf0 HO
  ihave Hf := (fb_make (F := F) c true 4 (by decide) 1 rfl 2 rfl false rfl _) $$ Hcmf1 Hrrf1
  iapply (hop_send I K c true 4 (by decide) 0 rfl 2 rfl (Orem c 1) (Mv I true 4 c) rfl (bk true 4 c) rfl (dev12_ c) (accB_of (off14c_1 c)) (commS_of (d := true) (m := Memref.whole cc0_scratch2) rfl sOff_0) sem7_0 sem8_0) $$ HR Hat0 Hcxt0 Hf HO Htkt4 Hrst0 Hrxt0; iintro Hcst0 HO
  iapply (send_wait I K c false 4 (by decide) 0 rfl 2 rfl (Orem c 1) (Above.orem c 1 (by decide)) (bk false 4 c) rfl (accB_of (off13_1 c)) sem5_0) $$ HR Hlev Hcsf0 HO Hasf0; iintro Haf0 HO Hasf0 Hrsf0
  iapply Hk $$ Hasf0 HO Hcst0 Haf0 Hrsf0

theorem run_23 (v2 : BitVec 32) (v14 : BitVec 32) (v25 : BitVec 32) {h0 h1 h2 h3 h4 h5 h6 h7 h8 h9} {β : Type}
    {kk : (Σ' (v732 : BitVec 32) (v737 : BitVec 1), BitVec 32) → Prog (TpuEff nD τ sig (Elt F) Λ₀ .tc) β} {Q : β → sProp 𝕄} :
    REC ⊢ iprop(levAts L lv
      -∗ cred (tallyAt (recvCell false 0 c) 6 N16)
      -∗ owesE c (Orem c 1)
      -∗ atPos ER (recvCell false 0 c) 2 ∅ 0
      -∗ cred (tallyAt (sendCell true 0 c) 0 N16)
      -∗ atPos ER (sendCell true 0 c) 2 ∅ 0
      -∗ cred (tallyAt (recvCell true 0 c) 6 N16)
      -∗ atPos ER (recvCell true 0 c) 2 ∅ 0
      -∗ (∀ w0 : BitVec 32, ∀ w1 : BitVec 1, ∀ w2 : BitVec 32, atPos ER (recvCell false 0 c) 3 ∅ 0 -∗ atPos ER (sendCell true 0 c) 3 ∅ 0 -∗ atPos ER (recvCell true 0 c) 3 ∅ 0 -∗ owesE c (Orem c 1) -∗ commH c false 0 (Mv I false 4 (pv false c)) -∗ reached ER (recvCell false 0 c) 3 -∗ commA (nx true c) true 1 -∗ reached ER (recvCell true 1 (nx true c)) 2 -∗ accA c (bk true 4 c) true -∗ reached ER (sendCell true 0 c) 3 -∗ commH c true 0 (Mv I true 4 (pv true c)) -∗ reached ER (recvCell true 0 c) 3 -∗ commA (nx false c) false 1 -∗ reached ER (recvCell false 1 (nx false c)) 2
          -∗ WP (kk ⟨w0, w1, w2⟩) Q)
      -∗ WP (k0_part23 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 v25 >>= kk) Q) := by
  rw [k0_part23_eq_skeleton]; unfold k0_part23_skel
  simp only [semSignalWord, semWaitWord, smemLoad, smemLoadElt, Prog.lift, Prog.bind_op, Prog.bind_ret, Prog.pure_eq_ret, wp_deviceId]
  iintro #HR #Hlev Hcrf4 HO Harf0 Hcst0 Hast0 Hcrt4 Hart0 Hk
  iapply (recv_wait I K c false 4 (by decide) 0 rfl 2 rfl (Orem c 1) (Above.orem c 1 (by decide)) (commS_of (d := false) (m := Memref.whole cc0_scratch1) rfl sOff_0) sem6_0) $$ HR Hlev Hcrf4 HO Harf0; iintro Hcmf0 Hf HO Harf0 Hrrf0
  ihave Hf := (fb_take (F := F) c false 4 (by decide) 1 rfl 2 rfl true rfl) $$ Hf
  icases Hf with ⟨Hcxt1, Hrxt1⟩
  iapply (send_wait I K c true 4 (by decide) 0 rfl 2 rfl (Orem c 1) (Above.orem c 1 (by decide)) (bk true 4 c) rfl (accB_of (off14_1 c)) sem7_0) $$ HR Hlev Hcst0 HO Hast0; iintro Hat0 HO Hast0 Hrst0
  iapply (recv_wait I K c true 4 (by decide) 0 rfl 2 rfl (Orem c 1) (Above.orem c 1 (by decide)) (commS_of (d := true) (m := Memref.whole cc0_scratch2) rfl sOff_0) sem8_0) $$ HR Hlev Hcrt4 HO Hart0; iintro Hcmt0 Hf HO Hart0 Hrrt0
  ihave Hf := (fb_take (F := F) c true 4 (by decide) 1 rfl 2 rfl false rfl) $$ Hf
  icases Hf with ⟨Hcxf1, Hrxf1⟩
  iapply Hk $$ %_ %_ %_ Harf0 Hast0 Hart0 HO Hcmf0 Hrrf0 Hcxt1 Hrxt1 Hat0 Hrst0 Hcmt0 Hrrt0 Hcxf1 Hrxf1

theorem run_24 (v2 : BitVec 32) (v732 : BitVec 32) (v737 : BitVec 1) (v738 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ commH c false 0 (Mv I false 4 (pv false c))
      -∗ accA c (bk false 5 c) false
      -∗ commH c true 0 (Mv I true 4 (pv true c))
      -∗ accA c (bk true 5 c) true
      -∗ (accH c (bk false 5 c) false (Mv I false 5 c) -∗ accH c (bk true 5 c) true (Mv I true 5 c) -∗ commH c false 0 (Mv I false 4 (pv false c)) -∗ commH c true 0 (Mv I true 4 (pv true c))
          -∗ WP (kk ⟨⟩) Q)
      -∗ WP (k0_part24 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v732 v737 v738 >>= kk) Q) := by
  rw [k0_part24_eq_skeleton]; unfold k0_part24_skel
  simp only [semSignalWord, semWaitWord, smemLoad, smemLoadElt, Prog.lift, Prog.bind_op, Prog.bind_ret, Prog.pure_eq_ret, wp_deviceId]
  iintro #HR #Hlev Hcmf0 Haf1 Hcmt0 Hat1 Hk
  iapply (ld_slot16 (F := F) c (d := false) (m := Memref.whole cc0_scratch1) rfl sOff_0) $$ Hcmf0; iintro %y21 %hy21 Hcmf0
  iapply (ld_accD (F := F) c (off15c_1 c)) $$ Haf1; iintro %u22 Haf1
  iapply (st_accE (F := F) c (w := k0_pay22 y21) (v := Mv I false 5 c) (gather_step I false 1 c hy21) (off15c_1 c)) $$ Haf1; iintro Haf1
  iapply (ld_slot16 (F := F) c (d := true) (m := Memref.whole cc0_scratch2) rfl sOff_0) $$ Hcmt0; iintro %y23 %hy23 Hcmt0
  iapply (ld_accD (F := F) c (off16c_1 c)) $$ Hat1; iintro %u24 Hat1
  iapply (st_accE (F := F) c (w := k0_pay23 y23) (v := Mv I true 5 c) (gather_step I true 1 c hy23) (off16c_1 c)) $$ Hat1; iintro Hat1
  iapply Hk $$ Haf1 Hat1 Hcmf0 Hcmt0

theorem run_25  {h0 h1 h2 h3 h4 h5 h6 h7 h8 h9} {β : Type}
    {kk : (PUnit) → Prog (TpuEff nD τ sig (Elt F) Λ₀ .tc) β} {Q : β → sProp 𝕄} :
    REC ⊢ iprop(levAts L lv
      -∗ cred (tallyAt (copyCell false 0 c) 0 N32)
      -∗ owesE c (Orem c 1)
      -∗ atPos ER (copyCell false 0 c) 0 ∅ 0
      -∗ commH c false 0 (Mv I false 4 (pv false c))
      -∗ outA c (bk false 5 c) false
      -∗ dutyTok ER (copyCell false 0 c) 1 false
      -∗ cred (tallyAt (copyCell true 0 c) 0 N32)
      -∗ atPos ER (copyCell true 0 c) 0 ∅ 0
      -∗ commH c true 0 (Mv I true 4 (pv true c))
      -∗ (atPos ER (copyCell false 0 c) 1 ∅ 0 -∗ atPos ER (copyCell true 0 c) 1 ∅ 0 -∗ owesE c (Orem c 1) -∗ commH c false 0 (Mv I false 4 (pv false c)) -∗ commH c true 0 (Mv I true 4 (pv true c)) -∗ outH c (bk false 3 c) false (Ov I false 0 c) -∗ cred (tallyAt (copyCell false 0 c) 0 N32) -∗ stgH c true 0 (Ov I true 2 c) -∗ outH c (bk true 3 c) true (Ov I true 0 c) -∗ reached ER (copyCell true 0 c) 1
          -∗ WP (kk ⟨⟩) Q)
      -∗ WP (k0_part25 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c >>= kk) Q) := by
  rw [k0_part25_eq_skeleton]; unfold k0_part25_skel
  simp only [semSignalWord, semWaitWord, smemLoad, smemLoadElt, Prog.lift, Prog.bind_op, Prog.bind_ret, Prog.pure_eq_ret, wp_deviceId]
  iintro #HR #Hlev Hccf0 HO Hacf0 Hcmf0 Houtf2 Hctkf2 Hcct0 Hact0 Hcmt0 Hk
  iapply (cp_wait I K c false 0 (by decide) 0 rfl 0 rfl (Orem c 1) ((Above.orem c 1 (by decide)).mono (Nat.zero_le _)) (credit_outO (off3_1 c)) sem9_0) $$ HR Hlev Hccf0 HO Hacf0; iintro Hstf0 Houtf0 HO Hacf0 Hrcf0
  iapply (ld_slot16 (F := F) c (d := false) (m := Memref.whole cc0_scratch1) rfl sOff_0) $$ Hcmf0; iintro %y25 %hy25 Hcmf0
  iapply (ld_stgD (F := F) c (d := false) (m := Memref.whole cc0_scratch3) rfl sOff_0) $$ Hstf0; iintro %u26 Hstf0
  iapply (st_stgE (F := F) c (d := false) (w := k0_pay24 y25) (v := Ov I false 2 c) (gather_stage I false 1 c hy25) (m := Memref.whole cc0_scratch3) rfl sOff_0) $$ Hstf0; iintro Hstf0
  iapply (cp_start I K c false 2 (by decide) 0 rfl 1 rfl (stgS_of (d := false) (m := Memref.whole cc0_scratch3) rfl sOff_0) (outB_of (off3c_1 c)) sem9_0) $$ HR Hstf0 Houtf2 Hctkf2 Hrcf0; iintro Hccf0
  iapply (cp_wait I K c true 0 (by decide) 0 rfl 0 rfl (Orem c 1) ((Above.orem c 1 (by decide)).mono (Nat.zero_le _)) (credit_outO (off4_1 c)) sem10_0) $$ HR Hlev Hcct0 HO Hact0; iintro Hstt0 Houtt0 HO Hact0 Hrct0
  iapply (ld_slot16 (F := F) c (d := true) (m := Memref.whole cc0_scratch2) rfl sOff_0) $$ Hcmt0; iintro %y27 %hy27 Hcmt0
  iapply (ld_stgD (F := F) c (d := true) (m := Memref.whole cc0_scratch4) rfl sOff_0) $$ Hstt0; iintro %u28 Hstt0
  iapply (st_stgE (F := F) c (d := true) (w := k0_pay25 y27) (v := Ov I true 2 c) (gather_stage I true 1 c hy27) (m := Memref.whole cc0_scratch4) rfl sOff_0) $$ Hstt0; iintro Hstt0
  iapply Hk $$ Hacf0 Hact0 HO Hcmf0 Hcmt0 Houtf0 Hccf0 Hstt0 Houtt0 Hrct0

theorem run_26 (v2 : BitVec 32) (v25 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ stgH c true 0 (Ov I true 2 c)
      -∗ outA c (bk true 5 c) true
      -∗ dutyTok ER (copyCell true 0 c) 1 false
      -∗ reached ER (copyCell true 0 c) 1
      -∗ (cred (tallyAt (copyCell true 0 c) 0 N32)
          -∗ WP (kk ⟨⟩) Q)
      -∗ WP (k0_part26 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v25 >>= kk) Q) := by
  rw [k0_part26_eq_skeleton]; unfold k0_part26_skel
  simp only [semSignalWord, semWaitWord, smemLoad, smemLoadElt, Prog.lift, Prog.bind_op, Prog.bind_ret, Prog.pure_eq_ret, wp_deviceId]
  iintro #HR #Hlev Hstt0 Houtt2 Hctkt2 Hrct0 Hk
  iapply (cp_start I K c true 2 (by decide) 0 rfl 1 rfl (stgS_of (d := true) (m := Memref.whole cc0_scratch4) rfl sOff_0) (outB_of (off4c_1 c)) sem10_0) $$ HR Hstt0 Houtt2 Hctkt2 Hrct0; iintro Hcct0
  iapply Hk $$ Hcct0

theorem run_27 (v14 : BitVec 32) (v25 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ accH c (bk false 5 c) false (Mv I false 5 c)
      -∗ commA (nx false c) false 1
      -∗ owesE c (Orem c 1)
      -∗ toks false 5 c
      -∗ reached ER (sendCell false 1 c) 2
      -∗ reached ER (recvCell false 1 (nx false c)) 2
      -∗ accH c (bk true 5 c) true (Mv I true 5 c)
      -∗ commA (nx true c) true 1
      -∗ toks true 5 c
      -∗ reached ER (sendCell true 1 c) 2
      -∗ reached ER (recvCell true 1 (nx true c)) 2
      -∗ atPos ER (sendCell false 1 c) 2 ∅ 0
      -∗ cred (tallyAt (recvCell false 1 c) 7 N16)
      -∗ atPos ER (recvCell false 1 c) 2 ∅ 0
      -∗ (atPos ER (sendCell false 1 c) 3 ∅ 0 -∗ atPos ER (recvCell false 1 c) 3 ∅ 0 -∗ owesE c (Orem c 0) -∗ cred (tallyAt (sendCell true 1 c) 0 N16) -∗ accA c (bk false 5 c) false -∗ reached ER (sendCell false 1 c) 3 -∗ commH c false 1 (Mv I false 5 (pv false c)) -∗ reached ER (recvCell false 1 c) 3
          -∗ WP (kk ⟨⟩) Q)
      -∗ WP (k0_part27 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v14 v25 >>= kk) Q) := by
  rw [k0_part27_eq_skeleton]; unfold k0_part27_skel
  simp only [semSignalWord, semWaitWord, smemLoad, smemLoadElt, Prog.lift, Prog.bind_op, Prog.bind_ret, Prog.pure_eq_ret, wp_deviceId]
  iintro #HR #Hlev Haf1 Hcxf1 HO Htkf5 Hrsf1 Hrxf1 Hat1 Hcxt1 Htkt5 Hrst1 Hrxt1 Hasf1 Hcrf5 Harf1 Hk
  ihave HO := (owes_next (F := F) c 0 5 rfl) $$ HO
  ihave Hf := (fb_none (F := F) c false 5 (by decide))
  iapply (hop_send I K c false 5 (by decide) 1 rfl 2 rfl (Orem c 0 + ow true 5 c) (Mv I false 5 c) rfl (bk false 5 c) rfl (dev13_ c) (accB_of (off13c_2 c)) (commS_of (d := false) (m := Memref.whole cc0_scratch1) rfl sOff_1) sem5_1 sem6_1) $$ HR Haf1 Hcxf1 Hf HO Htkf5 Hrsf1 Hrxf1; iintro Hcsf1 HO
  ihave Hf := (fb_none (F := F) c true 5 (by decide))
  iapply (hop_send I K c true 5 (by decide) 1 rfl 2 rfl (Orem c 0) (Mv I true 5 c) rfl (bk true 5 c) rfl (dev14_ c) (accB_of (off14c_2 c)) (commS_of (d := true) (m := Memref.whole cc0_scratch2) rfl sOff_1) sem7_1 sem8_1) $$ HR Hat1 Hcxt1 Hf HO Htkt5 Hrst1 Hrxt1; iintro Hcst1 HO
  iapply (send_wait I K c false 5 (by decide) 1 rfl 2 rfl (Orem c 0) (Above.orem c 0 (by decide)) (bk false 5 c) rfl (accB_of (off13_2 c)) sem5_1) $$ HR Hlev Hcsf1 HO Hasf1; iintro Haf1 HO Hasf1 Hrsf1
  iapply (recv_wait I K c false 5 (by decide) 1 rfl 2 rfl (Orem c 0) (Above.orem c 0 (by decide)) (commS_of (d := false) (m := Memref.whole cc0_scratch1) rfl sOff_1) sem6_1) $$ HR Hlev Hcrf5 HO Harf1; iintro Hcmf1 Hf HO Harf1 Hrrf1
  iclear Hf
  iapply Hk $$ Hasf1 Harf1 HO Hcst1 Haf1 Hrsf1 Hcmf1 Hrrf1

theorem run_28 (v2 : BitVec 32) (v14 : BitVec 32) {h0 h1 h2 h3 h4 h5 h6 h7 h8 h9} {β : Type}
    {kk : (Σ' (v880 : BitVec 32), BitVec 32) → Prog (TpuEff nD τ sig (Elt F) Λ₀ .tc) β} {Q : β → sProp 𝕄} :
    REC ⊢ iprop(levAts L lv
      -∗ cred (tallyAt (sendCell true 1 c) 0 N16)
      -∗ owesE c (Orem c 0)
      -∗ atPos ER (sendCell true 1 c) 2 ∅ 0
      -∗ cred (tallyAt (recvCell true 1 c) 7 N16)
      -∗ atPos ER (recvCell true 1 c) 2 ∅ 0
      -∗ (∀ w0 : BitVec 32, ∀ w1 : BitVec 32, atPos ER (sendCell true 1 c) 3 ∅ 0 -∗ atPos ER (recvCell true 1 c) 3 ∅ 0 -∗ owesE c (Orem c 0) -∗ accA c (bk true 5 c) true -∗ reached ER (sendCell true 1 c) 3 -∗ commH c true 1 (Mv I true 5 (pv true c)) -∗ reached ER (recvCell true 1 c) 3
          -∗ WP (kk ⟨w0, w1⟩) Q)
      -∗ WP (k0_part28 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v2 v14 >>= kk) Q) := by
  rw [k0_part28_eq_skeleton]; unfold k0_part28_skel
  simp only [semSignalWord, semWaitWord, smemLoad, smemLoadElt, Prog.lift, Prog.bind_op, Prog.bind_ret, Prog.pure_eq_ret, wp_deviceId]
  iintro #HR #Hlev Hcst1 HO Hast1 Hcrt5 Hart1 Hk
  iapply (send_wait I K c true 5 (by decide) 1 rfl 2 rfl (Orem c 0) (Above.orem c 0 (by decide)) (bk true 5 c) rfl (accB_of (off14_2 c)) sem7_1) $$ HR Hlev Hcst1 HO Hast1; iintro Hat1 HO Hast1 Hrst1
  iapply (recv_wait I K c true 5 (by decide) 1 rfl 2 rfl (Orem c 0) (Above.orem c 0 (by decide)) (commS_of (d := true) (m := Memref.whole cc0_scratch2) rfl sOff_1) sem8_1) $$ HR Hlev Hcrt5 HO Hart1; iintro Hcmt1 Hf HO Hart1 Hrrt1
  iclear Hf
  iapply Hk $$ %_ %_ Hast1 Hart1 HO Hat1 Hrst1 Hcmt1 Hrrt1

theorem run_29 (v880 : BitVec 32) (v891 : BitVec 32) {h0 h1 h2 h3 h4 h5 h6 h7 h8 h9} {β : Type}
    {kk : (PUnit) → Prog (TpuEff nD τ sig (Elt F) Λ₀ .tc) β} {Q : β → sProp 𝕄} :
    REC ⊢ iprop(levAts L lv
      -∗ commH c false 1 (Mv I false 5 (pv false c))
      -∗ accA c (bk false 6 c) false
      -∗ commH c true 1 (Mv I true 5 (pv true c))
      -∗ accA c (bk true 6 c) true
      -∗ cred (tallyAt (copyCell false 1 c) 0 N32)
      -∗ owesE c (Orem c 0)
      -∗ atPos ER (copyCell false 1 c) 0 ∅ 0
      -∗ (atPos ER (copyCell false 1 c) 1 ∅ 0 -∗ owesE c (Orem c 0) -∗ accH c (bk false 6 c) false (Mv I false 6 c) -∗ accH c (bk true 6 c) true (Mv I true 6 c) -∗ commH c false 1 (Mv I false 5 (pv false c)) -∗ commH c true 1 (Mv I true 5 (pv true c)) -∗ stgH c false 1 (Ov I false 3 c) -∗ outH c (bk false 4 c) false (Ov I false 1 c) -∗ reached ER (copyCell false 1 c) 1
          -∗ WP (kk ⟨⟩) Q)
      -∗ WP (k0_part29 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c v880 v891 >>= kk) Q) := by
  rw [k0_part29_eq_skeleton]; unfold k0_part29_skel
  simp only [semSignalWord, semWaitWord, smemLoad, smemLoadElt, Prog.lift, Prog.bind_op, Prog.bind_ret, Prog.pure_eq_ret, wp_deviceId]
  iintro #HR #Hlev Hcmf1 Haf2 Hcmt1 Hat2 Hccf1 HO Hacf1 Hk
  iapply (ld_slot16 (F := F) c (d := false) (m := Memref.whole cc0_scratch1) rfl sOff_1) $$ Hcmf1; iintro %y29 %hy29 Hcmf1
  iapply (ld_accD (F := F) c (off15c_2 c)) $$ Haf2; iintro %u30 Haf2
  iapply (st_accE (F := F) c (w := k0_pay26 y29) (v := Mv I false 6 c) (gather_step I false 2 c hy29) (off15c_2 c)) $$ Haf2; iintro Haf2
  iapply (ld_slot16 (F := F) c (d := true) (m := Memref.whole cc0_scratch2) rfl sOff_1) $$ Hcmt1; iintro %y31 %hy31 Hcmt1
  iapply (ld_accD (F := F) c (off16c_2 c)) $$ Hat2; iintro %u32 Hat2
  iapply (st_accE (F := F) c (w := k0_pay27 y31) (v := Mv I true 6 c) (gather_step I true 2 c hy31) (off16c_2 c)) $$ Hat2; iintro Hat2
  iapply (cp_wait I K c false 1 (by decide) 1 rfl 0 rfl (Orem c 0) ((Above.orem c 0 (by decide)).mono (Nat.zero_le _)) (credit_outO (off3_2 c)) sem9_1) $$ HR Hlev Hccf1 HO Hacf1; iintro Hstf1 Houtf1 HO Hacf1 Hrcf1
  iapply (ld_slot16 (F := F) c (d := false) (m := Memref.whole cc0_scratch1) rfl sOff_1) $$ Hcmf1; iintro %y33 %hy33 Hcmf1
  iapply (ld_stgD (F := F) c (d := false) (m := Memref.whole cc0_scratch3) rfl sOff_1) $$ Hstf1; iintro %u34 Hstf1
  iapply (st_stgE (F := F) c (d := false) (w := k0_pay28 y33) (v := Ov I false 3 c) (gather_stage I false 2 c hy33) (m := Memref.whole cc0_scratch3) rfl sOff_1) $$ Hstf1; iintro Hstf1
  iapply Hk $$ Hacf1 HO Haf2 Hat2 Hcmf1 Hcmt1 Hstf1 Houtf1 Hrcf1

theorem run_30  {h0 h1 h2 h3 h4 h5 h6 h7 h8 h9} {β : Type}
    {kk : (PUnit) → Prog (TpuEff nD τ sig (Elt F) Λ₀ .tc) β} {Q : β → sProp 𝕄} :
    REC ⊢ iprop(levAts L lv
      -∗ stgH c false 1 (Ov I false 3 c)
      -∗ outA c (bk false 6 c) false
      -∗ dutyTok ER (copyCell false 1 c) 1 false
      -∗ reached ER (copyCell false 1 c) 1
      -∗ cred (tallyAt (copyCell true 1 c) 0 N32)
      -∗ owesE c (Orem c 0)
      -∗ atPos ER (copyCell true 1 c) 0 ∅ 0
      -∗ commH c true 1 (Mv I true 5 (pv true c))
      -∗ outA c (bk true 6 c) true
      -∗ dutyTok ER (copyCell true 1 c) 1 false
      -∗ cred (tallyAt (copyCell false 0 c) 0 N32)
      -∗ atPos ER (copyCell false 0 c) 1 ∅ 0
      -∗ (atPos ER (copyCell false 0 c) 2 ∅ 0 -∗ atPos ER (copyCell true 1 c) 1 ∅ 0 -∗ owesE c (Orem c 0) -∗ commH c true 1 (Mv I true 5 (pv true c)) -∗ cred (tallyAt (copyCell false 1 c) 0 N32) -∗ outH c (bk true 4 c) true (Ov I true 1 c) -∗ cred (tallyAt (copyCell true 1 c) 0 N32) -∗ stgA c false 0 -∗ outH c (bk false 5 c) false (Ov I false 2 c) -∗ reached ER (copyCell false 0 c) 2
          -∗ WP (kk ⟨⟩) Q)
      -∗ WP (k0_part30 xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10 c >>= kk) Q) := by
  rw [k0_part30_eq_skeleton]; unfold k0_part30_skel
  simp only [semSignalWord, semWaitWord, smemLoad, smemLoadElt, Prog.lift, Prog.bind_op, Prog.bind_ret, Prog.pure_eq_ret, wp_deviceId]
  iintro #HR #Hlev Hstf1 Houtf3 Hctkf3 Hrcf1 Hcct1 HO Hact1 Hcmt1 Houtt3 Hctkt3 Hccf0 Hacf0 Hk
  iapply (cp_start I K c false 3 (by decide) 1 rfl 1 rfl (stgS_of (d := false) (m := Memref.whole cc0_scratch3) rfl sOff_1) (outB_of (off3c_2 c)) sem9_1) $$ HR Hstf1 Houtf3 Hctkf3 Hrcf1; iintro Hccf1
  iapply (cp_wait I K c true 1 (by decide) 1 rfl 0 rfl (Orem c 0) ((Above.orem c 0 (by decide)).mono (Nat.zero_le _)) (credit_outO (off4_2 c)) sem10_1) $$ HR Hlev Hcct1 HO Hact1; iintro Hstt1 Houtt1 HO Hact1 Hrct1
  iapply (ld_slot16 (F := F) c (d := true) (m := Memref.whole cc0_scratch2) rfl sOff_1) $$ Hcmt1; iintro %y35 %hy35 Hcmt1
  iapply (ld_stgD (F := F) c (d := true) (m := Memref.whole cc0_scratch4) rfl sOff_1) $$ Hstt1; iintro %u36 Hstt1
  iapply (st_stgE (F := F) c (d := true) (w := k0_pay29 y35) (v := Ov I true 3 c) (gather_stage I true 2 c hy35) (m := Memref.whole cc0_scratch4) rfl sOff_1) $$ Hstt1; iintro Hstt1
  iapply (cp_start I K c true 3 (by decide) 1 rfl 1 rfl (stgS_of (d := true) (m := Memref.whole cc0_scratch4) rfl sOff_1) (outB_of (off4c_2 c)) sem10_1) $$ HR Hstt1 Houtt3 Hctkt3 Hrct1; iintro Hcct1
  iapply (cp_wait I K c false 2 (by decide) 0 rfl 1 rfl (Orem c 0) ((Above.orem c 0 (by decide)).mono (Nat.zero_le _)) credit_out0 sem9_0) $$ HR Hlev Hccf0 HO Hacf0; iintro Hstf0 Houtf2 HO Hacf0 Hrcf0
  iapply Hk $$ Hacf0 Hact1 HO Hcmt1 Hccf1 Houtt1 Hcct1 Hstf0 Houtf2 Hrcf0

end Cert.RingGemm

end
-- ==== Proof.Whole.lean ====
/-
The whole run of a device.
-/
module

public import proofs.«01_k».proof.Proof.RunA
public import proofs.«01_k».proof.Proof.RunB

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × Fin 13 → ℕ) (c : Dev nD)

local notation "WP" => wp frame (wpE (defs₀ (F := F)) 𝒱₀ (c : Thread nD τ) none) Set.univ
local notation "REC" => records (Mv I) (Ov I) K

set_option maxHeartbeats 1000000 in
/-- From the start of the body to its last wait but one, the stretches one after another. -/
theorem run_all {h0 h1 h2 h3 h4 h5 h6 h7 h8 h9} {Q : PUnit → sProp 𝕄} :
    REC ⊢ iprop(levAts L lv
      -∗ ((c : Thread nD τ).loc cc0_stg0_0 ↦{fullShare} (I.X c))
      -∗ ((c : Thread nD τ).loc cc0_stg1_0 ↦{fullShare} (I.W c))
      -∗ ((c : Thread nD τ).loc cc0_stg2_0 ↦{fullShare} (I.sx c))
      -∗ ((c : Thread nD τ).loc cc0_stg3_0 ↦{fullShare} (I.sw c))
      -∗ accCA c (bk false 0 c)
      -∗ accCA c (bk false 1 c)
      -∗ accCA c (bk false 2 c)
      -∗ accCA c (bk false 3 c)
      -∗ commA c false 0
      -∗ stgA c false 0
      -∗ commA c false 1
      -∗ stgA c false 1
      -∗ outA c (bk false 3 c) false
      -∗ outA c (bk false 4 c) false
      -∗ outA c (bk false 5 c) false
      -∗ outA c (bk false 6 c) false
      -∗ toks false 0 c
      -∗ toks false 1 c
      -∗ toks false 2 c
      -∗ toks false 3 c
      -∗ toks false 4 c
      -∗ toks false 5 c
      -∗ dutyTok ER (copyCell false 0 c) 0 false
      -∗ dutyTok ER (copyCell false 1 c) 0 false
      -∗ dutyTok ER (copyCell false 0 c) 1 false
      -∗ dutyTok ER (copyCell false 1 c) 1 false
      -∗ atPos ER (sendCell false 0 c) 0 ∅ 0
      -∗ atPos ER (recvCell false 0 c) 0 ∅ 0
      -∗ atPos ER (copyCell false 0 c) 0 ∅ 0
      -∗ atPos ER (sendCell false 1 c) 0 ∅ 0
      -∗ atPos ER (recvCell false 1 c) 0 ∅ 0
      -∗ atPos ER (copyCell false 1 c) 0 ∅ 0
      -∗ cred (tallyAt (recvCell false 0 c) 2 N16)
      -∗ cred (tallyAt (recvCell false 1 c) 3 N16)
      -∗ cred (tallyAt (recvCell false 0 c) 4 N16)
      -∗ cred (tallyAt (recvCell false 1 c) 5 N16)
      -∗ cred (tallyAt (recvCell false 0 c) 6 N16)
      -∗ cred (tallyAt (recvCell false 1 c) 7 N16)
      -∗ commA c true 0
      -∗ stgA c true 0
      -∗ commA c true 1
      -∗ stgA c true 1
      -∗ outA c (bk true 3 c) true
      -∗ outA c (bk true 4 c) true
      -∗ outA c (bk true 5 c) true
      -∗ outA c (bk true 6 c) true
      -∗ toks true 0 c
      -∗ toks true 1 c
      -∗ toks true 2 c
      -∗ toks true 3 c
      -∗ toks true 4 c
      -∗ toks true 5 c
      -∗ dutyTok ER (copyCell true 0 c) 0 false
      -∗ dutyTok ER (copyCell true 1 c) 0 false
      -∗ dutyTok ER (copyCell true 0 c) 1 false
      -∗ dutyTok ER (copyCell true 1 c) 1 false
      -∗ atPos ER (sendCell true 0 c) 0 ∅ 0
      -∗ atPos ER (recvCell true 0 c) 0 ∅ 0
      -∗ atPos ER (copyCell true 0 c) 0 ∅ 0
      -∗ atPos ER (sendCell true 1 c) 0 ∅ 0
      -∗ atPos ER (recvCell true 1 c) 0 ∅ 0
      -∗ atPos ER (copyCell true 1 c) 0 ∅ 0
      -∗ cred (tallyAt (recvCell true 0 c) 2 N16)
      -∗ cred (tallyAt (recvCell true 1 c) 3 N16)
      -∗ cred (tallyAt (recvCell true 0 c) 4 N16)
      -∗ cred (tallyAt (recvCell true 1 c) 5 N16)
      -∗ cred (tallyAt (recvCell true 0 c) 6 N16)
      -∗ cred (tallyAt (recvCell true 1 c) 7 N16)
      -∗ dutyTok ER (barCell (nx true c)) 0 false
      -∗ dutyTok ER (barCell (nx false c)) 0 true
      -∗ cred (tallyAt (barCell c) 1 2)
      -∗ atPos ER (barCell c) 0 ∅ 0
      -∗ owesE c (O₀ c)
      -∗ (((c : Thread nD τ).loc cc0_stg0_0 ↦{fullShare} (I.X c)) -∗ ((c : Thread nD τ).loc cc0_stg1_0 ↦{fullShare} (I.W c)) -∗ ((c : Thread nD τ).loc cc0_stg2_0 ↦{fullShare} (I.sx c)) -∗ ((c : Thread nD τ).loc cc0_stg3_0 ↦{fullShare} (I.sw c)) -∗ atPos ER (sendCell false 0 c) 3 ∅ 0 -∗ atPos ER (recvCell false 0 c) 3 ∅ 0 -∗ atPos ER (copyCell false 0 c) 2 ∅ 0 -∗ atPos ER (sendCell false 1 c) 3 ∅ 0 -∗ atPos ER (recvCell false 1 c) 3 ∅ 0 -∗ atPos ER (copyCell false 1 c) 2 ∅ 0 -∗ atPos ER (sendCell true 0 c) 3 ∅ 0 -∗ atPos ER (recvCell true 0 c) 3 ∅ 0 -∗ atPos ER (copyCell true 0 c) 2 ∅ 0 -∗ atPos ER (sendCell true 1 c) 3 ∅ 0 -∗ atPos ER (recvCell true 1 c) 3 ∅ 0 -∗ atPos ER (copyCell true 1 c) 2 ∅ 0 -∗ atPos ER (barCell c) 1 ∅ 0 -∗ owesE c (Orem c 0) -∗ accH c (bk false 6 c) false (Mv I false 6 c) -∗ accH c (bk true 6 c) true (Mv I true 6 c) -∗ accA c (bk false 3 c) false -∗ accA c (bk true 3 c) true -∗ accA c (bk false 4 c) false -∗ reached ER (sendCell false 0 c) 3 -∗ commH c false 0 (Mv I false 4 (pv false c)) -∗ reached ER (recvCell false 0 c) 3 -∗ accA c (bk true 4 c) true -∗ reached ER (sendCell true 0 c) 3 -∗ commH c true 0 (Mv I true 4 (pv true c)) -∗ reached ER (recvCell true 0 c) 3 -∗ outH c (bk false 3 c) false (Ov I false 0 c) -∗ outH c (bk true 3 c) true (Ov I true 0 c) -∗ accA c (bk false 5 c) false -∗ reached ER (sendCell false 1 c) 3 -∗ commH c false 1 (Mv I false 5 (pv false c)) -∗ reached ER (recvCell false 1 c) 3 -∗ accA c (bk true 5 c) true -∗ reached ER (sendCell true 1 c) 3 -∗ commH c true 1 (Mv I true 5 (pv true c)) -∗ reached ER (recvCell true 1 c) 3 -∗ outH c (bk false 4 c) false (Ov I false 1 c) -∗ outH c (bk true 4 c) true (Ov I true 1 c) -∗ stgA c false 0 -∗ outH c (bk false 5 c) false (Ov I false 2 c) -∗ reached ER (copyCell false 0 c) 2 -∗ stgA c true 0 -∗ outH c (bk true 5 c) true (Ov I true 2 c) -∗ reached ER (copyCell true 0 c) 2 -∗ stgA c false 1 -∗ outH c (bk false 6 c) false (Ov I false 3 c) -∗ reached ER (copyCell false 1 c) 2 -∗ stgA c true 1 -∗ outH c (bk true 6 c) true (Ov I true 3 c) -∗ reached ER (copyCell true 1 c) 2
          -∗ |={Set.univ}=> Q ⟨⟩)
      -∗ WP (cc0_body xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10) Q) := by
  rw [cc0_body_eq_skeleton]; unfold cc0_body_skel
  rw [k0_part31_eq_skeleton]; unfold k0_part31_skel
  simp only [Prog.lift, Prog.bind_op, Prog.bind_ret, Prog.pure_eq_ret]
  rw [wp_bind]
  iintro #HR #Hlev Hx Hw Hsx Hsw Hch0 Hch1 Hch2 Hch3 Hcmf0 Hstf0 Hcmf1 Hstf1 Houtf0 Houtf1 Houtf2 Houtf3 Htkf0 Htkf1 Htkf2 Htkf3 Htkf4 Htkf5 Hctkf0 Hctkf1 Hctkf2 Hctkf3 Hasf0 Harf0 Hacf0 Hasf1 Harf1 Hacf1 Hcrf0 Hcrf1 Hcrf2 Hcrf3 Hcrf4 Hcrf5 Hcmt0 Hstt0 Hcmt1 Hstt1 Houtt0 Houtt1 Houtt2 Houtt3 Htkt0 Htkt1 Htkt2 Htkt3 Htkt4 Htkt5 Hctkt0 Hctkt1 Hctkt2 Hctkt3 Hast0 Hart0 Hact0 Hast1 Hart1 Hact1 Hcrt0 Hcrt1 Hcrt2 Hcrt3 Hcrt4 Hcrt5 Hbt0 Hbt1 Hbc Hba HO Hk
  iapply (run_1 (F := F) I K c ) $$ HR Hlev Hcmf0 Hcmf1 HO Hbt0 Hcmt0 Hcmt1 Hbt1 Hbc Hba
  iintro %w1 %w2 %w3 Hba HO Hcxf0 Hcxf1 Hcxt0 Hcxt1
  iapply (run_2 (F := F) I K c _) $$ HR Hlev Hx Hw Hch0
  iintro %w0 %w1 Hx Hw Haf0 Hat0
  iapply (run_3 (F := F) I K c _ _ _ _ _) $$ HR Hlev Haf0 Hcxf0 HO Htkf0 Hat0 Hcxt0 Htkt0
  iintro %w0 HO Hcsf0 Hcst0
  iapply (run_4 (F := F) I K c _ _) $$ HR Hlev Hx Hw Hch3 Hch2
  iintro %w0 %w1 Hx Hw Haf3 Hat1 Haf2 Hat2
  iapply (run_5 (F := F) I K c _ _ _) $$ HR Hlev Hx Hw Hch1 Hcsf0 HO Hasf0
  iintro  Hx Hw Hasf0 HO Haf1 Hat3 Haf0 Hrsf0
  iapply (run_6 (F := F) I K c _ _) $$ HR Hlev Hcrf0 HO Harf0 Hcst0 Hast0 Hcrt0 Hart0
  iintro %w0 %w1 %w2 %w3 Harf0 Hast0 Hart0 HO Hcmf0 Hrrf0 Hat0 Hrst0 Hcmt0 Hrrt0
  iapply (run_7 (F := F) I K c _ _ _ _ _) $$ HR Hlev Haf1 Hcmf0 Hat1 Hcmt0
  iintro %w0 %w1 %w2 Hat1 Haf1 Hcmf0 Hcmt0
  iapply (run_8 (F := F) I K c _ _ _ _ _) $$ HR Hlev Haf1 Hcxf1 HO Htkf1 Hcmt0 Hrrt0
  iintro %w0 HO Hcsf1
  iapply (run_9 (F := F) I K c _ _ _) $$ HR Hlev Hat1 Hcxt1 HO Htkt1 Hcmf0 Hrrf0 Hcsf1 Hasf1 Hcrf1 Harf1 Hast1
  iintro %w0 Hasf1 Harf1 Hast1 HO Haf1 Hrsf1 Hcmf1 Hrrf1 Hcxt0 Hrxt0 Hat1 Hrst1
  iapply (run_10 (F := F) I K c _ _ _) $$ HR Hlev Hcrt1 HO Hart1 Haf2
  iintro %w0 %w1 Hart1 HO Haf2 Hcmt1 Hrrt1 Hcxf0 Hrxf0
  iapply (run_11 (F := F) I K c _ _ _) $$ HR Hlev Hcmf1 Haf2 Hat2 Hcmt1
  iintro %w0 %w1 %w2 %w3 Haf2 Hat2 Hcmf1 Hcmt1
  iapply (run_12 (F := F) I K c _ _ _ _ _ _) $$ HR Hlev Haf2 Hcxf0 HO Htkf2 Hcmt1 Hrrt1 Hrsf0 Hrxf0 Hat2 Hcxt0 Htkt2 Hcmf1 Hrrf1 Hrst0 Hrxt0
  iintro  HO Hcsf0 Hcst0
  iapply (run_13 (F := F) I K c _ _ _) $$ HR Hlev Hcsf0 HO Hasf0 Hcrf2 Harf0 Hcst0 Hast0 Hcrt2 Hart0
  iintro %w0 %w1 Hasf0 Harf0 Hast0 Hart0 HO Haf2 Hrsf0 Hcmf0 Hrrf0 Hcxt1 Hrxt1 Hat2 Hrst0 Hcmt0 Hrrt0 Hcxf1 Hrxf1
  iapply (run_14 (F := F) I K c _ _ _) $$ HR Hlev Haf3 Hcmf0 Hat3 Hcmt0
  iintro %w0 %y10 %hy10 Haf3 Hat3 Hcmf0 Hcmt0
  iapply (run_15 (F := F) I K c _ _ hy10) $$ HR Hlev Hat3 Hsx Hsw
  iintro %w1 %w2 Hsx Hsw Hat3
  iapply (run_16 (F := F) I K c _ _) $$ HR Hlev Haf3 Hstf0 Houtf0 Hctkf0 Hat3 Hstt0
  iintro  Hstt0 Haf3 Hat3 Hccf0
  iapply (run_17 (F := F) I K c _ _) $$ HR Hlev Hstt0 Houtt0 Hctkt0
  iintro  Hcct0
  iapply (run_18 (F := F) I K c _ _) $$ HR Hlev Haf3 Hcxf1 HO Htkf3 Hcmt0 Hrrt0 Hrsf1 Hrxf1 Hat3 Hcxt1 Htkt3 Hcmf0 Hrrf0 Hrst1 Hrxt1 Hasf1 Hcrf3 Harf1
  iintro  Hasf1 Harf1 HO Hcst1 Haf3 Hrsf1 Hcmf1 Hrrf1 Hcxt0 Hrxt0
  iapply (run_19 (F := F) I K c _ _) $$ HR Hlev Hcst1 HO Hast1 Hcrt3 Hart1
  iintro %w0 %w1 %w2 %w3 Hast1 Hart1 HO Hat3 Hrst1 Hcmt1 Hrrt1 Hcxf0 Hrxf0
  iapply (run_20 (F := F) I K c _ _ _ _) $$ HR Hlev Hcmf1 Haf0 Hcmt1 Hat0 Hstf1 Houtf1 Hctkf1
  iintro  Haf0 Hat0 Hcmf1 Hcmt1 Hccf1
  iapply (run_21 (F := F) I K c _) $$ HR Hlev Hcmt1 Hstt1 Houtt1 Hctkt1
  iintro %w0 %w1 %w2 %w3 %w4 Hcmt1 Hcct1
  iapply (run_22 (F := F) I K c _ _ _ _ _ _ _) $$ HR Hlev Haf0 Hcxf0 HO Htkf4 Hcmt1 Hrrt1 Hrsf0 Hrxf0 Hat0 Hcxt0 Htkt4 Hcmf1 Hrrf1 Hrst0 Hrxt0 Hasf0
  iintro  Hasf0 HO Hcst0 Haf0 Hrsf0
  iapply (run_23 (F := F) I K c _ _ _) $$ HR Hlev Hcrf4 HO Harf0 Hcst0 Hast0 Hcrt4 Hart0
  iintro %w0 %w1 %w2 Harf0 Hast0 Hart0 HO Hcmf0 Hrrf0 Hcxt1 Hrxt1 Hat0 Hrst0 Hcmt0 Hrrt0 Hcxf1 Hrxf1
  iapply (run_24 (F := F) I K c _ _ _ _) $$ HR Hlev Hcmf0 Haf1 Hcmt0 Hat1
  iintro  Haf1 Hat1 Hcmf0 Hcmt0
  iapply (run_25 (F := F) I K c ) $$ HR Hlev Hccf0 HO Hacf0 Hcmf0 Houtf2 Hctkf2 Hcct0 Hact0 Hcmt0
  iintro  Hacf0 Hact0 HO Hcmf0 Hcmt0 Houtf0 Hccf0 Hstt0 Houtt0 Hrct0
  iapply (run_26 (F := F) I K c _ _) $$ HR Hlev Hstt0 Houtt2 Hctkt2 Hrct0
  iintro  Hcct0
  iapply (run_27 (F := F) I K c _ _) $$ HR Hlev Haf1 Hcxf1 HO Htkf5 Hrsf1 Hrxf1 Hat1 Hcxt1 Htkt5 Hrst1 Hrxt1 Hasf1 Hcrf5 Harf1
  iintro  Hasf1 Harf1 HO Hcst1 Haf1 Hrsf1 Hcmf1 Hrrf1
  iapply (run_28 (F := F) I K c _ _) $$ HR Hlev Hcst1 HO Hast1 Hcrt5 Hart1
  iintro %w0 %w1 Hast1 Hart1 HO Hat1 Hrst1 Hcmt1 Hrrt1
  iapply (run_29 (F := F) I K c _ _) $$ HR Hlev Hcmf1 Haf2 Hcmt1 Hat2 Hccf1 HO Hacf1
  iintro  Hacf1 HO Haf2 Hat2 Hcmf1 Hcmt1 Hstf1 Houtf1 Hrcf1
  iapply (run_30 (F := F) I K c ) $$ HR Hlev Hstf1 Houtf3 Hctkf3 Hrcf1 Hcct1 HO Hact1 Hcmt1 Houtt3 Hctkt3 Hccf0 Hacf0
  iintro  Hacf0 Hact1 HO Hcmt1 Hccf1 Houtt1 Hcct1 Hstf0 Houtf2 Hrcf0
  iapply (cp_wait I K c true 2 (by decide) 0 rfl 1 rfl (Orem c 0) ((Above.orem c 0 (by decide)).mono (Nat.zero_le _)) credit_out0 sem10_0) $$ HR Hlev Hcct0 HO Hact0; iintro Hstt0 Houtt2 HO Hact0 Hrct0
  iapply (cp_wait I K c false 3 (by decide) 1 rfl 1 rfl (Orem c 0) ((Above.orem c 0 (by decide)).mono (Nat.zero_le _)) credit_out0 sem9_1) $$ HR Hlev Hccf1 HO Hacf1; iintro Hstf1 Houtf3 HO Hacf1 Hrcf1
  rw [wp_ret]; imodintro
  iapply (cp_wait I K c true 3 (by decide) 1 rfl 1 rfl (Orem c 0) ((Above.orem c 0 (by decide)).mono (Nat.zero_le _)) credit_out0 sem10_1) $$ HR Hlev Hcct1 HO Hact1; iintro Hstt1 Houtt3 HO Hact1 Hrct1
  rw [wp_ret]
  iapply Hk $$ Hx Hw Hsx Hsw Hasf0 Harf0 Hacf0 Hasf1 Harf1 Hacf1 Hast0 Hart0 Hact0 Hast1 Hart1 Hact1 Hba HO Haf2 Hat2 Haf3 Hat3 Haf0 Hrsf0 Hcmf0 Hrrf0 Hat0 Hrst0 Hcmt0 Hrrt0 Houtf0 Houtt0 Haf1 Hrsf1 Hcmf1 Hrrf1 Hat1 Hrst1 Hcmt1 Hrrt1 Houtf1 Houtt1 Hstf0 Houtf2 Hrcf0 Hstt0 Houtt2 Hrct0 Hstf1 Houtf3 Hrcf1 Hstt1 Houtt3 Hrct1

end Cert.RingGemm

end
-- ==== Proof.Ghost.lean ====
/-
What every device is dealt at the launch: its places on its own cells, a token for each raise it will make, and the
credit for each raise it will wait for.
-/
module

public import proofs.«01_k».proof.Proof.Steps
public import proofs.«01_k».proof.Proof.Pieces

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Ghost

variable (M : Bool → ℕ → Dev nD → V16 F) (OV : Bool → ℕ → Dev nD → V32 F)

/-! ## The tokens, named by who pays with them -/

/-- The seventeen raises device `c` makes in direction `d`: six sends, their six landings, four copies, one barrier raise. -/
def tokOf (x : Dev nD × Bool × Fin 17) : GSem nD τ sig × ℕ × Bool :=
  let c := x.1; let d := x.2.1; let j := x.2.2.val
  if j < 6 then (sendCell d (sl j) c, j / 2, false)
  else if j < 12 then (recvCell d (sl (j - 6)) (nx d c), (j - 6) / 2, false)
  else if j < 16 then (copyCell d (sl (j - 12)) c, (j - 12) / 2, false)
  else (barCell (nx (!d) c), 0, d)

theorem tokOf_injective : Function.Injective tokOf := by decide +kernel
theorem kcell_injective : Function.Injective (kcell : Dev nD × Fin 13 → GSem nD τ sig) := by decide +kernel

def ringCells : Finset (GSem nD τ sig) := Finset.univ.map ⟨kcell, kcell_injective⟩
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

abbrev tok1 (x : Dev nD × Bool × Fin 17) : sProp 𝕄 := dutyTok ER (tokOf x).1 (tokOf x).2.1 (tokOf x).2.2
/-- What device `c` pays with. -/
def payToks (c : Dev nD) : sProp 𝕄 := bigSep Finset.univ fun x : Bool × Fin 17 => tok1 (F := F) (c, x)
def places (c : Dev nD) : sProp 𝕄 := bigSep Finset.univ fun k : Fin 13 => atPos ER (kcell (c, k)) 0 ∅ 0

/-- The launch's share of device `c`, and what the launch makes of it. -/
def G (c : Dev nD) : sProp 𝕄 :=
  iprop((bigSep Finset.univ fun k : Fin 13 => roundState ER (Rd M OV) (kcell (c, k)) 0)
    ∗ (bigSep Finset.univ fun k : Fin 13 => iprop(atPos ER (kcell (c, k)) 0 ∅ 0 ∗ reached ER (kcell (c, k)) 0)) ∗ payToks c)
def G' (c : Dev nD) : sProp 𝕄 := iprop(∃ K, records M OV K ∗ places c ∗ payToks c)

theorem fund_ring : BI.own (ER (initOf ringCells ringToks)) ⊢ (|==> bigSep Finset.univ (G M OV) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]; rfl
  iintro HX
  imod (Rounds.fund ER (Rd M OV) ringCells ringToks) $$ HX with ⟨Hst, Hr, Hat, Htok⟩
  imodintro
  ihave Hst' := (Entails.of_eq (hX fun g => roundState ER (Rd M OV) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own twelve, the barrier left out. -/
abbrev osem (k : Fin 12) : SemLoc sig := ksem k.succ
theorem ownSemFacts : Pipeline.OwnSemFacts cfg0.spec osem := by decide

theorem bigSep_13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem sems_eq (c : Dev nD) :
    (bigSep Finset.univ fun k : Fin 13 => semVal (kcell (c, k)) 0 : sProp 𝕄)
      = iprop(unscopedSems0 c ∗ Pipeline.ownSems0 (Ix := ℕ) (Name := ℕ) (U := UU) (Lvl := ℕ) (Val := Elt F) (τ := τ) osem c) := by
  have hu : (unscopedSems0 c : sProp 𝕄) = semVal (barCell c) 0 := by
    unfold unscopedSems0; rw [bigSep_eq_bigSepL_of_eq [SemLoc.reg barS] (by decide) (by decide)]; rfl
  rw [hu, Pipeline.ownSems0_eq_of_list c osem [0, 1, 2, 3, 4, 5, 6, 7, 8, 9, 10, 11] (by decide) (by decide), bigSep_13]; rfl

theorem core_alloc (c : Dev nD) :
    iprop(Pipeline.ownSems0 (Ix := ℕ) (Name := ℕ) (U := UU) (Lvl := ℕ) (Val := Elt F) (τ := τ) osem c ∗ unscopedSems0 c ∗ G M OV c)
      ⊢ |={Set.univ}=> iprop((bigSep Finset.univ fun k => iprop(∃ κ : ℕ, cellInv ER (Rd M OV) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 13 => semVal (kcell (c, k)) 0) ∗ bigSep Finset.univ fun k : Fin 13 => roundState ER (Rd M OV) (kcell (c, k)) 0)
      ⊢ (|={Set.univ}=> bigSep Finset.univ fun k => iprop(∃ κ : ℕ, cellInv ER (Rd M OV) κ (kcell (c, k))) : sProp 𝕄) from by
        rw [← bigSep_sep']
        exact (bigSep_mono fun k _ => (Rounds.body_intro ER (Rd M OV) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_records {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (Rd M OV) κ (kcell (c, k))))
          ∗ (bigSep Finset.univ fun k => iprop(atPos ER (kcell (c, k)) 0 ∅ 0 ∗ reached ER (kcell (c, k)) 0)) ∗ payToks c) : sProp 𝕄)
      ⊢ bigSep Finset.univ (G' M OV) := by
  rw [bigSep_sep', bigSep_sep', ← bigSep_univ_prod (fun ck : Dev nD × Fin 13 => iprop(∃ κ : ℕ, cellInv ER (Rd M OV) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd M OV) κ (kcell ck) : sProp 𝕄))) $$ HI
  icases HK with ⟨%K, #HI⟩
  iapply (with_records (F := F) (R := records M OV K) (Φ := fun c => iprop(places c ∗ payToks c)) fun c => by
    unfold G'
    iintro ⟨#HR, Hp⟩
    iexists K
    isplitr; · iexact HR
    iexact Hp)
  isplitr
  · unfold records; isplitl; · iexact HI
    iexact HR
  · rw [bigSep_sep']; unfold places
    isplitl [Hat]; · iexact Hat
    iexact Htok

/-- Every device's semaphores and share of the launch at once. -/
theorem glob : (bigSep Finset.univ fun c => iprop(Pipeline.ownSems0 (Ix := ℕ) (Name := ℕ) (U := UU) (Lvl := ℕ) (Val := Elt F) (τ := τ) osem c ∗ unscopedSems0 c ∗ G M OV c) : sProp 𝕄)
    ⊢ |={Set.univ}=> bigSep Finset.univ (G' M OV) :=
  ((bigSep_mono fun c _ => core_alloc M OV c).trans (bigSep_fupd _ _)).trans (BI.fupd_mono (regroup M OV))

/-! ## The credit -/

theorem recv_eq_iff (d d' : Bool) (s s' : Fin 2) (c c' : Dev nD) :
    (recvCell d s c = recvCell d' s' c') ↔ (d = d' ∧ s = s' ∧ c = c') := by revert d d' s s' c c'; decide +kernel
theorem bar_eq_iff (c c' : Dev nD) : (barCell c = barCell c') ↔ c = c' := by revert c c'; decide +kernel
theorem bar_ne_recv (d s) (c c' : Dev nD) : (barCell c = recvCell d s c') ↔ False := by revert d s c c'; decide +kernel
theorem recv_ne_bar (d s) (c c' : Dev nD) : (recvCell d s c' = barCell c) ↔ False := by revert d s c c'; decide +kernel

theorem nx_eq_iff (d : Bool) (e c : Dev nD) : (c = nx d e) ↔ (e = nx (!d) c) := by revert d e c; decide

theorem sl_0 : sl 0 = 0 := rfl
theorem sl_1 : sl 1 = 1 := rfl
theorem sl_2 : sl 2 = 0 := rfl
theorem sl_3 : sl 3 = 1 := rfl
theorem sl_4 : sl 4 = 0 := rfl
theorem sl_5 : sl 5 = 1 := rfl

/-- The three landings of one slot. -/
def slotOwed (s : Fin 2) : ℕ →₀ ℕ := Finsupp.single (s.val + 2) N16 + Finsupp.single (s.val + 4) N16 + Finsupp.single (s.val + 6) N16

set_option maxHeartbeats 2000000 in
theorem owed_recv (e : Dev nD) (d : Bool) (s : Fin 2) (c : Dev nD) (u : ℕ) :
    O₀ e (recvCell d s c) u = if e = nx (!d) c then slotOwed s u else 0 := by
  unfold O₀ Orem Orem Orem Orem Orem Orem Orem slotOwed ow
  simp only [Pi.add_apply, Finsupp.add_apply, tallyAt_apply, recv_eq_iff, recv_ne_bar, false_and, if_false, Finsupp.single_apply, Pi.zero_apply, Finsupp.zero_apply,
    nx_eq_iff false e c, nx_eq_iff true e c, Bool.not_false, Bool.not_true, @eq_comm ℕ _ u, sl_0, sl_1, sl_2, sl_3, sl_4, sl_5, Nat.sub_self, Nat.reduceSub]
  generalize N16 = N
  have f1 : ((0 : Fin 2) = 1) ↔ False := by decide
  have f2 : ((1 : Fin 2) = 0) ↔ False := by decide
  rcases d <;> fin_cases s <;>
    simp only [true_and, false_and, and_true, reduceCtorEq, if_false, Nat.add_zero, Nat.zero_add, Bool.not_false, Bool.not_true, Fin.isValue, Fin.zero_eta, Fin.mk_one, f1, f2, Fin.val_zero, Fin.val_one] <;>
    (rcases Classical.em (e = nx true c) with h | h <;> rcases Classical.em (e = nx false c) with h' | h' <;>
      first
      | simp only [eq_true h, eq_true h', true_and, if_true, Nat.add_zero, Nat.reduceAdd, Nat.add_assoc, Nat.add_comm, Nat.add_left_comm]; done
      | simp only [eq_true h, eq_false h', true_and, false_and, if_false, if_true, Nat.add_zero, Nat.reduceAdd, Nat.add_assoc, Nat.add_comm, Nat.add_left_comm]; done
      | simp only [eq_false h, eq_true h', true_and, false_and, if_false, if_true, Nat.add_zero, Nat.reduceAdd, Nat.add_assoc, Nat.add_comm, Nat.add_left_comm]; done
      | simp only [eq_false h, eq_false h', false_and, if_false, Nat.add_zero, Nat.reduceAdd]; done)
theorem owed_bar (e c : Dev nD) (u : ℕ) :
    O₀ e (barCell c) u = (if e = nx true c then (Finsupp.single 1 1 : ℕ →₀ ℕ) u else 0) + (if e = nx false c then (Finsupp.single 1 1 : ℕ →₀ ℕ) u else 0) := by
  unfold O₀ Orem Orem Orem Orem Orem Orem Orem ow
  simp only [Pi.add_apply, Finsupp.add_apply, tallyAt_apply, bar_ne_recv, bar_eq_iff, false_and, if_false, Finsupp.single_apply, Pi.zero_apply, Finsupp.zero_apply, nx_eq_iff false e c, nx_eq_iff true e c]
  simp only [Bool.not_false, Bool.not_true]
  simp only [ite_and, @eq_comm ℕ 1 u, Nat.zero_add, Nat.add_zero, Nat.add_comm]

theorem launch_recv (d : Bool) (s : Fin 2) (c : Dev nD) :
    tallyOn (recvCell d s c) (launchCredit (Pipeline.owing O₀) 0 (recvCell d s c))
      = (tallyAt (recvCell d s c) (s.val + 2) N16 + tallyAt (recvCell d s c) (s.val + 4) N16 + tallyAt (recvCell d s c) (s.val + 6) N16 : CellTallies nD τ sig ℕ) := by
  unfold tallyAt; rw [← tallyOn_add, ← tallyOn_add]
  refine congrArg _ (Finsupp.ext fun u => ?_)
  rw [Pipeline.launchCredit_owing, Finset.sum_congr rfl fun e _ => owed_recv e d s c u,
    Finset.sum_ite_eq' Finset.univ (nx (!d) c) fun _ => slotOwed s u, if_pos (Finset.mem_univ _)]
  rfl
theorem launch_bar (c : Dev nD) :
    tallyOn (barCell c) (launchCredit (Pipeline.owing O₀) 0 (barCell c)) = (tallyAt (barCell c) 1 2 : CellTallies nD τ sig ℕ) := by
  unfold tallyAt
  refine congrArg _ (Finsupp.ext fun u => ?_)
  rw [Pipeline.launchCredit_owing, Finset.sum_congr rfl fun e _ => owed_bar e c u, Finset.sum_add_distrib,
    Finset.sum_ite_eq' Finset.univ (nx true c), Finset.sum_ite_eq' Finset.univ (nx false c), if_pos (Finset.mem_univ _), if_pos (Finset.mem_univ _),
    ← Finsupp.add_apply, ← Finsupp.single_add]

/-- What device `c` is owed on its landing cells in direction `d`, and on its barrier. -/
def credDir (d : Bool) (c : Dev nD) : sProp 𝕄 :=
  iprop((cred (tallyAt (recvCell d 0 c) 2 N16) ∗ cred (tallyAt (recvCell d 0 c) 4 N16) ∗ cred (tallyAt (recvCell d 0 c) 6 N16))
    ∗ cred (tallyAt (recvCell d 1 c) 3 N16) ∗ cred (tallyAt (recvCell d 1 c) 5 N16) ∗ cred (tallyAt (recvCell d 1 c) 7 N16))

theorem cred_slot (d : Bool) (s : Fin 2) (c : Dev nD) :
    (cred (tallyOn (recvCell d s c) (launchCredit (Pipeline.owing O₀) 0 (recvCell d s c))) : sProp 𝕄)
      ⊢ iprop(cred (tallyAt (recvCell d s c) (s.val + 2) N16) ∗ cred (tallyAt (recvCell d s c) (s.val + 4) N16) ∗ cred (tallyAt (recvCell d s c) (s.val + 6) N16)) := by
  rw [launch_recv]
  iintro H
  ihave H := (cred_add _ _).1 $$ H
  icases H with ⟨H, H3⟩
  ihave H := (cred_add _ _).1 $$ H
  icases H with ⟨H1, H2⟩
  isplitl [H1]; · iexact H1
  isplitl [H2] <;> iassumption

theorem creds (c : Dev nD) :
    (Pipeline.launchCred O₀ c : sProp 𝕄) ⊢ iprop(cred (tallyAt (barCell c) 1 2) ∗ credDir false c ∗ credDir true c) := by
  unfold Pipeline.launchCred
  rw [bigSep_univ_at _ (SemLoc.reg barS), launch_bar]
  refine sep_mono_right ?_
  have hs : ([SemLoc.dma 6, SemLoc.dma 7, SemLoc.dma 10, SemLoc.dma 11].toFinset : Finset (SemLoc sig)) ⊆ Finset.univ.erase (SemLoc.reg barS) := by decide +kernel
  refine BIBase.Entails.trans (bigSep_subset hs) ?_
  rw [bigSep_eq_bigSepL_of_eq [SemLoc.dma 6, SemLoc.dma 7, SemLoc.dma 10, SemLoc.dma 11] rfl (by decide)]
  show iprop(cred (tallyOn (recvCell false 0 c) (launchCredit (Pipeline.owing O₀) 0 (recvCell false 0 c)))
    ∗ cred (tallyOn (recvCell false 1 c) (launchCredit (Pipeline.owing O₀) 0 (recvCell false 1 c)))
    ∗ cred (tallyOn (recvCell true 0 c) (launchCredit (Pipeline.owing O₀) 0 (recvCell true 0 c)))
    ∗ cred (tallyOn (recvCell true 1 c) (launchCredit (Pipeline.owing O₀) 0 (recvCell true 1 c)))) ⊢ _
  unfold credDir
  iintro ⟨H1, H2, H3, H4⟩
  ihave H1 := (cred_slot (F := F) false 0 c) $$ H1
  ihave H2 := (cred_slot (F := F) false 1 c) $$ H2
  ihave H3 := (cred_slot (F := F) true 0 c) $$ H3
  ihave H4 := (cred_slot (F := F) true 1 c) $$ H4
  isplitl [H1 H2]
  · isplitl [H1]; · iexact H1
    iexact H2
  · isplitl [H3]; · iexact H3
    iexact H4

end Ghost

end Cert.RingGemm

end
-- ==== Proof.Body.lean ====
/-
One device's run of the body from what it holds at the start to what it gives back, as the launch asks for it.
-/
module

public import proofs.«01_k».proof.Proof.Whole
public import proofs.«01_k».proof.Proof.Ghost
public import proofs.«01_k».proof.Proof.Gen.KernelIdeal.Points

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The lists of blocks, seen from one device -/

theorem accA_of (c j : Dev nD) (h : Bool) (x : V16 F) : accH c j h x ⊢ accA c j h := by
  unfold accA; iintro H; iexists x; iexact H
theorem commA_of (c : Dev nD) (d : Bool) (s : Fin 2) (x : V16 F) : commH c d s x ⊢ commA c d s := by
  unfold commA; iintro H; iexists x; iexact H

def listA (c : Dev nD) : List (Dev nD × Bool) :=
  [(bk false 6 c, false), (bk true 6 c, true), (bk false 3 c, false), (bk true 3 c, true), (bk false 4 c, false), (bk true 4 c, true), (bk false 5 c, false), (bk true 5 c, true)]
def listO (c : Dev nD) : List (Dev nD × Bool) :=
  [(bk false 3 c, false), (bk false 4 c, false), (bk false 5 c, false), (bk false 6 c, false), (bk true 3 c, true), (bk true 4 c, true), (bk true 5 c, true), (bk true 6 c, true)]

theorem acc_list (c : Dev nD) (Φ : Dev nD × Bool → sProp 𝕄) : bigSep Finset.univ Φ
    = iprop(Φ (bk false 6 c, false) ∗ Φ (bk true 6 c, true) ∗ Φ (bk false 3 c, false) ∗ Φ (bk true 3 c, true) ∗ Φ (bk false 4 c, false)
      ∗ Φ (bk true 4 c, true) ∗ Φ (bk false 5 c, false) ∗ Φ (bk true 5 c, true)) :=
  bigSep_univ_eq_bigSepL (listA c) (by revert c; decide +kernel) (by revert c; decide +kernel) Φ
theorem out_list (c : Dev nD) (Φ : Dev nD × Bool → sProp 𝕄) : bigSep Finset.univ Φ
    = iprop(Φ (bk false 3 c, false) ∗ Φ (bk false 4 c, false) ∗ Φ (bk false 5 c, false) ∗ Φ (bk false 6 c, false) ∗ Φ (bk true 3 c, true)
      ∗ Φ (bk true 4 c, true) ∗ Φ (bk true 5 c, true) ∗ Φ (bk true 6 c, true)) :=
  bigSep_univ_eq_bigSepL (listO c) (by revert c; decide +kernel) (by revert c; decide +kernel) Φ
theorem chunk_list (c : Dev nD) (Φ : Dev nD → sProp 𝕄) : bigSep Finset.univ Φ
    = iprop(Φ (bk false 0 c) ∗ Φ (bk false 1 c) ∗ Φ (bk false 2 c) ∗ Φ (bk false 3 c)) :=
  bigSep_univ_eq_bigSepL [bk false 0 c, bk false 1 c, bk false 2 c, bk false 3 c] (univ_bk false c) (nodup_bk false c) Φ

/-- Which copy writes the half of direction `d` of chunk `j` on device `c`. -/
def turn (d : Bool) (c j : Dev nD) : ℕ := (if d then j.val + 5 - c.val else c.val + 5 - j.val) % 4
theorem turn_bk (d : Bool) (c : Dev nD) (k : Fin 4) : turn d c (bk d (k.val + 3) c) = k.val := by revert d c k; decide +kernel

section Body

variable (I : Ins F) (K : Dev nD × Fin 13 → ℕ) (c : Dev nD)

/-- What device `c` ends with in the half of direction `d` of chunk `j`. -/
def res (c : Dev nD) (j : Dev nD) (d : Bool) : V32 F := Ov I d (turn d c j) c
theorem res_bk (d : Bool) (k : Fin 4) : res I c (bk d (k.val + 3) c) d = Ov I d k.val c := by unfold res; rw [turn_bk]

/-! ## What a device starts with, name by name -/

theorem pay_list (d e : Bool) (he : (!d) = e) : (bigSep Finset.univ fun j : Fin 17 => tok1 (F := F) (c, d, j)) ⊢
    iprop((toks d 0 c ∗ toks d 1 c ∗ toks d 2 c ∗ toks d 3 c ∗ toks d 4 c ∗ toks d 5 c)
      ∗ (dutyTok ER (copyCell d 0 c) 0 false ∗ dutyTok ER (copyCell d 1 c) 0 false ∗ dutyTok ER (copyCell d 0 c) 1 false ∗ dutyTok ER (copyCell d 1 c) 1 false)
      ∗ dutyTok ER (barCell (nx e c)) 0 d) := by
  subst he
  rw [bigSep_univ_eq_bigSepL [0, 1, 2, 3, 4, 5, 6, 7, 8, 9, 10, 11, 12, 13, 14, 15, 16] (by decide) (by decide)]
  show iprop(tok1 (c, d, 0) ∗ tok1 (c, d, 1) ∗ tok1 (c, d, 2) ∗ tok1 (c, d, 3) ∗ tok1 (c, d, 4) ∗ tok1 (c, d, 5) ∗ tok1 (c, d, 6) ∗ tok1 (c, d, 7) ∗ tok1 (c, d, 8) ∗ tok1 (c, d, 9) ∗ tok1 (c, d, 10) ∗ tok1 (c, d, 11) ∗ tok1 (c, d, 12) ∗ tok1 (c, d, 13) ∗ tok1 (c, d, 14) ∗ tok1 (c, d, 15) ∗ tok1 (c, d, 16)) ⊢ _
  unfold toks
  rw [show tok1 (F := F) (c, d, 0) = dutyTok ER (sendCell d (sl 0) c) (0 / 2) false from rfl,
    show tok1 (F := F) (c, d, 1) = dutyTok ER (sendCell d (sl 1) c) (1 / 2) false from rfl,
    show tok1 (F := F) (c, d, 2) = dutyTok ER (sendCell d (sl 2) c) (2 / 2) false from rfl,
    show tok1 (F := F) (c, d, 3) = dutyTok ER (sendCell d (sl 3) c) (3 / 2) false from rfl,
    show tok1 (F := F) (c, d, 4) = dutyTok ER (sendCell d (sl 4) c) (4 / 2) false from rfl,
    show tok1 (F := F) (c, d, 5) = dutyTok ER (sendCell d (sl 5) c) (5 / 2) false from rfl,
    show tok1 (F := F) (c, d, 6) = dutyTok ER (recvCell d (sl 0) (nx d c)) (0 / 2) false from rfl,
    show tok1 (F := F) (c, d, 7) = dutyTok ER (recvCell d (sl 1) (nx d c)) (1 / 2) false from rfl,
    show tok1 (F := F) (c, d, 8) = dutyTok ER (recvCell d (sl 2) (nx d c)) (2 / 2) false from rfl,
    show tok1 (F := F) (c, d, 9) = dutyTok ER (recvCell d (sl 3) (nx d c)) (3 / 2) false from rfl,
    show tok1 (F := F) (c, d, 10) = dutyTok ER (recvCell d (sl 4) (nx d c)) (4 / 2) false from rfl,
    show tok1 (F := F) (c, d, 11) = dutyTok ER (recvCell d (sl 5) (nx d c)) (5 / 2) false from rfl,
    show tok1 (F := F) (c, d, 12) = dutyTok ER (copyCell d (sl 0) c) (0 / 2) false from rfl,
    show tok1 (F := F) (c, d, 13) = dutyTok ER (copyCell d (sl 1) c) (1 / 2) false from rfl,
    show tok1 (F := F) (c, d, 14) = dutyTok ER (copyCell d (sl 2) c) (2 / 2) false from rfl,
    show tok1 (F := F) (c, d, 15) = dutyTok ER (copyCell d (sl 3) c) (3 / 2) false from rfl,
    show tok1 (F := F) (c, d, 16) = dutyTok ER (barCell (nx (!d) c)) 0 d from rfl,
    show (dutyTok ER (copyCell d (sl 0) c) (0 / 2) false : sProp 𝕄) = dutyTok ER (copyCell d 0 c) 0 false from rfl, show (dutyTok ER (copyCell d (sl 1) c) (1 / 2) false : sProp 𝕄) = dutyTok ER (copyCell d 1 c) 0 false from rfl, show (dutyTok ER (copyCell d (sl 2) c) (2 / 2) false : sProp 𝕄) = dutyTok ER (copyCell d 0 c) 1 false from rfl, show (dutyTok ER (copyCell d (sl 3) c) (3 / 2) false : sProp 𝕄) = dutyTok ER (copyCell d 1 c) 1 false from rfl]
  iintro ⟨S0, S1, S2, S3, S4, S5, R0, R1, R2, R3, R4, R5, C0, C1, C2, C3, B⟩
  isplitl [S0 R0 S1 R1 S2 R2 S3 R3 S4 R4 S5 R5]
  · isplitl [S0 R0]
    · isplitl [S0] <;> iassumption
    isplitl [S1 R1]
    · isplitl [S1] <;> iassumption
    isplitl [S2 R2]
    · isplitl [S2] <;> iassumption
    isplitl [S3 R3]
    · isplitl [S3] <;> iassumption
    isplitl [S4 R4]
    · isplitl [S4] <;> iassumption
    isplitl [S5] <;> iassumption
  isplitl [C0 C1 C2 C3]
  · isplitl [C0]; · iexact C0
    isplitl [C1]; · iexact C1
    isplitl [C2] <;> iassumption
  iexact B

theorem bool_list (Φ : Bool → sProp 𝕄) : bigSep Finset.univ Φ = iprop(Φ false ∗ Φ true) := bigSep_univ_eq_bigSepL [false, true] (by decide) (by decide) Φ

theorem res_list : (iprop(outH c (bk false 3 c) false (Ov I false 0 c)
    ∗ outH c (bk false 4 c) false (Ov I false 1 c)
    ∗ outH c (bk false 5 c) false (Ov I false 2 c)
    ∗ outH c (bk false 6 c) false (Ov I false 3 c)
    ∗ outH c (bk true 3 c) true (Ov I true 0 c)
    ∗ outH c (bk true 4 c) true (Ov I true 1 c)
    ∗ outH c (bk true 5 c) true (Ov I true 2 c)
    ∗ outH c (bk true 6 c) true (Ov I true 3 c)) : sProp 𝕄)
    = iprop(outH c (bk false 3 c) false (res I c (bk false 3 c) false)
    ∗ outH c (bk false 4 c) false (res I c (bk false 4 c) false)
    ∗ outH c (bk false 5 c) false (res I c (bk false 5 c) false)
    ∗ outH c (bk false 6 c) false (res I c (bk false 6 c) false)
    ∗ outH c (bk true 3 c) true (res I c (bk true 3 c) true)
    ∗ outH c (bk true 4 c) true (res I c (bk true 4 c) true)
    ∗ outH c (bk true 5 c) true (res I c (bk true 5 c) true)
    ∗ outH c (bk true 6 c) true (res I c (bk true 6 c) true)) := by
  rw [show res I c (bk false 3 c) false = Ov I false 0 c from res_bk I c false 0, show res I c (bk false 4 c) false = Ov I false 1 c from res_bk I c false 1, show res I c (bk false 5 c) false = Ov I false 2 c from res_bk I c false 2, show res I c (bk false 6 c) false = Ov I false 3 c from res_bk I c false 3, show res I c (bk true 3 c) true = Ov I true 0 c from res_bk I c true 0, show res I c (bk true 4 c) true = Ov I true 1 c from res_bk I c true 1, show res I c (bk true 5 c) true = Ov I true 2 c from res_bk I c true 2, show res I c (bk true 6 c) true = Ov I true 3 c from res_bk I c true 3]

/-- Everything a device holds at the start besides its buffers. -/
def linear : sProp 𝕄 :=
  iprop(places c ∗ payToks c ∗ cred (tallyAt (barCell c) 1 2) ∗ credDir false c ∗ credDir true c)

/-- The device's buffers that no window stages, and the result. -/
abbrev scr (b : Ref sig .tc) : sProp 𝕄 := iprop(∃ f : Buf (Elt F) ((c : Thread nD τ).loc b), (c : Thread nD τ).loc b ↦{fullShare} f)

local notation "WP" => wp frame (wpE (defs₀ (F := F)) 𝒱₀ (c : Thread nD τ) none) Set.univ
local notation "REC" => records (Mv I) (Ov I) K

def ins : sProp 𝕄 :=
  iprop(((c : Thread nD τ).loc cc0_stg0_0 ↦{fullShare} (I.X c)) ∗ ((c : Thread nD τ).loc cc0_stg1_0 ↦{fullShare} (I.W c))
    ∗ ((c : Thread nD τ).loc cc0_stg2_0 ↦{fullShare} (I.sx c)) ∗ ((c : Thread nD τ).loc cc0_stg3_0 ↦{fullShare} (I.sw c)))
def rest : sProp 𝕄 := iprop(scr (F := F) c cc0_scratch0 ∗ scr (F := F) c cc0_scratch1 ∗ scr (F := F) c cc0_scratch2 ∗ scr (F := F) c cc0_scratch3 ∗ scr (F := F) c cc0_scratch4)

theorem places_list : places (F := F) c = iprop(atPos ER (barCell c) 0 ∅ 0
    ∗ atPos ER (sendCell false 0 c) 0 ∅ 0
    ∗ atPos ER (sendCell false 1 c) 0 ∅ 0
    ∗ atPos ER (recvCell false 0 c) 0 ∅ 0
    ∗ atPos ER (recvCell false 1 c) 0 ∅ 0
    ∗ atPos ER (sendCell true 0 c) 0 ∅ 0
    ∗ atPos ER (sendCell true 1 c) 0 ∅ 0
    ∗ atPos ER (recvCell true 0 c) 0 ∅ 0
    ∗ atPos ER (recvCell true 1 c) 0 ∅ 0
    ∗ atPos ER (copyCell false 0 c) 0 ∅ 0
    ∗ atPos ER (copyCell false 1 c) 0 ∅ 0
    ∗ atPos ER (copyCell true 0 c) 0 ∅ 0
    ∗ atPos ER (copyCell true 1 c) 0 ∅ 0) := by
  unfold places; rw [bigSep_13]
  rw [show kcell (c, 0) = barCell c from rfl, show kcell (c, 1) = sendCell false 0 c from rfl, show kcell (c, 2) = sendCell false 1 c from rfl, show kcell (c, 3) = recvCell false 0 c from rfl, show kcell (c, 4) = recvCell false 1 c from rfl, show kcell (c, 5) = sendCell true 0 c from rfl, show kcell (c, 6) = sendCell true 1 c from rfl, show kcell (c, 7) = recvCell true 0 c from rfl, show kcell (c, 8) = recvCell true 1 c from rfl, show kcell (c, 9) = copyCell false 0 c from rfl, show kcell (c, 10) = copyCell false 1 c from rfl, show kcell (c, 11) = copyCell true 0 c from rfl, show kcell (c, 12) = copyCell true 1 c from rfl]

/-- Every cell of the device, with all its rounds done, gives its counter back at zero. -/
theorem close_all : REC ⊢ iprop(atPos ER (barCell c) 1 ∅ 0
      -∗ atPos ER (sendCell false 0 c) 3 ∅ 0
      -∗ atPos ER (sendCell false 1 c) 3 ∅ 0
      -∗ atPos ER (recvCell false 0 c) 3 ∅ 0
      -∗ atPos ER (recvCell false 1 c) 3 ∅ 0
      -∗ atPos ER (sendCell true 0 c) 3 ∅ 0
      -∗ atPos ER (sendCell true 1 c) 3 ∅ 0
      -∗ atPos ER (recvCell true 0 c) 3 ∅ 0
      -∗ atPos ER (recvCell true 1 c) 3 ∅ 0
      -∗ atPos ER (copyCell false 0 c) 2 ∅ 0
      -∗ atPos ER (copyCell false 1 c) 2 ∅ 0
      -∗ atPos ER (copyCell true 0 c) 2 ∅ 0
      -∗ atPos ER (copyCell true 1 c) 2 ∅ 0
      -∗ |={Set.univ}=> bigSep Finset.univ fun k : Fin 13 => semVal (kcell (c, k)) 0) := by
  rw [bigSep_13]
  iintro #HR A0 A1 A2 A3 A4 A5 A6 A7 A8 A9 A10 A11 A12
  imod (show iprop(REC ∗ atPos ER (barCell c) 1 ∅ 0) ⊢ |={Set.univ}=> semVal (kcell (c, 0)) 0 from by
    iintro ⟨#HR, A⟩
    iapply (Rounds.cell_close ER (Rd (Mv I) (Ov I)) (Set.mem_univ (K (c, 0))) (fun h => h) (R := 1) (duties_bar_later (Mv I) (Ov I) c))
    isplitr; · iapply (inv_at (Mv I) (Ov I) K (c, 0) rfl); iexact HR
    iexact A) $$ [A0] with Z0
  · isplitr; · iexact HR
    iexact A0
  imod (show iprop(REC ∗ atPos ER (sendCell false 0 c) 3 ∅ 0) ⊢ |={Set.univ}=> semVal (kcell (c, 1)) 0 from by
    iintro ⟨#HR, A⟩
    iapply (Rounds.cell_close ER (Rd (Mv I) (Ov I)) (Set.mem_univ (K (c, 1))) (fun h => h) (R := 3) (duties_send_later (Mv I) (Ov I) false 0 c))
    isplitr; · iapply (inv_at (Mv I) (Ov I) K (c, 1) rfl); iexact HR
    iexact A) $$ [A1] with Z1
  · isplitr; · iexact HR
    iexact A1
  imod (show iprop(REC ∗ atPos ER (sendCell false 1 c) 3 ∅ 0) ⊢ |={Set.univ}=> semVal (kcell (c, 2)) 0 from by
    iintro ⟨#HR, A⟩
    iapply (Rounds.cell_close ER (Rd (Mv I) (Ov I)) (Set.mem_univ (K (c, 2))) (fun h => h) (R := 3) (duties_send_later (Mv I) (Ov I) false 1 c))
    isplitr; · iapply (inv_at (Mv I) (Ov I) K (c, 2) rfl); iexact HR
    iexact A) $$ [A2] with Z2
  · isplitr; · iexact HR
    iexact A2
  imod (show iprop(REC ∗ atPos ER (recvCell false 0 c) 3 ∅ 0) ⊢ |={Set.univ}=> semVal (kcell (c, 3)) 0 from by
    iintro ⟨#HR, A⟩
    iapply (Rounds.cell_close ER (Rd (Mv I) (Ov I)) (Set.mem_univ (K (c, 3))) (fun h => h) (R := 3) (duties_recv_later (Mv I) (Ov I) false 0 c))
    isplitr; · iapply (inv_at (Mv I) (Ov I) K (c, 3) rfl); iexact HR
    iexact A) $$ [A3] with Z3
  · isplitr; · iexact HR
    iexact A3
  imod (show iprop(REC ∗ atPos ER (recvCell false 1 c) 3 ∅ 0) ⊢ |={Set.univ}=> semVal (kcell (c, 4)) 0 from by
    iintro ⟨#HR, A⟩
    iapply (Rounds.cell_close ER (Rd (Mv I) (Ov I)) (Set.mem_univ (K (c, 4))) (fun h => h) (R := 3) (duties_recv_later (Mv I) (Ov I) false 1 c))
    isplitr; · iapply (inv_at (Mv I) (Ov I) K (c, 4) rfl); iexact HR
    iexact A) $$ [A4] with Z4
  · isplitr; · iexact HR
    iexact A4
  imod (show iprop(REC ∗ atPos ER (sendCell true 0 c) 3 ∅ 0) ⊢ |={Set.univ}=> semVal (kcell (c, 5)) 0 from by
    iintro ⟨#HR, A⟩
    iapply (Rounds.cell_close ER (Rd (Mv I) (Ov I)) (Set.mem_univ (K (c, 5))) (fun h => h) (R := 3) (duties_send_later (Mv I) (Ov I) true 0 c))
    isplitr; · iapply (inv_at (Mv I) (Ov I) K (c, 5) rfl); iexact HR
    iexact A) $$ [A5] with Z5
  · isplitr; · iexact HR
    iexact A5
  imod (show iprop(REC ∗ atPos ER (sendCell true 1 c) 3 ∅ 0) ⊢ |={Set.univ}=> semVal (kcell (c, 6)) 0 from by
    iintro ⟨#HR, A⟩
    iapply (Rounds.cell_close ER (Rd (Mv I) (Ov I)) (Set.mem_univ (K (c, 6))) (fun h => h) (R := 3) (duties_send_later (Mv I) (Ov I) true 1 c))
    isplitr; · iapply (inv_at (Mv I) (Ov I) K (c, 6) rfl); iexact HR
    iexact A) $$ [A6] with Z6
  · isplitr; · iexact HR
    iexact A6
  imod (show iprop(REC ∗ atPos ER (recvCell true 0 c) 3 ∅ 0) ⊢ |={Set.univ}=> semVal (kcell (c, 7)) 0 from by
    iintro ⟨#HR, A⟩
    iapply (Rounds.cell_close ER (Rd (Mv I) (Ov I)) (Set.mem_univ (K (c, 7))) (fun h => h) (R := 3) (duties_recv_later (Mv I) (Ov I) true 0 c))
    isplitr; · iapply (inv_at (Mv I) (Ov I) K (c, 7) rfl); iexact HR
    iexact A) $$ [A7] with Z7
  · isplitr; · iexact HR
    iexact A7
  imod (show iprop(REC ∗ atPos ER (recvCell true 1 c) 3 ∅ 0) ⊢ |={Set.univ}=> semVal (kcell (c, 8)) 0 from by
    iintro ⟨#HR, A⟩
    iapply (Rounds.cell_close ER (Rd (Mv I) (Ov I)) (Set.mem_univ (K (c, 8))) (fun h => h) (R := 3) (duties_recv_later (Mv I) (Ov I) true 1 c))
    isplitr; · iapply (inv_at (Mv I) (Ov I) K (c, 8) rfl); iexact HR
    iexact A) $$ [A8] with Z8
  · isplitr; · iexact HR
    iexact A8
  imod (show iprop(REC ∗ atPos ER (copyCell false 0 c) 2 ∅ 0) ⊢ |={Set.univ}=> semVal (kcell (c, 9)) 0 from by
    iintro ⟨#HR, A⟩
    iapply (Rounds.cell_close ER (Rd (Mv I) (Ov I)) (Set.mem_univ (K (c, 9))) (fun h => h) (R := 2) (duties_copy_later (Mv I) (Ov I) false 0 c))
    isplitr; · iapply (inv_at (Mv I) (Ov I) K (c, 9) rfl); iexact HR
    iexact A) $$ [A9] with Z9
  · isplitr; · iexact HR
    iexact A9
  imod (show iprop(REC ∗ atPos ER (copyCell false 1 c) 2 ∅ 0) ⊢ |={Set.univ}=> semVal (kcell (c, 10)) 0 from by
    iintro ⟨#HR, A⟩
    iapply (Rounds.cell_close ER (Rd (Mv I) (Ov I)) (Set.mem_univ (K (c, 10))) (fun h => h) (R := 2) (duties_copy_later (Mv I) (Ov I) false 1 c))
    isplitr; · iapply (inv_at (Mv I) (Ov I) K (c, 10) rfl); iexact HR
    iexact A) $$ [A10] with Z10
  · isplitr; · iexact HR
    iexact A10
  imod (show iprop(REC ∗ atPos ER (copyCell true 0 c) 2 ∅ 0) ⊢ |={Set.univ}=> semVal (kcell (c, 11)) 0 from by
    iintro ⟨#HR, A⟩
    iapply (Rounds.cell_close ER (Rd (Mv I) (Ov I)) (Set.mem_univ (K (c, 11))) (fun h => h) (R := 2) (duties_copy_later (Mv I) (Ov I) true 0 c))
    isplitr; · iapply (inv_at (Mv I) (Ov I) K (c, 11) rfl); iexact HR
    iexact A) $$ [A11] with Z11
  · isplitr; · iexact HR
    iexact A11
  imod (show iprop(REC ∗ atPos ER (copyCell true 1 c) 2 ∅ 0) ⊢ |={Set.univ}=> semVal (kcell (c, 12)) 0 from by
    iintro ⟨#HR, A⟩
    iapply (Rounds.cell_close ER (Rd (Mv I) (Ov I)) (Set.mem_univ (K (c, 12))) (fun h => h) (R := 2) (duties_copy_later (Mv I) (Ov I) true 1 c))
    isplitr; · iapply (inv_at (Mv I) (Ov I) K (c, 12) rfl); iexact HR
    iexact A) $$ [A12] with Z12
  · isplitr; · iexact HR
    iexact A12
  imodintro
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

set_option maxHeartbeats 2000000 in
theorem sound_body {h0 h1 h2 h3 h4 h5 h6 h7 h8 h9} {Q : PUnit → sProp 𝕄} :
    REC ⊢ iprop(levAts L lv -∗ linear c -∗ ins I c -∗ rest (F := F) c -∗ scr (F := F) c main_v1 -∗ owesE c (O₀ c)
      -∗ (ins I c -∗ rest (F := F) c -∗ ((c : Thread nD τ).loc main_v1 ↦{fullShare} (outFull (res I c) : Vec F S4096x2048 .f32))
          -∗ unscopedSems0 c -∗ Pipeline.ownSems0 (Ix := ℕ) (Name := ℕ) (U := UU) (Lvl := ℕ) (Val := Elt F) (τ := τ) osem c -∗ owesE c (Orem c 0) -∗ Q ⟨⟩)
      -∗ WP (cc0_body xM h0 wM h1 sxM h2 swM h3 outM h4 accM h5 (Memref.whole cc0_scratch1) h6 (Memref.whole cc0_scratch2) h7 (Memref.whole cc0_scratch3) h8 (Memref.whole cc0_scratch4) h9 cc0_scratch5 cc0_scratch6 cc0_scratch7 cc0_scratch8 cc0_scratch9 cc0_scratch10) Q) := by
  unfold linear ins rest payToks credDir
  rw [places_list, bigSep_univ_prod, bool_list]
  iintro #HR #Hlev ⟨⟨A0, A1, A2, A3, A4, A5, A6, A7, A8, A9, A10, A11, A12⟩, ⟨HTf, HTt⟩, Hbc, ⟨⟨Hcf0, Hcf2, Hcf4⟩, Hcf1, Hcf3, Hcf5⟩, ⟨⟨Hct0, Hct2, Hct4⟩, Hct1, Hct3, Hct5⟩⟩ ⟨Hx, Hw, Hsx, Hsw⟩ ⟨Hs0, Hs1, Hs2, Hs3, Hs4⟩ Hout HO Hk
  ihave HTf := (pay_list (F := F) c false true rfl) $$ HTf
  icases HTf with ⟨⟨Tf0, Tf1, Tf2, Tf3, Tf4, Tf5⟩, ⟨Kf0, Kf1, Kf2, Kf3⟩, Bf⟩
  ihave HTt := (pay_list (F := F) c true false rfl) $$ HTt
  icases HTt with ⟨⟨Tt0, Tt1, Tt2, Tt3, Tt4, Tt5⟩, ⟨Kt0, Kt1, Kt2, Kt3⟩, Bt⟩
  ihave Hs0 := (BIBase.Entails.trans (acc_split c) (Entails.of_eq (chunk_list c _))) $$ Hs0
  icases Hs0 with ⟨Ch0, Ch1, Ch2, Ch3⟩
  ihave Hout := (BIBase.Entails.trans (out_split c) (Entails.of_eq (out_list c _))) $$ Hout
  icases Hout with ⟨Of0, Of1, Of2, Of3, Ot0, Ot1, Ot2, Ot3⟩
  ihave Hs1 := (comm_split_f c) $$ Hs1
  icases Hs1 with ⟨Cmf0, Cmf1⟩
  ihave Hs2 := (comm_split_t c) $$ Hs2
  icases Hs2 with ⟨Cmt0, Cmt1⟩
  ihave Hs3 := (stg_split_f c) $$ Hs3
  icases Hs3 with ⟨Stf0, Stf1⟩
  ihave Hs4 := (stg_split_t c) $$ Hs4
  icases Hs4 with ⟨Stt0, Stt1⟩
  iapply (run_all (F := F) I K c) $$ HR Hlev Hx Hw Hsx Hsw Ch0 Ch1 Ch2 Ch3 Cmf0 Stf0 Cmf1 Stf1 Of0 Of1 Of2 Of3 Tf0 Tf1 Tf2 Tf3 Tf4 Tf5 Kf0 Kf1 Kf2 Kf3 A1 A3 A9 A2 A4 A10 Hcf0 Hcf1 Hcf2 Hcf3 Hcf4 Hcf5 Cmt0 Stt0 Cmt1 Stt1 Ot0 Ot1 Ot2 Ot3 Tt0 Tt1 Tt2 Tt3 Tt4 Tt5 Kt0 Kt1 Kt2 Kt3 A5 A7 A11 A6 A8 A12 Hct0 Hct1 Hct2 Hct3 Hct4 Hct5 Bf Bt Hbc A0 HO
  iintro PHx PHw PHsx PHsw PHasf0 PHarf0 PHacf0 PHasf1 PHarf1 PHacf1 PHast0 PHart0 PHact0 PHast1 PHart1 PHact1 PHba PHO PHaf2 PHat2 PHaf3 PHat3 PHaf0 PHrsf0 PHcmf0 PHrrf0 PHat0 PHrst0 PHcmt0 PHrrt0 PHoutf0 PHoutt0 PHaf1 PHrsf1 PHcmf1 PHrrf1 PHat1 PHrst1 PHcmt1 PHrrt1 PHoutf1 PHoutt1 PHstf0 PHoutf2 PHrcf0 PHstt0 PHoutt2 PHrct0 PHstf1 PHoutf3 PHrcf1 PHstt1 PHoutt3 PHrct1
  ihave Hz := (close_all (F := F) I K c) $$ HR PHba PHasf0 PHasf1 PHarf0 PHarf1 PHast0 PHast1 PHart0 PHart1 PHacf0 PHacf1 PHact0 PHact1
  imod Hz with Hz
  ihave Hz := (Entails.of_eq (sems_eq (F := F) c)) $$ Hz
  icases Hz with ⟨Hu, Hos⟩
  iapply Hk $$ [PHx PHw PHsx PHsw] [PHaf2 PHat2 PHaf3 PHat3 PHaf0 PHat0 PHaf1 PHat1 PHcmf0 PHcmf1 PHcmt0 PHcmt1 PHstf0 PHstf1 PHstt0 PHstt1] [PHoutf0 PHoutf1 PHoutf2 PHoutf3 PHoutt0 PHoutt1 PHoutt2 PHoutt3] Hu Hos PHO
  · isplitl [PHx]; · iexact PHx
    isplitl [PHw]; · iexact PHw
    isplitl [PHsx] <;> iassumption
  · isplitl [PHaf2 PHat2 PHaf3 PHat3 PHaf0 PHat0 PHaf1 PHat1]
    · iapply (BIBase.Entails.trans (Entails.of_eq (acc_list c _).symm) (acc_join (F := F) c))
      isplitl [PHaf2]; · iapply (accA_of c _ _ _); iexact PHaf2
      isplitl [PHat2]; · iapply (accA_of c _ _ _); iexact PHat2
      isplitl [PHaf3]; · iexact PHaf3
      isplitl [PHat3]; · iexact PHat3
      isplitl [PHaf0]; · iexact PHaf0
      isplitl [PHat0]; · iexact PHat0
      isplitl [PHaf1] <;> iassumption
    isplitl [PHcmf0 PHcmf1]
    · iapply (comm_join_f c)
      isplitl [PHcmf0]; · iapply (commA_of c _ _ _); iexact PHcmf0
      iapply (commA_of c _ _ _); iexact PHcmf1
    isplitl [PHcmt0 PHcmt1]
    · iapply (comm_join_t c)
      isplitl [PHcmt0]; · iapply (commA_of c _ _ _); iexact PHcmt0
      iapply (commA_of c _ _ _); iexact PHcmt1
    isplitl [PHstf0 PHstf1]
    · iapply (stg_join_f c)
      isplitl [PHstf0] <;> iassumption
    iapply (stg_join_t c)
    isplitl [PHstt0] <;> iassumption
  · iapply (BIBase.Entails.trans (Entails.of_eq ((res_list I c).trans (out_list c fun b => outH c b.1 b.2 (res I c b.1 b.2)).symm)) (out_join c (res I c)))
    isplitl [PHoutf0]; · iexact PHoutf0
    isplitl [PHoutf1]; · iexact PHoutf1
    isplitl [PHoutf2]; · iexact PHoutf2
    isplitl [PHoutf3]; · iexact PHoutf3
    isplitl [PHoutt0]; · iexact PHoutt0
    isplitl [PHoutt1]; · iexact PHoutt1
    isplitl [PHoutt2]; · iexact PHoutt2
    iexact PHoutt3

end Body

end Cert.RingGemm

end
-- ==== Proof.Launch.lean ====
/-
The launch: every device runs the body once on its own blocks, and the result array of each ends at the gathered blocks.
-/
module

public import proofs.«01_k».proof.Proof.Body
public import Idealize.ShloMosaic.Lib.Pipeline.CollectiveSegs

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-- What the four arguments hold on each device. -/
def insOf : Ins F where
  X c := m ((c : Thread nD τ).loc main_arg0)
  W c := m ((c : Thread nD τ).loc main_arg1)
  sx c := m ((c : Thread nD τ).loc main_arg2)
  sw c := m ((c : Thread nD τ).loc main_arg3)

abbrev Mm := Mv (insOf m)
abbrev Om := Ov (insOf m)

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

def start (c : Dev nD) : sProp 𝕄 :=
  iprop((∃ K, records (Mm m) (Om m) K) ∗ levAts L lv ∗ linear (F := F) c ∗ scr (F := F) c main_v1)
def outPts (c : Dev nD) : sProp 𝕄 := iprop(((c : Thread nD τ).loc main_v1) ↦{fullShare} (outFull (res (insOf m) c) : Vec F S4096x2048 .f32))
abbrev ownZ (c : Dev nD) : sProp 𝕄 := Pipeline.ownSems0 (Ix := ℕ) (Name := ℕ) (U := UU) (Lvl := ℕ) (Val := Elt F) (τ := τ) osem c
def Φ₀ (c : Dev nD) : sProp 𝕄 := iprop(start m c ∗ rest (F := F) c)
def Φ₁ (c : Dev nD) : sProp 𝕄 := iprop((outPts m c ∗ unscopedSems0 c) ∗ ownZ (F := F) c ∗ rest (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (insOf m).X c
    | ⟨1, _⟩ => (insOf m).W c
    | ⟨2, _⟩ => (insOf m).sx c
    | ⟨3, _⟩ => (insOf m).sw c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem found_0 (c : Dev nD) (d) : (dats m ρ 0 c).before (0 : Fin 4) t₀ d = (insOf m).X c := by
  unfold Dat.before; rw [if_pos (fetch0_0 t₀)]
  funext i
  refine congrArg (m ((c : Thread nD τ).loc main_arg0)) (?_ : _ = i)
  funext a; apply Fin.ext
  fin_cases a
  · exact (by rw [Nat.zero_mul, Nat.one_mul, Nat.zero_add] : 0 * 4096 + 1 * (i 0).val = (i 0).val)
  · exact (by rw [Nat.zero_mul, Nat.one_mul, Nat.zero_add] : 0 * 1024 + 1 * (i 1).val = (i 1).val)

theorem found_1 (c : Dev nD) (d) : (dats m ρ 0 c).before (1 : Fin 4) t₀ d = (insOf m).W c := by
  unfold Dat.before; rw [if_pos (fetch0_1 t₀)]
  funext i
  refine congrArg (m ((c : Thread nD τ).loc main_arg1)) (?_ : _ = i)
  funext a; apply Fin.ext
  fin_cases a
  · exact (by rw [Nat.zero_mul, Nat.one_mul, Nat.zero_add] : 0 * 1024 + 1 * (i 0).val = (i 0).val)
  · exact (by rw [Nat.zero_mul, Nat.one_mul, Nat.zero_add] : 0 * 2048 + 1 * (i 1).val = (i 1).val)

theorem found_2 (c : Dev nD) (d) : (dats m ρ 0 c).before (2 : Fin 4) t₀ d = (insOf m).sx c := by
  unfold Dat.before; rw [if_pos (fetch0_2 t₀)]
  funext i
  refine congrArg (m ((c : Thread nD τ).loc main_arg2)) (?_ : _ = i)
  funext a; apply Fin.ext
  fin_cases a
  · exact (by rw [Nat.zero_mul, Nat.one_mul, Nat.zero_add] : 0 * 1 + 1 * (i 0).val = (i 0).val)

theorem found_3 (c : Dev nD) (d) : (dats m ρ 0 c).before (3 : Fin 4) t₀ d = (insOf m).sw c := by
  unfold Dat.before; rw [if_pos (fetch0_3 t₀)]
  funext i
  refine congrArg (m ((c : Thread nD τ).loc main_arg3)) (?_ : _ = i)
  funext a; apply Fin.ext
  fin_cases a
  · exact (by rw [Nat.zero_mul, Nat.one_mul, Nat.zero_add] : 0 * 1 + 1 * (i 0).val = (i 0).val)

theorem owns_whole_is (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m c ∗ (dats m ρ 0 c).owesAt 0 t₀.succ ∗ stg c cc0_stg0_0 ((insOf m).X c) ∗ stg c cc0_stg1_0 ((insOf m).W c)
    ∗ stg c cc0_stg2_0 ((insOf m).sx c) ∗ stg c cc0_stg3_0 ((insOf m).sw c))

set_option maxRecDepth 20000 in
set_option maxHeartbeats 1000000 in
/-- The body on one device, as the launch asks for it. -/
theorem body_obligation (c : Dev nD) : BodyObligation (dats (F := F) m ρ 0 c) (defs₀ (F := F)) 𝒱₀ 0 Set.univ := fun t => by
  rw [fin_N t]
  rw [bigSep_W, bigSep_W]
  simp only [owns_whole_is]
  show bodyPre m ρ c ⊢ wp frame (wpE (defs₀ (F := F)) 𝒱₀ (c : Thread nD τ) none) Set.univ
    (cc0_body xM (hstage0_0 0) wM (hstage0_1 0) sxM (hstage0_2 0) swM (hstage0_3 0) outM (Memref.isWhole_whole _) accM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => bodyPost m ρ c)
  unfold bodyPre Φ₀ start
  simp only [found_0, found_1, found_2, found_3]
  unfold Dat.owesAt Pipeline.owesWithin
  rw [show (dats m ρ 0 c).owed t₀.castSucc = O₀ c from rfl]
  iintro ⟨⟨⟨⟨%K, #HR⟩, #Hlev, Hlin, Hout⟩, Hrest⟩, ⟨%W, %hW, HO⟩, ⟨%d0, %g0, %hg0, Hx⟩, ⟨%d1, %g1, %hg1, Hw⟩, ⟨%d2, %g2, %hg2, Hsx⟩, ⟨%d3, %g3, %hg3, Hsw⟩⟩
  subst hg0 hg1 hg2 hg3
  iapply (sound_body (F := F) (insOf m) K c) $$ HR Hlev Hlin [Hx Hw Hsx Hsw] Hrest Hout [HO]
  · unfold ins
    isplitl [Hx]; · iexact Hx
    isplitl [Hw]; · iexact Hw
    isplitl [Hsx] <;> iassumption
  · unfold owesE; iexists W; iexact HO
  iintro Hins Hrest Hout Hu Hos HO
  unfold bodyPost Φ₁ outPts Dat.owesAt Pipeline.owesWithin ins owesE
  icases HO with ⟨%W', HO⟩
  icases Hins with ⟨Hx, Hw, Hsx, Hsw⟩
  isplitl [Hout Hu Hos Hrest]
  · isplitl [Hout Hu]
    · isplitl [Hout] <;> iassumption
    isplitl [Hos] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  iexists _; isplitr; · (ipureintro; rfl)
  iexact Hsw

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Mm m) (Om m) c)
      ⊢ |={Set.univ}=> iprop(start m c ∗ emp) := by
  rw [Pipeline.unscopedRestP_none, unscopedRest0_eq]
  unfold start G' linear
  iintro ⟨Hv, Hlev, Hcr, -, ⟨%K, #HR, Hp, Ht⟩⟩
  ihave Hc := (creds (F := F) c) $$ Hcr
  icases Hc with ⟨H1, H2, H3⟩
  imodintro
  isplitl
  · isplitr; · iexists K; iexact HR
    isplitl [Hlev]; · iexact Hlev
    isplitl [Hp Ht H1 H2 H3]
    · isplitl [Hp]; · iexact Hp
      isplitl [Ht]; · iexact Ht
      isplitl [H1]; · iexact H1
      isplitl [H2] <;> iassumption
    iexists _; iexact Hv
  · iempintro

theorem rest_eq (c : Dev nD) : (Pipeline.scopedRest (Ix := ℕ) (Name := ℕ) (U := UU) (Lvl := ℕ) (Val := Elt F) cfg0.spec c : sProp 𝕄) = rest (F := F) c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs] <;> iassumption

theorem phi1_exit (c : Dev nD) :
    (dats m ρ 0 c).Φ (Fin.last cfg0.N) ⊢ iprop((outPts m c ∗ unscopedSems0 c) ∗ Pipeline.ownSems0 osem c ∗ Pipeline.scopedRest cfg0.spec c) := by
  rw [show (dats m ρ 0 c).Φ (Fin.last cfg0.N) = Φ₁ m c from rfl, rest_eq]
  exact BI.Entails.refl _

theorem waits (c : Dev nD) : (levAts L lv : sProp 𝕄) ⊢ Pipeline.cellsWaits cfgs (dats m ρ) 0 0 c :=
  Pipeline.cellsWaits_intro cfgs (dats m ρ) 0 0 c fun w s t =>
    mayWait _ 0 (by decide) (by
      rcases t with ⟨_ | _, ht⟩
      · exact Above.start c
      · exact Above.zero 0)

def finalA (c : Dev nD) (w : Fin cfg0.W) : Buf (Elt F) ((cfg0.win w).arr.view.loc (c : Thread nD τ)) := (dats m ρ 0 c).arrAt w cfg0.N

/-- Each device's result holds the gathered blocks, and its windows' arrays what the launch's account of them says. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_v1) = (outFull (res (insOf m) c) : Vec F S4096x2048 .f32)

set_option maxRecDepth 8000 in
/-- On four devices, for any float values, from any memory with zero counters: every run ends, with each result array at
    the gathered blocks and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Mm m) (Om m)) (G' := G' (Mm m) (Om m)) (u₀ := u₀)
    (hu₀ := by
      unfold u₀
      iintro Hu
      ihave H := (ownU_pair _ _) $$ Hu
      icases H with ⟨HP, HX⟩
      imod (fund_ring (Mm m) (Om m)) $$ HX with HG
      imodintro
      isplitl [HP] <;> iassumption)
    (hglob := glob (Mm m) (Om m))
    (hA := fun _ _ => rfl) (hpf := fun _ k => k.elim0)
    (X := start m) (Y := fun c => iprop(outPts m c ∗ unscopedSems0 c)) (Z := fun _ => iprop(emp))
    (hX := start_intro m ρ) (hin := phi0_intro m ρ) (hout := phi1_exit m ρ)
    (QY := fun c s => s.mem ((c : Thread nD τ).loc main_v1) = (outFull (res (insOf m) c) : Vec F S4096x2048 .f32)
      ∧ ∀ sm : SemLoc sig, sm.isScoped .tc = false → s.sem ((c.tc : Thread nD τ), sm) = 0)
    (hY := fun c s' => by
      unfold outPts
      iintro ⟨⟨Hv, Hu⟩, -, HSI⟩
      icombine HSI Hv gives %hv
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ hv, hs⟩
      iexact HSI)
    (hQ := fun _ h hs => ⟨fun c => ⟨fun w => (h c).1 w, (h c).2.2.1⟩, sem_eq_zero hs fun c => (h c).2.2.2⟩)

theorem finalA_in (c : Dev nD) (w : Fin 4) : finalA m ρ c w = (s₀ m ρ).mem ((cfg0.win w).arr.view.loc (c : Thread nD τ)) :=
  (dats (F := F) m ρ 0 c).arrAt_in w (by fin_cases w <;> rfl) _

end Cert.RingGemm

end
-- ==== Proof.Frames.lean ====
/-
The frames: from the one run written for any float values, what the frame of each program asks.
-/
module

public import proofs.«01_k».proof.Proof.Launch
public import proofs.«01_k».proof.Defs
public import proofs.«01_k».proof.Proof.Gen.Kernel
public import proofs.«01_k».proof.Proof.Gen.KernelIdeal

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The four arguments are as they were. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 0).trans (finalA_in m ρ c 0), ((h c).1 1).trans (finalA_in m ρ c 1),
    ((h c).1 2).trans (finalA_in m ρ c 2), ((h c).1 3).trans (finalA_in m ρ c 3)⟩

/-! ## The kernel as first printed is the same program -/

theorem defs_same₀ : (Cert.Kernel.defs₀ (F := F)) = Cert.KernelIdeal.defs₀ := by
  unfold Cert.Kernel.defs₀ Cert.KernelIdeal.defs₀
  refine congrArg Defs.onTc (funext fun ℓ => funext fun a => ?_)
  fin_cases ℓ
  obtain ⟨t, s⟩ := a
  rfl

theorem defs_same : (Cert.Kernel.defs (F := F)) = Cert.KernelIdeal.defs :=
  congrArg (Pipeline.defs Cert.KernelIdeal.pcfgs) defs_same₀

theorem main_same : (Cert.Kernel.main (F := F)) = Cert.KernelIdeal.main := rfl

theorem frame_kernel : Cert.quiescent_Kernel := fun m ρ _ => by
  rw [defs_same, main_same]
  exact (θ_run Cert.KernelIdeal.defs _ _).mono (fun _ h => ⟨args_kept m ρ h.1, h.2⟩) (run_main (F := Bits) m ρ)

theorem frame_ideal : Cert.quiescent_KernelIdeal := fun m ρ _ =>
  (θ_run Cert.KernelIdeal.defs _ _).mono (fun _ h => ⟨args_kept m ρ h.1, h.2⟩) (run_main (F := Ideal) m ρ)

end Cert.RingGemm

end
-- ==== Proof.Share.lean ====
/-
Extended-real arithmetic: the bound on the scaled sum from the bounds on the four scaled shares, and the clip that the
bound makes idle.
-/
module

public import Idealize.ShloMosaic.Lib.IdealHost
public import Idealize.ShloMosaic.Lib.MatmulPlain

@[expose] public section

noncomputable section

namespace Cert.RingGemm

open Idealize.ShloMosaic
open Idealize.ShloMosaic.ValueIdx
open scoped BigOperators

theorem word_15 : Ideal.ofBits .f32 0x41700000#32 = ((15 : ℝ) : EReal) := by
  simp [Ideal.ofBits, Ideal.ieee, -EReal.coe_mul]; norm_num
theorem word_60 : Ideal.ofBits .f32 0x42700000#32 = ((60 : ℝ) : EReal) := by
  simp [Ideal.ofBits, Ideal.ieee, -EReal.coe_mul]; norm_num
theorem word_neg_60 : Ideal.ofBits .f32 0xC2700000#32 = ((-60 : ℝ) : EReal) := by
  simp [Ideal.ofBits, Ideal.ieee, -EReal.coe_mul, -EReal.coe_neg]; norm_num

/-- The products that are bounded are neither infinity. -/
theorem not_infinite {a : EReal} (h : max a (-a) ≤ ((15 : ℝ) : EReal)) : a ≠ ⊤ ∧ a ≠ ⊥ := by
  constructor
  · rintro rfl
    exact absurd (le_trans (le_max_left _ _) h) (not_le.mpr (EReal.coe_lt_top _))
  · rintro rfl
    rw [EReal.neg_bot] at h
    exact absurd (le_trans (le_max_right _ _) h) (not_le.mpr (EReal.coe_lt_top _))

/-- Four shares, each at most 15 once scaled: their sum is at most 60 once scaled. -/
theorem scaled_bound (d : Fin 4 → EReal) (s : EReal) (h : ∀ c, max (d c * s) (-(d c * s)) ≤ ((15 : ℝ) : EReal)) :
    ((-60 : ℝ) : EReal) ≤ (∑ c, d c) * s ∧ (∑ c, d c) * s ≤ ((60 : ℝ) : EReal) := by
  have zero : (∑ c, d c) * s = 0 → ((-60 : ℝ) : EReal) ≤ (∑ c, d c) * s ∧ (∑ c, d c) * s ≤ ((60 : ℝ) : EReal) := by
    intro e; rw [e]
    exact ⟨by exact_mod_cast (by norm_num : (-60 : ℝ) ≤ 0), by exact_mod_cast (by norm_num : (0 : ℝ) ≤ 60)⟩
  have allz : (∀ c, d c = 0) → (∑ c, d c) * s = 0 := by
    intro e; rw [Finset.sum_eq_zero fun c _ => e c, zero_mul]
  induction s with
  | bot =>
    refine zero (allz fun c => ?_)
    have hc := not_infinite (h c)
    rcases lt_trichotomy (d c) 0 with h0 | h0 | h0
    · exact absurd (EReal.mul_bot_of_neg h0) hc.1
    · exact h0
    · exact absurd (EReal.mul_bot_of_pos h0) hc.2
  | top =>
    refine zero (allz fun c => ?_)
    have hc := not_infinite (h c)
    rcases lt_trichotomy (d c) 0 with h0 | h0 | h0
    · exact absurd (EReal.mul_top_of_neg h0) hc.2
    · exact h0
    · exact absurd (EReal.mul_top_of_pos h0) hc.1
  | coe s =>
    by_cases hs : s = 0
    · exact zero (by rw [hs, EReal.coe_zero, mul_zero])
    have fin : ∀ c, ∃ e : ℝ, d c = (e : EReal) := by
      intro c
      have hc := not_infinite (h c)
      have h1 : d c ≠ ⊤ := by
        intro e; rw [e] at hc
        rcases lt_or_gt_of_ne hs with h0 | h0
        · exact hc.2 (EReal.top_mul_of_neg (by exact_mod_cast h0))
        · exact hc.1 (EReal.top_mul_of_pos (by exact_mod_cast h0))
      have h2 : d c ≠ ⊥ := by
        intro e; rw [e] at hc
        rcases lt_or_gt_of_ne hs with h0 | h0
        · exact hc.1 (EReal.bot_mul_of_neg (by exact_mod_cast h0))
        · exact hc.2 (EReal.bot_mul_of_pos (by exact_mod_cast h0))
      exact ⟨(d c).toReal, (EReal.coe_toReal h1 h2).symm⟩
    choose e he using fin
    have hb : ∀ c, e c * s ≤ 15 ∧ -(e c * s) ≤ 15 := by
      intro c
      have hc := h c
      rw [he c, ← EReal.coe_mul, ← EReal.coe_neg] at hc
      exact ⟨by exact_mod_cast le_trans (le_max_left _ _) hc, by exact_mod_cast le_trans (le_max_right _ _) hc⟩
    rw [Fin.sum_univ_four, he 0, he 1, he 2, he 3, ← EReal.coe_add, ← EReal.coe_add, ← EReal.coe_add, ← EReal.coe_mul]
    have h0 := hb 0; have h1 := hb 1; have h2 := hb 2; have h3 := hb 3
    have hx : (e 0 + e 1 + e 2 + e 3) * s = e 0 * s + e 1 * s + e 2 * s + e 3 * s := by rw [add_mul, add_mul, add_mul]
    rw [hx]
    exact ⟨by exact_mod_cast (by linarith : (-60 : ℝ) ≤ e 0 * s + e 1 * s + e 2 * s + e 3 * s),
      by exact_mod_cast (by linarith : e 0 * s + e 1 * s + e 2 * s + e 3 * s ≤ (60 : ℝ))⟩

/-- Within the bound the clip does nothing, and the quotient is the product with the logistic function. -/
theorem clip_idle (y : EReal) (h1 : ((-60 : ℝ) : EReal) ≤ y) (h2 : y ≤ ((60 : ℝ) : EReal)) :
    Ideal.div y (1 + Ideal.exp (-(min ((60 : ℝ) : EReal) (max ((-60 : ℝ) : EReal) y)))) = y * Ideal.logistic y := by
  rw [max_eq_right h1, min_eq_right h2]
  unfold Ideal.logistic
  have ht : y ≠ ⊤ := fun e => absurd (e ▸ h2) (not_le.mpr (EReal.coe_lt_top _))
  have hb : y ≠ ⊥ := fun e => absurd (e ▸ h1) (not_le.mpr (EReal.bot_lt_coe _))
  lift y to ℝ using ⟨ht, hb⟩
  refine (Ideal.mul_one_div ?_).symm
  have he : Ideal.exp (-(y : EReal)) = ((Real.exp (-y) : ℝ) : EReal) := rfl
  rw [he]
  have hp : (0 : ℝ) < 1 + Real.exp (-y) := by have := Real.exp_pos (-y); linarith
  exact_mod_cast ne_of_gt hp

/-- A plain product read at a row and a column. -/
theorem dot_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c) = ∑ k : Fin K, lhs (ix2 r k) * rhs (ix2 k c) := by
  have h := Ideal.matmul_plain_apply (M := M) (K := K) (N := N) prec lhs rhs (fun _ => (0 : EReal)) r c
  rw [Ideal.matmul_apply] at h
  rw [Ideal.dotGeneral_apply]
  simpa only [zero_add] using h

/-- A sum over 4096 as four sums over 1024. -/
theorem sum_quarters (f : Fin 4096 → EReal) :
    ∑ k, f k = ∑ c : Fin 4, ∑ k : Fin 1024, f ⟨c.val * 1024 + k.val, by have := c.isLt; have := k.isLt; omega⟩ := by
  have e := Equiv.sum_comp (finProdFinEquiv : Fin 4 × Fin 1024 ≃ Fin (4 * 1024)) (fun k : Fin (4 * 1024) => f k)
  rw [Fintype.sum_prod_type] at e
  refine e.symm.trans ?_
  refine Finset.sum_congr rfl fun c _ => Finset.sum_congr rfl fun k _ => congrArg f (Fin.ext ?_)
  show k.val + 1024 * c.val = c.val * 1024 + k.val
  omega

end Cert.RingGemm

end
-- ==== Proof.Plain.lean ====
/-
The reference and the precondition read at a row and a column, over the ideal floats.
-/
module

public import proofs.«01_k».proof.Proof.Share
public import proofs.«01_k».proof.Defs
public import proofs.«01_k».proof.Proof.Gen.ReferenceIdeal
public import proofs.«01_k».proof.Proof.Gen.ReferenceIdeal.Run
public import proofs.«01_k».proof.Proof.Gen.Pre_partial_small_KernelIdeal
public import Idealize.ShloMosaic.Lib.Pipeline.Value
public import Idealize.ShloMosaic.Lib.ReduceAll
public import Idealize.ShloMosaic.Lib.Quiescent

@[expose] public section

noncomputable section

namespace Cert.RingGemm

open Idealize.ShloMosaic Idealize.SL.Sem
open Idealize.ShloMosaic.ValueIdx
open scoped BigOperators

/-- The one index of a vector of one element. -/
abbrev z1 : (⟨1, ![1]⟩ : Shape).Idx := Shape.Idx.first (by decide)

theorem one_index (i : (⟨1, ![1]⟩ : Shape).Idx) : i = z1 := by
  funext a
  have ha : a = 0 := Subsingleton.elim _ _
  subst ha
  exact (Fin.subsingleton_one : Subsingleton (Fin 1)).elim _ _

/-- A vector of one element spread over a matrix reads that element everywhere. -/
theorem spread_apply {M N : ℕ} (h1 : (⟨1, ![1]⟩ : Shape).BroadcastsInDim ⟨2, ![1, 1]⟩ ![1])
    (h2 : (⟨2, ![1, 1]⟩ : Shape).BroadcastsInDim ⟨2, ![M, N]⟩ ![0, 1]) (v : (⟨1, ![1]⟩ : Shape).Idx → EReal) (i) :
    broadcastInDim ⟨2, ![M, N]⟩ ![0, 1] h2 (broadcastInDim ⟨2, ![1, 1]⟩ ![1] h1 v) i = v z1 :=
  congrArg v (one_index _)

section Reference

open Cert.ReferenceIdeal Cert.ReferenceIdeal.Gen

/-- The scaled product the reference forms. -/
def refY (x : FVec Ideal S4096x4096 .bf16) (w : FVec Ideal S4096x2048 .bf16) (sx sw : FVec Ideal S1 .f32) : FVec Ideal S4096x2048 .f32 :=
  mulf (Host.dotGeneral dot_S4096x4096_S4096x2048_S4096x2048_1_0_0_1_n_n none (extf .f32 x bitsLt_bf16_f32) (extf .f32 w bitsLt_bf16_f32)) (broadcastInDim S4096x2048 ![0, 1] bcast_S1x1_S4096x2048_0_1 (broadcastInDim S1x1 ![1] bcast_S1_S1x1_1 (mulf sx sw)))

/-- The reference's result from its arguments. -/
def refOut (x : FVec Ideal S4096x4096 .bf16) (w : FVec Ideal S4096x2048 .bf16) (sx sw : FVec Ideal S1 .f32) : FVec Ideal S4096x2048 .f32 :=
  Host.divf (refY x w sx sw) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (refY x w sx sw))))))

theorem refY_apply (x : FVec Ideal S4096x4096 .bf16) (w : FVec Ideal S4096x2048 .bf16) (sx sw : FVec Ideal S1 .f32) (r : Fin 4096) (n : Fin 2048) :
    refY x w sx sw (ix2 r n) = (∑ k : Fin 4096, x (ix2 r k) * w (ix2 k n)) * (sx z1 * sw z1) := by
  unfold refY
  rw [mulf_apply]
  exact congrArg₂ (· * ·) (dot_plain_apply (M := 4096) (K := 4096) (N := 2048) none .single _ _ r n) (spread_apply _ _ (mulf sx sw) _)

theorem refOut_apply (x : FVec Ideal S4096x4096 .bf16) (w : FVec Ideal S4096x2048 .bf16) (sx sw : FVec Ideal S1 .f32) (i : S4096x2048.Idx) :
    refOut x w sx sw i = Ideal.div (refY x w sx sw i) (1 + Ideal.exp (-(min ((60 : ℝ) : EReal) (max ((-60 : ℝ) : EReal) (refY x w sx sw i))))) := by
  rw [← word_60, ← word_neg_60, ← Ideal.ofBits_one_f32]
  rfl

theorem run_reference (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v12) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨h, sem_eq_zero_of_no_sems rfl r.2⟩) (Cert.ReferenceIdeal.Value.run (F := Ideal) m ρ)

theorem frame_reference : Cert.quiescent_ReferenceIdeal := fun m ρ _ =>
  (θ_run Cert.ReferenceIdeal.defs _ _).mono (fun _ h => ⟨fun c => (h.1 c).2, h.2⟩) (run_reference m ρ)

end Reference

section Precondition

open Cert.Pre_partial_small_KernelIdeal Cert.Pre_partial_small_KernelIdeal.Gen

/-- The scaled product the precondition bounds. -/
def preY (x : FVec Ideal S4096x1024 .bf16) (w : FVec Ideal S1024x2048 .bf16) (sx sw : FVec Ideal S1 .f32) : FVec Ideal S4096x2048 .f32 :=
  mulf (Host.dotGeneral dot_S4096x1024_S1024x2048_S4096x2048_1_0_0_1_n_n none (extf .f32 x bitsLt_bf16_f32) (extf .f32 w bitsLt_bf16_f32)) (broadcastInDim S4096x2048 ![0, 1] bcast_S1x1_S4096x2048_0_1 (broadcastInDim S1x1 ![1] bcast_S1_S1x1_1 (mulf sx sw)))

theorem preY_apply (x : FVec Ideal S4096x1024 .bf16) (w : FVec Ideal S1024x2048 .bf16) (sx sw : FVec Ideal S1 .f32) (r : Fin 4096) (n : Fin 2048) :
    preY x w sx sw (ix2 r n) = (∑ k : Fin 1024, x (ix2 r k) * w (ix2 k n)) * (sx z1 * sw z1) := by
  unfold preY
  rw [mulf_apply]
  exact congrArg₂ (· * ·) (dot_plain_apply (M := 4096) (K := 1024) (N := 2048) none .single _ _ r n) (spread_apply _ _ (mulf sx sw) _)

/-- What the precondition says of one device's blocks. -/
theorem small_apply (x : FVec Ideal S4096x1024 .bf16) (w : FVec Ideal S1024x2048 .bf16) (sx sw : FVec Ideal S1 .f32)
    (h : Cert.Pre_partial_small_KernelIdeal.fn (F := Ideal) x w sx sw = fun _ => 1#1) (r : Fin 4096) (n : Fin 2048) :
    max ((∑ k : Fin 1024, x (ix2 r k) * w (ix2 k n)) * (sx z1 * sw z1)) (-((∑ k : Fin 1024, x (ix2 r k) * w (ix2 k n)) * (sx z1 * sw z1)))
      ≤ ((15 : ℝ) : EReal) := by
  haveI : Subsingleton S_.Idx := ⟨fun a b => funext fun i => i.elim0⟩
  have e := Host.reduce_andi_all _ _ _ _ ix0 (congrFun h ix0) (ix2 r n)
  have f : BitVec.ofBool (decide (max (preY x w sx sw (ix2 r n)) (-(preY x w sx sw (ix2 r n))) ≤ Ideal.ofBits .f32 0x41700000#32)) = 1#1 := e
  rw [preY_apply, word_15] at f
  by_contra hn
  rw [decide_eq_false hn] at f
  exact absurd f (by decide)

end Precondition

end Cert.RingGemm

end
-- ==== Proof.Value.lean ====
/-
What the gathered blocks are at the ideal floats: at each row and column, the product of the scaled sum of the four
devices' shares with its logistic function, the same on every device.
-/
module

public import proofs.«01_k».proof.Proof.Launch
public import proofs.«01_k».proof.Proof.Share

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (I : Ins Ideal)

/-- Device `c`'s share of the product at a row and a column. -/
def share (c : Dev nD) (r : Fin 4096) (n : Fin 2048) : EReal := ∑ k : Fin 1024, I.X c (ix2 r k) * I.W c (ix2 k n)

/-- Row `r` of the half `h` of chunk `j`. -/
def row (j : Dev nD) (h : Bool) (r : Fin 512) : Fin 4096 :=
  ⟨1024 * j.val + (if h then 512 else 0) + r.val, by
    have hj : j.val < 4 := j.isLt
    have := r.isLt; split <;> omega⟩

/-- What a sum is turned into: scaled, then multiplied with its logistic function. -/
def gated (y : EReal) : EReal := y * Ideal.logistic y

theorem pay1_apply (x : Vec Ideal S1024x1024 .bf16) (w : Vec Ideal S1024x2048 .bf16) (r : Fin 1024) (n : Fin 2048) :
    (k0_pay1 (F := Ideal) x w) (ix2 r n) = ∑ k : Fin 1024, x (ix2 r k) * w (ix2 k n) := by
  unfold k0_pay1
  simp only [shapeCast_self]
  have h := Ideal.matmul_plain_apply (M := 1024) (K := 1024) (N := 2048) (φ₁ := .bf16) (φ₂ := .bf16) none x w (constant S1024x2048 .f32 0x00000000#32) r n
  have z : (constant (F := Ideal) S1024x2048 .f32 0x00000000#32) (ix2 r n) = (0 : EReal) := Ideal.ofBits_zero_f32
  rw [z, zero_add] at h
  exact h

theorem part_apply (c j : Dev nD) (h : Bool) (r : Fin 512) (n : Fin 2048) : part I c j h (ix2 r n) = share I c (row j h r) n := by
  unfold part half
  have hr := r.isLt
  have e : (hRect h).emb (ix2 r n) = ix2 (⟨(if h then 512 else 0) + r.val, by split <;> omega⟩ : Fin 1024) n := by
    funext a; apply Fin.ext
    rw [Rect.emb_apply]
    match a with
    | ⟨0, _⟩ => cases h <;> simp [hRect, Rect.unit, ix2]
    | ⟨1, _⟩ => cases h <;> simp [hRect, Rect.unit, ix2]
  rw [e, pay1_apply]
  unfold share
  refine Finset.sum_congr rfl fun k _ => congrArg (· * _) ?_
  unfold xChunk
  refine congrArg (I.X c) ?_
  funext a; apply Fin.ext
  rw [Rect.emb_apply]
  match a with
  | ⟨0, _⟩ => simp [xRect, Rect.unit, cOff, ix2, row, Nat.add_assoc]
  | ⟨1, _⟩ => simp [xRect, Rect.unit, cOff, ix2]

/-- The four devices, from any, going back. -/
theorem sum_back (d : Bool) (c : Dev nD) (f : Dev nD → EReal) :
    f c + (f (pv d c) + (f (pv d (pv d c)) + f (pv d (pv d (pv d c))))) = ∑ c', f c' := by
  refine Eq.trans ?_ (Fin.sum_univ_four f).symm
  have key : ∀ a b e g : Fin 4, f a + (f b + (f e + f g)) = f a + f b + f e + f g := fun a b e g => by simp only [add_assoc]
  rw [key]
  fin_cases d <;> fin_cases c
  · show f 0 + f 1 + f 2 + f 3 = _; simp only [add_assoc, add_comm, add_left_comm]
  · show f 1 + f 2 + f 3 + f 0 = _; simp only [add_assoc, add_comm, add_left_comm]
  · show f 2 + f 3 + f 0 + f 1 = _; simp only [add_assoc, add_comm, add_left_comm]
  · show f 3 + f 0 + f 1 + f 2 = _; simp only [add_assoc, add_comm, add_left_comm]
  · show f 0 + f 3 + f 2 + f 1 = _; simp only [add_assoc, add_comm, add_left_comm]
  · show f 1 + f 0 + f 3 + f 2 = _; simp only [add_assoc, add_comm, add_left_comm]
  · show f 2 + f 1 + f 0 + f 3 = _; simp only [add_assoc, add_comm, add_left_comm]
  · show f 3 + f 2 + f 1 + f 0 = _; simp only [add_assoc, add_comm, add_left_comm]

theorem sums_apply (d : Bool) (c : Dev nD) (r : Fin 512) (n : Fin 2048) :
    sums I d 3 c (ix2 r n) = ∑ c', share I c' (row (bk d 3 c) d r) n := by
  unfold sums
  rw [addf_apply]
  unfold sums
  rw [addf_apply]
  unfold sums
  rw [addf_apply]
  unfold sums
  simp only [part_apply, bk_pv]
  exact sum_back d c fun c' => share I c' (row (bk d 3 c) d r) n

theorem fin32_apply (d : Bool) (c : Dev nD) (r : Fin 512) (n : Fin 2048) :
    fin32 I d c (ix2 r n) = gated ((∑ c', share I c' (row (bk d 3 c) d r) n) * scal I c) := by
  rw [← sums_apply]
  rfl

/-- A copy to the result writes the finished block of the device it came from. -/
theorem Ov_apply (d : Bool) (k : ℕ) (c : Dev nD) (i : S512x2048.Idx) : Ov I d k c i = fin32 I d (bk d k c) i := by
  unfold Ov
  split
  · next h => rw [h, bk_zero]
  · rfl

theorem bk_three (d : Bool) (k : Fin 4) (c : Dev nD) : bk d 3 (bk d k.val c) = bk d (k.val + 3) c := by revert d k c; decide +kernel
theorem bk_onto (d : Bool) (c j : Dev nD) : ∃ k : Fin 4, j = bk d (k.val + 3) c := by revert d c j; decide +kernel

theorem res_apply (s : EReal) (hs : ∀ c, scal I c = s) (c j : Dev nD) (d : Bool) (r : Fin 512) (n : Fin 2048) :
    res I c j d (ix2 r n) = gated ((∑ c', share I c' (row j d r) n) * s) := by
  obtain ⟨k, hk⟩ := bk_onto d c j
  rw [hk, res_bk, Ov_apply, fin32_apply, hs, bk_three]

/-- Every device ends with the same array. -/
theorem out_apply (s : EReal) (hs : ∀ c, scal I c = s) (c : Dev nD) (r : Fin 4096) (n : Fin 2048) :
    (outFull (res I c) : Vec Ideal S4096x2048 .f32) (ix2 r n) = gated ((∑ c', share I c' r n) * s) := by
  have hr := r.isLt
  have e : (outFull (res I c) : Vec Ideal S4096x2048 .f32) (ix2 r n)
      = res I c ⟨r.val / 1024, by show _ < 4; omega⟩ (decide (512 ≤ r.val % 1024)) (ix2 ⟨r.val % 512, Nat.mod_lt _ (by decide)⟩ n) := by
    unfold outFull
    refine congrArg (res I c _ _) ?_
    funext a; apply Fin.ext
    match a with
    | ⟨0, _⟩ => rfl
    | ⟨1, _⟩ => rfl
  rw [e, res_apply I s hs]
  have hrow : row ⟨r.val / 1024, by show _ < 4; omega⟩ (decide (512 ≤ r.val % 1024)) ⟨r.val % 512, Nat.mod_lt _ (by decide)⟩ = r := by
    apply Fin.ext
    simp only [row]
    by_cases h : 512 ≤ r.val % 1024
    · simp only [h, decide_true, if_true]; omega
    · simp only [h, decide_false, Bool.false_eq_true, if_false]; omega
  rw [hrow]

end Cert.RingGemm

end
-- ==== Proof.Agree.lean ====
/-
The agreement: from matching arguments, every device of the kernel ends with the array the reference ends with.
-/
module

public import proofs.«01_k».proof.Proof.Value
public import proofs.«01_k».proof.Proof.Plain
public import proofs.«01_k».proof.Proof.Frames

@[expose] public section

noncomputable section

namespace Cert.RingGemm

open Cert.KernelIdeal Cert.KernelIdeal.Gen
open Idealize.ShloMosaic Idealize.SL.Sem
open Idealize.ShloMosaic.ValueIdx
open scoped BigOperators

/-- One device's columns of the left array. -/
theorem columns_apply (c : Fin 4) (x : FVec Ideal ⟨2, ![4096, 4096]⟩ .bf16) (h : Layout.Tiles ⟨2, ![4096, 1024]⟩ ⟨2, ![4096, 4096]⟩ 1 4)
    (r : Fin 4096) (k : Fin 1024) :
    Layout.block ⟨2, ![4096, 1024]⟩ ⟨2, ![4096, 4096]⟩ 1 4 c x h (ix2 r k)
      = x (ix2 r ⟨c.val * 1024 + k.val, by have := c.isLt; have := k.isLt; omega⟩) := by
  rw [Layout.block_apply]
  refine congrArg x (funext fun a => Fin.ext ?_)
  match a with
  | ⟨0, _⟩ => rfl
  | ⟨1, _⟩ => rfl

/-- One device's rows of the right array. -/
theorem rows_apply (c : Fin 4) (w : FVec Ideal ⟨2, ![4096, 2048]⟩ .bf16) (h : Layout.Tiles ⟨2, ![1024, 2048]⟩ ⟨2, ![4096, 2048]⟩ 0 4)
    (k : Fin 1024) (n : Fin 2048) :
    Layout.block ⟨2, ![1024, 2048]⟩ ⟨2, ![4096, 2048]⟩ 0 4 c w h (ix2 k n)
      = w (ix2 ⟨c.val * 1024 + k.val, by have := c.isLt; have := k.isLt; omega⟩ n) := by
  rw [Layout.block_apply]
  refine congrArg w (funext fun a => Fin.ext ?_)
  match a with
  | ⟨0, _⟩ => rfl
  | ⟨1, _⟩ => rfl

section Same

variable (I : Ins Ideal) (x : FVec Ideal ⟨2, ![4096, 4096]⟩ .bf16) (w : FVec Ideal ⟨2, ![4096, 2048]⟩ .bf16)
  (sx sw : FVec Ideal ⟨1, ![1]⟩ .f32)

/-- The four shares add to the whole product. -/
theorem shares_sum (hX : ∀ (c : Fin 4) (r : Fin 4096) (k : Fin 1024), I.X c (ix2 r k) = x (ix2 r ⟨c.val * 1024 + k.val, by have := c.isLt; have := k.isLt; omega⟩))
    (hW : ∀ (c : Fin 4) (k : Fin 1024) (n : Fin 2048), I.W c (ix2 k n) = w (ix2 ⟨c.val * 1024 + k.val, by have := c.isLt; have := k.isLt; omega⟩ n))
    (r : Fin 4096) (n : Fin 2048) :
    ∑ c, share I c r n = ∑ k : Fin 4096, x (ix2 r k) * w (ix2 k n) := by
  rw [sum_quarters fun k => x (ix2 r k) * w (ix2 k n)]
  refine Finset.sum_congr rfl fun c _ => Finset.sum_congr rfl fun k _ => ?_
  rw [hX c r k, hW c k n]

theorem same_value (hX : ∀ (c : Fin 4) (r : Fin 4096) (k : Fin 1024), I.X c (ix2 r k) = x (ix2 r ⟨c.val * 1024 + k.val, by have := c.isLt; have := k.isLt; omega⟩))
    (hW : ∀ (c : Fin 4) (k : Fin 1024) (n : Fin 2048), I.W c (ix2 k n) = w (ix2 ⟨c.val * 1024 + k.val, by have := c.isLt; have := k.isLt; omega⟩ n))
    (hsx : ∀ c, I.sx c = sx) (hsw : ∀ c, I.sw c = sw)
    (small : ∀ c : Fin 4, Cert.Pre_partial_small_KernelIdeal.fn (F := Ideal) (I.X c) (I.W c) (I.sx c) (I.sw c) = fun _ => 1#1)
    (c : Dev nD) : (outFull (res I c) : Vec Ideal S4096x2048 .f32) = refOut x w sx sw := by
  funext i
  obtain ⟨r, n, rfl⟩ : ∃ (r : Fin 4096) (n : Fin 2048), i = ix2 r n := ⟨i 0, i 1, eq_ix2 i⟩
  have hs : ∀ c, scal I c = sx z1 * sw z1 := fun c => by
    show I.sx c i1 * I.sw c i1 = _
    rw [hsx, hsw]
  have b := scaled_bound (fun c => share I c r n) (sx z1 * sw z1) (fun c => by
    have h := small_apply _ _ _ _ (small c) r n
    rw [hsx, hsw] at h
    exact h)
  rw [shares_sum I x w hX hW] at b
  rw [out_apply I (sx z1 * sw z1) hs, refOut_apply, refY_apply, shares_sum I x w hX hW]
  exact (clip_idle _ b.1 b.2).symm

end Same

theorem agreement : Cert.algebraic_KernelIdeal_ReferenceIdeal_pre_partial_small_KernelIdeal := by
  intro m g m' g' hpre hargs
  have hX : ∀ (c : Fin 4) (r : Fin 4096) (k : Fin 1024), (insOf m).X c (ix2 r k) = m' (((0 : Dev Cert.ReferenceIdeal.nD).tc : Thread Cert.ReferenceIdeal.nD Cert.ReferenceIdeal.τ).loc Cert.ReferenceIdeal.main_arg0) (ix2 r ⟨c.val * 1024 + k.val, by have := c.isLt; have := k.isLt; omega⟩) :=
    fun c r k => (congrFun (hargs c).1 (ix2 r k)).trans (columns_apply c _ _ r k)
  have hW : ∀ (c : Fin 4) (k : Fin 1024) (n : Fin 2048), (insOf m).W c (ix2 k n) = m' (((0 : Dev Cert.ReferenceIdeal.nD).tc : Thread Cert.ReferenceIdeal.nD Cert.ReferenceIdeal.τ).loc Cert.ReferenceIdeal.main_arg1) (ix2 ⟨c.val * 1024 + k.val, by have := c.isLt; have := k.isLt; omega⟩ n) :=
    fun c k n => (congrFun (hargs c).2.1 (ix2 k n)).trans (rows_apply c _ _ k n)
  have hsx : ∀ c, (insOf m).sx c = m' (((0 : Dev Cert.ReferenceIdeal.nD).tc : Thread Cert.ReferenceIdeal.nD Cert.ReferenceIdeal.τ).loc Cert.ReferenceIdeal.main_arg2) := fun c => (hargs c).2.2.1
  have hsw : ∀ c, (insOf m).sw c = m' (((0 : Dev Cert.ReferenceIdeal.nD).tc : Thread Cert.ReferenceIdeal.nD Cert.ReferenceIdeal.τ).loc Cert.ReferenceIdeal.main_arg3) := fun c => (hargs c).2.2.2
  refine ⟨_, (θ_run Cert.KernelIdeal.defs _ _).mono (fun r h c => ⟨?_, args_kept m g h.1 c⟩) (run_main (F := Ideal) m g),
    (θ_run Cert.ReferenceIdeal.defs _ _).mono (fun r h => h.1 0) (run_reference m' g')⟩
  exact ((h.1 c).2).trans (same_value (insOf m) _ _ _ _ hX hW hsx hsw hpre c)

end Cert.RingGemm

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_partial_small_KernelIdeal
public import proofs.«01_k».proof.Proof.Gen.Pre_partial_small_ReferenceIdeal
public import proofs.«01_k».proof.Proof.Frames
public import proofs.«01_k».proof.Proof.Plain
public import proofs.«01_k».proof.Proof.Agree

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_partial_small_KernelIdeal.Gen.facts,
    Cert.Pre_partial_small_ReferenceIdeal.Gen.facts,
    Cert.RingGemm.frame_kernel, Cert.RingGemm.frame_ideal, fun m g _ => Cert.RingGemm.frame_ideal m g trivial,
    Cert.RingGemm.frame_reference, fun m g _ => Cert.RingGemm.frame_reference m g trivial, trivial, Cert.RingGemm.agreement⟩

end Cert.Proof

end
